-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_freq_v_in_range [hPre_freq_v_in_range : Cert.Pre_freq_v_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_freq_v_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_freq_v_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_freq_v_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_freq_v_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_freq_v_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_freq_v_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_freq_v_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_freq_v_in_range [hPre_freq_v_in_range : Cert.Pre_freq_v_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_freq_v_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_freq_v_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_freq_v_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_freq_v_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_freq_v_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_freq_v_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_freq_v_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_freq_v_in_range [hKernelIdeal : Cert.KernelIdeal.Facts] [hPre_freq_v_in_range : Cert.Pre_freq_v_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_freq_v_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_freq_v_in_range [hReferenceIdeal : Cert.ReferenceIdeal.Facts] [hPre_freq_v_in_range : Cert.Pre_freq_v_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_freq_v_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "unit_in" .f32 0x39C90FDB#32 (((1 / 8192) * Real.pi : ℝ) : EReal)
  ∧ IdealRules.named_const.Statement Cert.KernelIdeal.κ "unit_out" .f32 0x3AA0D97C#32 (((1 / 2560) * Real.pi : ℝ) : EReal)

def algebraic_KernelIdeal_ReferenceIdeal_pre_freq_v_in_range [hKernelIdeal : Cert.KernelIdeal.Facts] [hReferenceIdeal : Cert.ReferenceIdeal.Facts] [hPre_freq_v_in_range : Cert.Pre_freq_v_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_freq_v_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_freq_v_in_range : Cert.Pre_freq_v_in_range.Facts),
    quiescent_Kernel (hKernel := hKernel)
    ∧ quiescent_KernelIdeal (hKernelIdeal := hKernelIdeal)
    ∧ quiescent_KernelIdeal_pre_freq_v_in_range (hKernelIdeal := hKernelIdeal) (hPre_freq_v_in_range := hPre_freq_v_in_range)
    ∧ quiescent_ReferenceIdeal (hReferenceIdeal := hReferenceIdeal)
    ∧ quiescent_ReferenceIdeal_pre_freq_v_in_range (hReferenceIdeal := hReferenceIdeal) (hPre_freq_v_in_range := hPre_freq_v_in_range)
    ∧ preserves_Kernel_KernelIdeal
    ∧ algebraic_KernelIdeal_ReferenceIdeal_pre_freq_v_in_range (hKernelIdeal := hKernelIdeal) (hReferenceIdeal := hReferenceIdeal) (hPre_freq_v_in_range := hPre_freq_v_in_range)
-- ==== Pre_freq_v_in_range.lean ====
abbrev S2x2048x16384 : Shape := ⟨3, ![2, 2048, 16384]⟩
abbrev S16384x2560 : Shape := ⟨2, ![16384, 2560]⟩
abbrev S128x5120 : Shape := ⟨2, ![128, 5120]⟩
abbrev S5120 : Shape := ⟨1, ![5120]⟩
abbrev S1500 : Shape := ⟨1, ![1500]⟩
abbrev S_ : Shape := ⟨0, ![]⟩

class Facts : Prop where
  bcast_S_S2x2048x16384 : S_.BroadcastsInDim S2x2048x16384 (![] : Fin 0 → Fin S2x2048x16384.rank)
  bcast_S_S16384x2560 : S_.BroadcastsInDim S16384x2560 (![] : Fin 0 → Fin S16384x2560.rank)
  bcast_S_S128x5120 : S_.BroadcastsInDim S128x5120 (![] : Fin 0 → Fin S128x5120.rank)
  bcast_S_S5120 : S_.BroadcastsInDim S5120 (![] : Fin 0 → Fin S5120.rank)
  bcast_S_S1500 : S_.BroadcastsInDim S1500 (![] : Fin 0 → Fin S1500.rank)

variable [Facts]

def fn {F : FTy → Type} [FloatOps F] (main_arg0 : FVec F S2x2048x16384 .bf16) (main_arg1 : IVec S16384x2560 8) (main_arg2 : FVec F S128x5120 .f32) (main_arg3 : FVec F S5120 .f32) (main_arg4 : FVec F S1500 .f32) (main_arg5 : IVec S1500 32) (main_arg6 : IVec S1500 32) : IVec S2x2048x16384 1 × IVec S16384x2560 1 × IVec S128x5120 1 × IVec S5120 1 × IVec S1500 1 × IVec S1500 1 × IVec S1500 1 :=
  let main_c : IVec S_ 1 := constantI S_ 1 1#1
  let main_v0 : IVec S2x2048x16384 1 := broadcastInDim S2x2048x16384 ![] bcast_S_S2x2048x16384 main_c
  let main_c_0 : IVec S_ 1 := constantI S_ 1 1#1
  let main_v1 : IVec S16384x2560 1 := broadcastInDim S16384x2560 ![] bcast_S_S16384x2560 main_c_0
  let main_c_1 : IVec S_ 1 := constantI S_ 1 1#1
  let main_v2 : IVec S128x5120 1 := broadcastInDim S128x5120 ![] bcast_S_S128x5120 main_c_1
  let main_c_2 : IVec S_ 1 := constantI S_ 1 1#1
  let main_v3 : IVec S5120 1 := broadcastInDim S5120 ![] bcast_S_S5120 main_c_2
  let main_c_3 : IVec S_ 1 := constantI S_ 1 1#1
  let main_v4 : IVec S1500 1 := broadcastInDim S1500 ![] bcast_S_S1500 main_c_3
  let main_c_4 : IVec S_ 1 := constantI S_ 1 1#1
  let main_v5 : IVec S1500 1 := broadcastInDim S1500 ![] bcast_S_S1500 main_c_4
  let main_c_5 : IVec S_ 32 := constantI S_ 32 4294547784#32
  let main_v6 : IVec S1500 32 := broadcastInDim S1500 ![] bcast_S_S1500 main_c_5
  let main_v7 : IVec S1500 1 := cmpi .sge main_arg6 main_v6
  let main_c_6 : IVec S_ 32 := constantI S_ 32 419512#32
  let main_v8 : IVec S1500 32 := broadcastInDim S1500 ![] bcast_S_S1500 main_c_6
  let main_v9 : IVec S1500 1 := cmpi .sle main_arg6 main_v8
  let main_v10 : IVec S1500 1 := andi main_v7 main_v9
  (main_v0, main_v1, main_v2, main_v3, main_v4, main_v5, main_v10)
-- ==== Kernel.lean ====
abbrev S2x2048x16384 : Shape := ⟨3, ![2, 2048, 16384]⟩
abbrev S16384x2560 : Shape := ⟨2, ![16384, 2560]⟩
abbrev S128x5120 : Shape := ⟨2, ![128, 5120]⟩
abbrev S5120 : Shape := ⟨1, ![5120]⟩
abbrev S1500 : Shape := ⟨1, ![1500]⟩
abbrev S4096x16384 : Shape := ⟨2, ![4096, 16384]⟩
abbrev S_ : Shape := ⟨0, ![]⟩
abbrev S1536 : Shape := ⟨1, ![1536]⟩
abbrev S1x1536 : Shape := ⟨2, ![1, 1536]⟩
abbrev S1536x1 : Shape := ⟨2, ![1536, 1]⟩
abbrev S3072 : Shape := ⟨1, ![3072]⟩
abbrev S1x3072 : Shape := ⟨2, ![1, 3072]⟩
abbrev S16384x3072 : Shape := ⟨2, ![16384, 3072]⟩
abbrev S512x3072 : Shape := ⟨2, ![512, 3072]⟩
abbrev S128x1536 : Shape := ⟨2, ![128, 1536]⟩
abbrev S1536x5120 : Shape := ⟨2, ![1536, 5120]⟩
abbrev S256x1 : Shape := ⟨2, ![256, 1]⟩
abbrev S256x5120 : Shape := ⟨2, ![256, 5120]⟩
abbrev S256x128 : Shape := ⟨2, ![256, 128]⟩
abbrev S3072x5120 : Shape := ⟨2, ![3072, 5120]⟩
abbrev S4096x3072 : Shape := ⟨2, ![4096, 3072]⟩
abbrev S2048x1024 : Shape := ⟨2, ![2048, 1024]⟩
abbrev S1024x1024 : Shape := ⟨2, ![1024, 1024]⟩
abbrev S1x1024 : Shape := ⟨2, ![1, 1024]⟩
abbrev S1x5120 : Shape := ⟨2, ![1, 5120]⟩
abbrev S4096x5120 : Shape := ⟨2, ![4096, 5120]⟩
abbrev S1024x512 : Shape := ⟨2, ![1024, 512]⟩
abbrev S8x1024 : Shape := ⟨2, ![8, 1024]⟩
abbrev S256x512 : Shape := ⟨2, ![256, 512]⟩
abbrev S256x128x1 : Shape := ⟨3, ![256, 128, 1]⟩
abbrev S1024x128 : Shape := ⟨2, ![1024, 128]⟩
abbrev S1x128 : Shape := ⟨2, ![1, 128]⟩
abbrev S128x128 : Shape := ⟨2, ![128, 128]⟩
abbrev S2x2048x5120 : Shape := ⟨3, ![2, 2048, 5120]⟩

abbrev nBuf : Space → Nat
  | .hbm => 34
  | .vmem => 38
  | .smem => 0
  | _ => 0

abbrev bufTy : (tb : Table) → Fin (tcTables nBuf tb) → BufTy
  | .hbm, ⟨0, _⟩ => ⟨S2x2048x16384, .bf16⟩
  | .hbm, ⟨1, _⟩ => ⟨S16384x2560, .i8⟩
  | .hbm, ⟨2, _⟩ => ⟨S128x5120, .f32⟩
  | .hbm, ⟨3, _⟩ => ⟨S5120, .f32⟩
  | .hbm, ⟨4, _⟩ => ⟨S1500, .f32⟩
  | .hbm, ⟨5, _⟩ => ⟨S1500, .i32⟩
  | .hbm, ⟨6, _⟩ => ⟨S1500, .i32⟩
  | .hbm, ⟨7, _⟩ => ⟨S4096x16384, .bf16⟩
  | .hbm, ⟨8, _⟩ => ⟨S_, .i32⟩
  | .hbm, ⟨9, _⟩ => ⟨S_, .i32⟩
  | .hbm, ⟨10, _⟩ => ⟨S1536, .i32⟩
  | .hbm, ⟨11, _⟩ => ⟨S1x1536, .i32⟩
  | .hbm, ⟨12, _⟩ => ⟨S_, .i32⟩
  | .hbm, ⟨13, _⟩ => ⟨S_, .i32⟩
  | .hbm, ⟨14, _⟩ => ⟨S1536, .i32⟩
  | .hbm, ⟨15, _⟩ => ⟨S1536x1, .i32⟩
  | .hbm, ⟨16, _⟩ => ⟨S_, .i32⟩
  | .hbm, ⟨17, _⟩ => ⟨S_, .f32⟩
  | .hbm, ⟨18, _⟩ => ⟨S1536, .f32⟩
  | .hbm, ⟨19, _⟩ => ⟨S_, .f32⟩
  | .hbm, ⟨20, _⟩ => ⟨S1536, .f32⟩
  | .hbm, ⟨21, _⟩ => ⟨S1536, .f32⟩
  | .hbm, ⟨22, _⟩ => ⟨S3072, .f32⟩
  | .hbm, ⟨23, _⟩ => ⟨S1x3072, .f32⟩
  | .hbm, ⟨24, _⟩ => ⟨S16384x3072, .bf16⟩
  | .hbm, ⟨25, _⟩ => ⟨S1536x5120, .bf16⟩
  | .hbm, ⟨26, _⟩ => ⟨S1536x5120, .bf16⟩
  | .hbm, ⟨27, _⟩ => ⟨S3072x5120, .bf16⟩
  | .hbm, ⟨28, _⟩ => ⟨S4096x3072, .bf16⟩
  | .hbm, ⟨29, _⟩ => ⟨S1x5120, .f32⟩
  | .hbm, ⟨30, _⟩ => ⟨S4096x5120, .bf16⟩
  | .hbm, ⟨31, _⟩ => ⟨S4096x5120, .bf16⟩
  | .hbm, ⟨32, _⟩ => ⟨S2x2048x5120, .bf16⟩
  | .hbm, ⟨33, _⟩ => ⟨S2x2048x5120, .bf16⟩
  | .local _ .vmem, ⟨0, _⟩ => ⟨S1x1536, .i32⟩
  | .local _ .vmem, ⟨1, _⟩ => ⟨S512x3072, .bf16⟩
  | .local _ .vmem, ⟨2, _⟩ => ⟨S512x3072, .bf16⟩
  | .local _ .vmem, ⟨3, _⟩ => ⟨S128x1536, .f32⟩
  | .local _ .vmem, ⟨4, _⟩ => ⟨S128x1536, .f32⟩
  | .local _ .vmem, ⟨5, _⟩ => ⟨S256x1, .i32⟩
  | .local _ .vmem, ⟨6, _⟩ => ⟨S256x1, .i32⟩
  | .local _ .vmem, ⟨7, _⟩ => ⟨S256x5120, .bf16⟩
  | .local _ .vmem, ⟨8, _⟩ => ⟨S256x5120, .bf16⟩
  | .local _ .vmem, ⟨9, _⟩ => ⟨S256x5120, .bf16⟩
  | .local _ .vmem, ⟨10, _⟩ => ⟨S256x5120, .bf16⟩
  | .local _ .vmem, ⟨11, _⟩ => ⟨S2048x1024, .bf16⟩
  | .local _ .vmem, ⟨12, _⟩ => ⟨S2048x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1x1024, .f32⟩
  | .local _ .vmem, ⟨16, _⟩ => ⟨S1x1024, .f32⟩
  | .local _ .vmem, ⟨17, _⟩ => ⟨S2048x1024, .bf16⟩
  | .local _ .vmem, ⟨18, _⟩ => ⟨S2048x1024, .bf16⟩
  | .local _ .vmem, ⟨19, _⟩ => ⟨S2048x1024, .f32⟩
  | .local _ .vmem, ⟨20, _⟩ => ⟨S2048x1024, .bf16⟩
  | .local _ .vmem, ⟨21, _⟩ => ⟨S2048x1024, .bf16⟩
  | .local _ .vmem, ⟨22, _⟩ => ⟨S1024x512, .i8⟩
  | .local _ .vmem, ⟨23, _⟩ => ⟨S1024x512, .i8⟩
  | .local _ .vmem, ⟨24, _⟩ => ⟨S8x1024, .f32⟩
  | .local _ .vmem, ⟨25, _⟩ => ⟨S8x1024, .f32⟩
  | .local _ .vmem, ⟨26, _⟩ => ⟨S2048x1024, .bf16⟩
  | .local _ .vmem, ⟨27, _⟩ => ⟨S2048x1024, .bf16⟩
  | .local _ .vmem, ⟨28, _⟩ => ⟨S1024x1024, .bf16⟩
  | .local _ .vmem, ⟨29, _⟩ => ⟨S1024x1024, .bf16⟩
  | .local _ .vmem, ⟨30, _⟩ => ⟨S1x1024, .f32⟩
  | .local _ .vmem, ⟨31, _⟩ => ⟨S1x1024, .f32⟩
  | .local _ .vmem, ⟨32, _⟩ => ⟨S2048x1024, .bf16⟩
  | .local _ .vmem, ⟨33, _⟩ => ⟨S2048x1024, .bf16⟩
  | .local _ .vmem, ⟨34, _⟩ => ⟨S2048x1024, .bf16⟩
  | .local _ .vmem, ⟨35, _⟩ => ⟨S2048x1024, .bf16⟩
  | .local _ .vmem, ⟨36, _⟩ => ⟨S2048x1024, .f32⟩
  | .local _ .vmem, ⟨37, _⟩ => ⟨S1024x1024, .bf16⟩
  | _, _ => ⟨S2x2048x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_call1_v0 : Ref sig .tc := ⟨.hbm, 13, rfl⟩
abbrev main_v3 : Ref sig .tc := ⟨.hbm, 14, rfl⟩
abbrev main_v4 : Ref sig .tc := ⟨.hbm, 15, rfl⟩
abbrev main_c_1 : Ref sig .tc := ⟨.hbm, 16, rfl⟩
abbrev main_call2_v0 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11_0 : Ref sig .tc := ⟨.hbm, 25, rfl⟩
abbrev main_v11_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15_0 : Ref sig .tc := ⟨.hbm, 30, rfl⟩
abbrev main_v15_1 : Ref sig .tc := ⟨.hbm, 31, rfl⟩
abbrev main_v16 : Ref sig .tc := ⟨.hbm, 32, rfl⟩
abbrev main_v17 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_scratch0 : Ref sig .tc := ⟨.vmem, 3, rfl⟩
abbrev cc0_scratch1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc2_scratch0 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc3_stg4_0 : Ref sig .tc := ⟨.vmem, 28, rfl⟩
abbrev cc3_stg4_1 : Ref sig .tc := ⟨.vmem, 29, rfl⟩
abbrev cc3_stg5_0 : Ref sig .tc := ⟨.vmem, 30, rfl⟩
abbrev cc3_stg5_1 : Ref sig .tc := ⟨.vmem, 31, rfl⟩
abbrev cc3_stg6_0 : Ref sig .tc := ⟨.vmem, 32, rfl⟩
abbrev cc3_stg6_1 : Ref sig .tc := ⟨.vmem, 33, rfl⟩
abbrev cc3_stg7_0 : Ref sig .tc := ⟨.vmem, 34, rfl⟩
abbrev cc3_stg7_1 : Ref sig .tc := ⟨.vmem, 35, rfl⟩
abbrev cc3_scratch0 : Ref sig .tc := ⟨.vmem, 36, rfl⟩
abbrev cc3_scratch1 : Ref sig .tc := ⟨.vmem, 37, rfl⟩
abbrev cc0_sem0_0 : DmaSem sig := 0
abbrev cc0_sem1_0 : DmaSem sig := 1
abbrev cc0_sem1_1 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc2_sem0_0 : DmaSem sig := 9
abbrev cc2_sem0_1 : DmaSem sig := 10
abbrev cc2_sem1_0 : DmaSem sig := 11
abbrev cc2_sem1_1 : DmaSem sig := 12
abbrev cc2_sem2_0 : DmaSem sig := 13
abbrev cc2_sem2_1 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc3_sem3_0 : DmaSem sig := 23
abbrev cc3_sem3_1 : DmaSem sig := 24
abbrev cc3_sem4_0 : DmaSem sig := 25
abbrev cc3_sem4_1 : DmaSem sig := 26
abbrev cc3_sem5_0 : DmaSem sig := 27
abbrev cc3_sem5_1 : DmaSem sig := 28
abbrev cc3_sem6_0 : DmaSem sig := 29
abbrev cc3_sem6_1 : DmaSem sig := 30
abbrev cc3_sem7_0 : DmaSem sig := 31
abbrev cc3_sem7_1 : DmaSem sig := 32

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1536 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![6], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x5120 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x5120 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨3, ![2, 3, 16], ![false, false, false]⟩

def k2_cond2 (i : grid2.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, false]

abbrev stage2_3 : Fin 2 → Memref sig .tc .vmem S2048x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![2, 5, 19], ![false, false, false]⟩

def k3_cond5 (i : grid3.Coords) : BitVec 1 :=
  let arg2 : BitVec 32 := BitVec.ofNat 32 (i 2).val
  let c18_i32 : BitVec 32 := 18#32
  let v12 : BitVec 1 := Scalar.cmpi .eq arg2 c18_i32
  let v13 : BitVec 32 := Scalar.extui v12
  let c0_i32_5 : BitVec 32 := 0#32
  let v14 : BitVec 1 := Scalar.cmpi .ne v13 c0_i32_5
  v14

def k3_cond3 (i : grid3.Coords) : BitVec 1 :=
  let arg2 : BitVec 32 := BitVec.ofNat 32 (i 2).val
  let c2_i32 : BitVec 32 := 2#32
  let v6 : BitVec 1 := Scalar.cmpi .eq arg2 c2_i32
  let v7 : BitVec 32 := Scalar.extui v6
  let c0_i32_2 : BitVec 32 := 0#32
  let v8 : BitVec 1 := Scalar.cmpi .ne v7 c0_i32_2
  v8

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.subi arg2 c3_i32
  let c0_i32 : BitVec 32 := 0#32
  let v1 : BitVec 32 := Scalar.maxsi v0 c0_i32
  let c0_i32_0 : BitVec 32 := 0#32
  ![arg0.toNat, v1.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.subi arg2 c3_i32
  let c0_i32 : BitVec 32 := 0#32
  let v1 : BitVec 32 := Scalar.maxsi v0 c0_i32
  let c0_i32_0 : BitVec 32 := 0#32
  ![v1.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.subi arg2 c3_i32
  let c0_i32 : BitVec 32 := 0#32
  let v1 : BitVec 32 := Scalar.maxsi v0 c0_i32
  let c0_i32_0 : BitVec 32 := 0#32
  ![v1.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.minsi arg2 c2_i32
  let c0_i32 : BitVec 32 := 0#32
  ![arg0.toNat, v0.toNat]

def cc3_transform_4 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.minsi arg2 c2_i32
  let c0_i32 : BitVec 32 := 0#32
  ![v0.toNat, arg1.toNat]

def cc3_transform_5 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc3_transform_6 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_7 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S2048x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x512 .i8 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S8x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true, true]

abbrev stage3_3 : Fin 2 → Memref sig .tc .vmem S2048x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false, true]

abbrev stage3_4 : Fin 2 → Memref sig .tc .vmem S1024x1024 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![false, true, true]

abbrev stage3_5 : Fin 2 → Memref sig .tc .vmem S1x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![false, true, false]

abbrev stage3_6 : Fin 2 → Memref sig .tc .vmem S2048x1024 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true, false]

abbrev stage3_7 : Fin 2 → Memref sig .tc .vmem S2048x1024 .bf16 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true, false]
-- ==== KernelIdeal.lean ====
variable {F : FTy → Type} [FloatOps F] [Named F]
def κ : String → Option EReal := fun
  | "unit_in" => some (((1 / 8192) * Real.pi : ℝ) : EReal)
  | "unit_out" => some (((1 / 2560) * Real.pi : ℝ) : EReal)
  | _ => none
-- ==== ReferenceIdeal.lean ====
abbrev S2x2048x16384 : Shape := ⟨3, ![2, 2048, 16384]⟩
abbrev S16384x2560 : Shape := ⟨2, ![16384, 2560]⟩
abbrev S128x5120 : Shape := ⟨2, ![128, 5120]⟩
abbrev S5120 : Shape := ⟨1, ![5120]⟩
abbrev S1500 : Shape := ⟨1, ![1500]⟩
abbrev S_ : Shape := ⟨0, ![]⟩
abbrev S128x2560 : Shape := ⟨2, ![128, 2560]⟩
abbrev S128x128x2560 : Shape := ⟨3, ![128, 128, 2560]⟩
abbrev S128x1x2560 : Shape := ⟨3, ![128, 1, 2560]⟩
abbrev S2x2048x2560 : Shape := ⟨3, ![2, 2048, 2560]⟩
abbrev S2x2048x2560x1 : Shape := ⟨4, ![2, 2048, 2560, 1]⟩
abbrev S2x2048x2560x2 : Shape := ⟨4, ![2, 2048, 2560, 2]⟩
abbrev S2x2048x5120 : Shape := ⟨3, ![2, 2048, 5120]⟩
abbrev S16384 : Shape := ⟨1, ![16384]⟩
abbrev S16384x1 : Shape := ⟨2, ![16384, 1]⟩
abbrev S1x1500 : Shape := ⟨2, ![1, 1500]⟩
abbrev S16384x1500 : Shape := ⟨2, ![16384, 1500]⟩
abbrev S16384x1x1500 : Shape := ⟨3, ![16384, 1, 1500]⟩
abbrev S16384x2x1500 : Shape := ⟨3, ![16384, 2, 1500]⟩
abbrev S5120x1 : Shape := ⟨2, ![5120, 1]⟩
abbrev S5120x1500 : Shape := ⟨2, ![5120, 1500]⟩
abbrev S5120x1x1500 : Shape := ⟨3, ![5120, 1, 1500]⟩
abbrev S5120x2x1500 : Shape := ⟨3, ![5120, 2, 1500]⟩
abbrev S2x2048x2x1500 : Shape := ⟨4, ![2, 2048, 2, 1500]⟩
abbrev S1x1x1x1500 : Shape := ⟨4, ![1, 1, 1, 1500]⟩
abbrev S1x1x5120 : Shape := ⟨3, ![1, 1, 5120]⟩

abbrev nBuf : Space → Nat
  | .hbm => 148
  | .vmem => 0
  | .smem => 0
  | _ => 0

abbrev hbmTy0_0 (i : Nat) : BufTy := match i % 128 with
  | 0 => ⟨S2x2048x16384, .bf16⟩
  | 1 => ⟨S16384x2560, .i8⟩
  | 2 => ⟨S128x5120, .f32⟩
  | 3 => ⟨S5120, .f32⟩
  | 4 => ⟨S1500, .f32⟩
  | 5 => ⟨S1500, .i32⟩
  | 6 => ⟨S1500, .i32⟩
  | 7 => ⟨S16384x2560, .i32⟩
  | 8 => ⟨S_, .i32⟩
  | 9 => ⟨S16384x2560, .i32⟩
  | 10 => ⟨S16384x2560, .i32⟩
  | 11 => ⟨S_, .i32⟩
  | 12 => ⟨S16384x2560, .i32⟩
  | 13 => ⟨S16384x2560, .i1⟩
  | 14 => ⟨S_, .i32⟩
  | 15 => ⟨S16384x2560, .i32⟩
  | 16 => ⟨S16384x2560, .i32⟩
  | 17 => ⟨S16384x2560, .i32⟩
  | 18 => ⟨S_, .i32⟩
  | 19 => ⟨S16384x2560, .i32⟩
  | 20 => ⟨S16384x2560, .i32⟩
  | 21 => ⟨S_, .i32⟩
  | 22 => ⟨S16384x2560, .i32⟩
  | 23 => ⟨S16384x2560, .i1⟩
  | 24 => ⟨S_, .i32⟩
  | 25 => ⟨S16384x2560, .i32⟩
  | 26 => ⟨S16384x2560, .i32⟩
  | 27 => ⟨S16384x2560, .i32⟩
  | 28 => ⟨S128x2560, .f32⟩
  | 29 => ⟨S16384x2560, .bf16⟩
  | 30 => ⟨S128x128x2560, .bf16⟩
  | 31 => ⟨S128x2560, .bf16⟩
  | 32 => ⟨S128x1x2560, .bf16⟩
  | 33 => ⟨S128x128x2560, .bf16⟩
  | 34 => ⟨S128x128x2560, .bf16⟩
  | 35 => ⟨S16384x2560, .bf16⟩
  | 36 => ⟨S128x2560, .f32⟩
  | 37 => ⟨S16384x2560, .bf16⟩
  | 38 => ⟨S128x128x2560, .bf16⟩
  | 39 => ⟨S128x2560, .bf16⟩
  | 40 => ⟨S128x1x2560, .bf16⟩
  | 41 => ⟨S128x128x2560, .bf16⟩
  | 42 => ⟨S128x128x2560, .bf16⟩
  | 43 => ⟨S16384x2560, .bf16⟩
  | 44 => ⟨S2x2048x2560, .f32⟩
  | 45 => ⟨S2x2048x2560, .f32⟩
  | 46 => ⟨S2x2048x2560x1, .f32⟩
  | 47 => ⟨S2x2048x2560x1, .f32⟩
  | 48 => ⟨S2x2048x2560x2, .f32⟩
  | 49 => ⟨S2x2048x5120, .f32⟩
  | 50 => ⟨S_, .f32⟩
  | 51 => ⟨S_, .f32⟩
  | 52 => ⟨S_, .f32⟩
  | 53 => ⟨S_, .f32⟩
  | 54 => ⟨S16384, .i32⟩
  | 55 => ⟨S16384x1, .i32⟩
  | 56 => ⟨S1x1500, .i32⟩
  | 57 => ⟨S16384x1500, .i32⟩
  | 58 => ⟨S16384x1500, .i32⟩
  | 59 => ⟨S16384x1500, .i32⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S16384x1500, .i32⟩
  | 67 => ⟨S16384x1500, .i32⟩
  | 68 => ⟨S_, .i32⟩
  | 69 => ⟨S16384x1500, .i32⟩
  | 70 => ⟨S16384x1500, .i1⟩
  | 71 => ⟨S_, .i32⟩
  | 72 => ⟨S16384x1500, .i32⟩
  | 73 => ⟨S16384x1500, .i1⟩
  | 74 => ⟨S_, .i32⟩
  | 75 => ⟨S_, .i1⟩
  | 76 => ⟨S16384x1500, .i1⟩
  | 77 => ⟨S16384x1500, .i1⟩
  | 78 => ⟨S16384x1500, .i1⟩
  | 79 => ⟨S16384x1500, .i32⟩
  | 80 => ⟨S16384x1500, .i32⟩
  | 81 => ⟨S16384x1500, .i32⟩
  | 82 => ⟨S16384x1500, .f32⟩
  | 83 => ⟨S_, .f32⟩
  | 84 => ⟨S_, .f32⟩
  | 85 => ⟨S16384x1500, .f32⟩
  | 86 => ⟨S16384x1500, .f32⟩
  | 87 => ⟨S16384x1500, .f32⟩
  | 88 => ⟨S16384x1500, .f32⟩
  | 89 => ⟨S16384x1x1500, .f32⟩
  | 90 => ⟨S16384x1x1500, .f32⟩
  | 91 => ⟨S16384x2x1500, .f32⟩
  | 92 => ⟨S16384x2x1500, .bf16⟩
  | 93 => ⟨S5120, .i32⟩
  | 94 => ⟨S5120x1, .i32⟩
  | 95 => ⟨S1x1500, .i32⟩
  | 96 => ⟨S5120x1500, .i32⟩
  | 97 => ⟨S5120x1500, .i32⟩
  | 98 => ⟨S5120x1500, .i32⟩
  | 99 => ⟨S_, .i32⟩
  | 100 => ⟨S_, .i32⟩
  | 101 => ⟨S_, .i32⟩
  | 102 => ⟨S_, .i1⟩
  | 103 => ⟨S_, .i32⟩
  | 104 => ⟨S_, .i32⟩
  | 105 => ⟨S5120x1500, .i32⟩
  | 106 => ⟨S5120x1500, .i32⟩
  | 107 => ⟨S_, .i32⟩
  | 108 => ⟨S5120x1500, .i32⟩
  | 109 => ⟨S5120x1500, .i1⟩
  | 110 => ⟨S_, .i32⟩
  | 111 => ⟨S5120x1500, .i32⟩
  | 112 => ⟨S5120x1500, .i1⟩
  | 113 => ⟨S_, .i32⟩
  | 114 => ⟨S_, .i1⟩
  | 115 => ⟨S5120x1500, .i1⟩
  | 116 => ⟨S5120x1500, .i1⟩
  | 117 => ⟨S5120x1500, .i1⟩
  | 118 => ⟨S5120x1500, .i32⟩
  | 119 => ⟨S5120x1500, .i32⟩
  | 120 => ⟨S5120x1500, .i32⟩
  | 121 => ⟨S5120x1500, .f32⟩
  | 122 => ⟨S_, .f32⟩
  | 123 => ⟨S_, .f32⟩
  | 124 => ⟨S5120x1500, .f32⟩
  | 125 => ⟨S5120x1500, .f32⟩
  | 126 => ⟨S5120x1500, .f32⟩
  | 127 => ⟨S5120x1500, .f32⟩
  | _ => ⟨S2x2048x16384, .bf16⟩

abbrev hbmTy0_1 (i : Nat) : BufTy := match i % 128 with
  | 0 => ⟨S5120x1500, .f32⟩
  | 1 => ⟨S5120x1x1500, .f32⟩
  | 2 => ⟨S5120x1x1500, .f32⟩
  | 3 => ⟨S5120x2x1500, .f32⟩
  | 4 => ⟨S5120x2x1500, .bf16⟩
  | 5 => ⟨S2x2048x2x1500, .f32⟩
  | 6 => ⟨S_, .f32⟩
  | 7 => ⟨S1500, .f32⟩
  | 8 => ⟨S1500, .f32⟩
  | 9 => ⟨S1x1x1x1500, .f32⟩
  | 10 => ⟨S2x2048x2x1500, .f32⟩
  | 11 => ⟨S2x2048x2x1500, .f32⟩
  | 12 => ⟨S2x2048x2x1500, .bf16⟩
  | 13 => ⟨S2x2048x5120, .f32⟩
  | 14 => ⟨S2x2048x5120, .f32⟩
  | 15 => ⟨S1x1x5120, .f32⟩
  | 16 => ⟨S2x2048x5120, .f32⟩
  | 17 => ⟨S2x2048x5120, .f32⟩
  | 18 => ⟨S2x2048x5120, .bf16⟩
  | 19 => ⟨S2x2048x5120, .bf16⟩
  | _ => ⟨S2x2048x16384, .bf16⟩

abbrev hbmTy (i : Nat) : BufTy := match i / 128 with
  | 0 => hbmTy0_0 i
  | 1 => hbmTy0_1 i
  | _ => ⟨S2x2048x16384, .bf16⟩

abbrev bufTy : (tb : Table) → Fin (tcTables nBuf tb) → BufTy
  | .hbm, ⟨i, _⟩ => hbmTy i
  | _, _ => ⟨S2x2048x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_2 : Ref sig .tc := ⟨.hbm, 18, rfl⟩
abbrev main_v8 : Ref sig .tc := ⟨.hbm, 19, rfl⟩
abbrev main_v9 : Ref sig .tc := ⟨.hbm, 20, rfl⟩
abbrev main_c_3 : Ref sig .tc := ⟨.hbm, 21, rfl⟩
abbrev main_v10 : Ref sig .tc := ⟨.hbm, 22, rfl⟩
abbrev main_v11 : Ref sig .tc := ⟨.hbm, 23, rfl⟩
abbrev main_c_4 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c_6 : Ref sig .tc := ⟨.hbm, 60, rfl⟩
abbrev main_call2_v0 : Ref sig .tc := ⟨.hbm, 61, rfl⟩
abbrev main_call2_c : Ref sig .tc := ⟨.hbm, 62, rfl⟩
abbrev main_call2_v1 : Ref sig .tc := ⟨.hbm, 63, rfl⟩
abbrev main_call2_c_0 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_c_1 : Ref sig .tc := ⟨.hbm, 68, rfl⟩
abbrev main_call2_v5 : Ref sig .tc := ⟨.hbm, 69, rfl⟩
abbrev main_call2_v6 : Ref sig .tc := ⟨.hbm, 70, rfl⟩
abbrev main_call2_c_2 : Ref sig .tc := ⟨.hbm, 71, rfl⟩
abbrev main_call2_v7 : Ref sig .tc := ⟨.hbm, 72, rfl⟩
abbrev main_call2_v8 : Ref sig .tc := ⟨.hbm, 73, rfl⟩
abbrev main_call2_c_3 : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_v12 : Ref sig .tc := ⟨.hbm, 78, rfl⟩
abbrev main_call2_v13 : Ref sig .tc := ⟨.hbm, 79, rfl⟩
abbrev main_call2_v14 : Ref sig .tc := ⟨.hbm, 80, rfl⟩
abbrev main_v45 : Ref sig .tc := ⟨.hbm, 81, rfl⟩
abbrev main_v46 : Ref sig .tc := ⟨.hbm, 82, rfl⟩
abbrev main_cst_7 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_c_8 : Ref sig .tc := ⟨.hbm, 99, rfl⟩
abbrev main_call3_v0 : Ref sig .tc := ⟨.hbm, 100, rfl⟩
abbrev main_call3_c : Ref sig .tc := ⟨.hbm, 101, rfl⟩
abbrev main_call3_v1 : Ref sig .tc := ⟨.hbm, 102, rfl⟩
abbrev main_call3_c_0 : Ref sig .tc := ⟨.hbm, 103, rfl⟩
abbrev main_call3_v2 : Ref sig .tc := ⟨.hbm, 104, rfl⟩
abbrev main_call3_v3 : Ref sig .tc := ⟨.hbm, 105, rfl⟩
abbrev main_call3_v4 : Ref sig .tc := ⟨.hbm, 106, rfl⟩
abbrev main_call3_c_1 : Ref sig .tc := ⟨.hbm, 107, rfl⟩
abbrev main_call3_v5 : Ref sig .tc := ⟨.hbm, 108, rfl⟩
abbrev main_call3_v6 : Ref sig .tc := ⟨.hbm, 109, rfl⟩
abbrev main_call3_c_2 : Ref sig .tc := ⟨.hbm, 110, rfl⟩
abbrev main_call3_v7 : Ref sig .tc := ⟨.hbm, 111, rfl⟩
abbrev main_call3_v8 : Ref sig .tc := ⟨.hbm, 112, rfl⟩
abbrev main_call3_c_3 : Ref sig .tc := ⟨.hbm, 113, rfl⟩
abbrev main_call3_v9 : Ref sig .tc := ⟨.hbm, 114, rfl⟩
abbrev main_call3_v10 : Ref sig .tc := ⟨.hbm, 115, rfl⟩
abbrev main_call3_v11 : Ref sig .tc := ⟨.hbm, 116, rfl⟩
abbrev main_call3_v12 : Ref sig .tc := ⟨.hbm, 117, rfl⟩
abbrev main_call3_v13 : Ref sig .tc := ⟨.hbm, 118, rfl⟩
abbrev main_call3_v14 : Ref sig .tc := ⟨.hbm, 119, rfl⟩
abbrev main_v62 : Ref sig .tc := ⟨.hbm, 120, rfl⟩
abbrev main_v63 : Ref sig .tc := ⟨.hbm, 121, rfl⟩
abbrev main_cst_9 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_cst_10 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩

abbrev nD : Nat := 1
abbrev τ : Topo := Topo.v7x

variable {F : FTy → Type} [FloatOps F]
-- ==== Proof.Base.lean ====
/- Whole-buffer loads and stores, read back as plain values. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The offset of a whole two-axis buffer is zero. -/
theorem off00 : (![0, 0] : Fin 2 → Nat) = fun _ => 0 := by funext a; fin_cases a <;> rfl

section Whole
variable {Val : EltTy → Type} {sg : RefSig} {κ : Kind} {sp : Space} {S : Shape} {e : EltTy}

/-- After a store of the whole buffer it holds what was stored. -/
theorem read_last [∀ e, Nonempty (Val e)] (v : View sg κ sp S e) {off : Fin S.rank → Nat} (h : off = fun _ => 0)
    (inb : ∀ a, off a + S.size a ≤ S.size a) (w : S.Idx → Val e) (L : List (View.Piece Val S e)) (f : v.ty.Contents Val) :
    v.read Val (v.writes Val f ((⟨Rect.unit off S.size inb, w⟩ : View.Piece Val S e) :: L)) = w := by
  rw [View.read_writes_eq_canon v f _ fun y => ⟨⟨Rect.unit off S.size inb, w⟩, List.mem_cons_self, View.mem_set_unit_zero h inb y⟩]
  exact View.canon_cons_unit_zero h inb w L

/-- A load of the whole buffer after a store of the whole buffer reads what was stored. -/
theorem readCov_last [∀ e, Nonempty (Val e)] (v : View sg κ sp S e) {off : Fin S.rank → Nat}
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w :=
  View.readCov_cons_toLoadRect v (Rect.unit off S.size inb) w L

/-- A load of the whole buffer reads its contents. -/
theorem readAt_whole (v : View sg κ sp S e) {off : Fin S.rank → Nat} (h : off = fun _ => 0)
    (inb : ∀ a, off a + S.size a ≤ S.size a) (f : v.ty.Contents Val) (x : S.Idx → Val e) (hf : v.read Val f = x) :
    v.readAt Val (Rect.unit off S.size inb).toLoadRect f = x :=
  (View.ld_unit_zero h inb _).trans hf

end Whole

end Cert.KernelIdeal.Gen

end
-- ==== Proof.PBody.lean ====
/- One grid point of the row factor (`trig_p`), as a function of what its buffers hold. -/
module

public import proofs.«01_k».proof.Proof.Base

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The point is the first: the scratch is filled. -/
abbrev pFirst (i : grid0.Coords) : Prop := (Scalar.cmpi .ne (Scalar.extui (Scalar.cmpi .eq (BitVec.ofNat 32 (i 0).val) 0#32)) 0#32) = 1#1

/-- The row block `a` of the point starts at this row. -/
def pBase (i : grid0.Coords) (a : ℕ) : BitVec 32 :=
  Scalar.muli (Scalar.addi (Scalar.muli (BitVec.ofNat 32 (i 0).val) 4#32) (BitVec.ofNat 32 a)) 128#32

/-- The angle of a row block's first row. -/
def pAng (b : BitVec 32) (v0 : Vec F S1x1536 .i32) : FVec F S1x1536 .f32 :=
  have v9 : IVec S1x1536 32 := muli (k0_pay6 v0) (broadcast S1x1536 b)
  have v11 : IVec S1x1536 32 := andi v9 (broadcast S1x1536 16383#32)
  have v16 : IVec S1x1536 32 := select (cmpi .sge v11 (broadcast S1x1536 8192#32)) (subi v11 (broadcast S1x1536 16384#32)) v11
  mulf (sitofp .f32 v16) (broadcast S1x1536 (Named.named κ "unit_in" 0x39C90FDB#32))

/-- The cosines of a row block, -/
def pCos (b : BitVec 32) (v0 : Vec F S1x1536 .i32) (cb sb : Vec F S128x1536 .f32) : FVec F S128x1536 .bf16 :=
  truncf .bf16 (subf (mulf (broadcastTo S128x1536 (cos (pAng b v0)) broadcasts_S1x1536_S128x1536) cb)
    (mulf (broadcastTo S128x1536 (sin (pAng b v0)) broadcasts_S1x1536_S128x1536) sb)) bitsLt_bf16_f32
/-- and its sines. -/
def pSin (b : BitVec 32) (v0 : Vec F S1x1536 .i32) (cb sb : Vec F S128x1536 .f32) : FVec F S128x1536 .bf16 :=
  truncf .bf16 (addf (mulf (broadcastTo S128x1536 (sin (pAng b v0)) broadcasts_S1x1536_S128x1536) cb)
    (mulf (broadcastTo S128x1536 (cos (pAng b v0)) broadcasts_S1x1536_S128x1536) sb)) bitsLt_bf16_f32

/-- The stores of the output block, the last first. -/
def pPieces (i : grid0.Coords) (v0 : Vec F S1x1536 .i32) (cb sb : Vec F S128x1536 .f32) : List (View.Piece (Elt F) S512x3072 .bf16) :=
  [ ⟨Rect.unit ![384, 1536] S128x1536.size inb_S512x3072_S128x1536_384_1536, pSin (pBase i 3) v0 cb sb⟩,
    ⟨Rect.unit ![384, 0] S128x1536.size inb_S512x3072_S128x1536_384_0, pCos (pBase i 3) v0 cb sb⟩,
    ⟨Rect.unit ![256, 1536] S128x1536.size inb_S512x3072_S128x1536_256_1536, pSin (pBase i 2) v0 cb sb⟩,
    ⟨Rect.unit ![256, 0] S128x1536.size inb_S512x3072_S128x1536_256_0, pCos (pBase i 2) v0 cb sb⟩,
    ⟨Rect.unit ![128, 1536] S128x1536.size inb_S512x3072_S128x1536_128_1536, pSin (pBase i 1) v0 cb sb⟩,
    ⟨Rect.unit ![128, 0] S128x1536.size inb_S512x3072_S128x1536_128_0, pCos (pBase i 1) v0 cb sb⟩,
    ⟨Rect.unit ![0, 1536] S128x1536.size inb_S512x3072_S128x1536_0_1536, pSin (pBase i 0) v0 cb sb⟩,
    ⟨Rect.unit ![0, 0] S128x1536.size inb_S512x3072_S128x1536_0_0, pCos (pBase i 0) v0 cb sb⟩ ]

theorem pPieces_cover (i : grid0.Coords) (v0 : Vec F S1x1536 .i32) (cb sb : Vec F S128x1536 .f32) (y : S512x3072.Idx) :
    ∃ p ∈ pPieces i v0 cb sb, y ∈ p.1.set :=
  View.cover_of_tiledL (pPieces i v0 cb sb) S128x1536.size (by sl_kernel_rfl) y

/-- The scratch after a point. -/
def pCb (i : grid0.Coords) (v0 : Vec F S1x1536 .i32) (cb : Vec F S128x1536 .f32) : Vec F S128x1536 .f32 := if pFirst i then k0_pay8 v0 else cb
def pSb (i : grid0.Coords) (v0 : Vec F S1x1536 .i32) (sb : Vec F S128x1536 .f32) : Vec F S128x1536 .f32 := if pFirst i then k0_pay9 v0 else sb

set_option maxHeartbeats 2000000 in
theorem p_body (c : Dev nD) (i : grid0.Coords) (arg1 : Memref sig .tc .vmem S1x1536 .i32) (harg1 : arg1.IsWhole) (arg2 : Memref sig .tc .vmem S512x3072 .bf16) (harg2 : arg2.IsWhole) (arg3 : Memref sig .tc .vmem S128x1536 .f32) (harg3 : arg3.IsWhole) (arg4 : Memref sig .tc .vmem S128x1536 .f32) (harg4 : arg4.IsWhole)
    (v0 : Vec F S1x1536 .i32) (o : Vec F S512x3072 .bf16) (cb sb : Vec F S128x1536 .f32)
    (E : Set ℕ) (K : PUnit → sProp 𝕄) :
    iprop(owns (c : Thread nD τ) arg1 fullShare v0 ∗ owns (c : Thread nD τ) arg2 fullShare o ∗ owns (c : Thread nD τ) arg3 fullShare cb ∗ owns (c : Thread nD τ) arg4 fullShare sb
      ∗ (iprop(owns (c : Thread nD τ) arg1 fullShare v0 ∗ owns (c : Thread nD τ) arg2 fullShare (View.canon (pPieces i v0 (pCb i v0 cb) (pSb i v0 sb)))
          ∗ owns (c : Thread nD τ) arg3 fullShare (pCb i v0 cb) ∗ owns (c : Thread nD τ) arg4 fullShare (pSb i v0 sb)) -∗ K ⟨⟩))
    ⊢ wp frame (wpE (defs₀ (F := F)) Variants.none c none) E (cc0_trig_p i arg1 harg1 arg2 harg2 arg3 harg3 arg4 harg4) K := by
  have e1 := readAt_whole arg1.view off00 inb_S1x1536_S1x1536_0_0 _ v0 (harg1.read_unread v0)
  have e3 := readAt_whole arg3.view off00 inb_S128x1536_S128x1536_0_0 _ cb (harg3.read_unread cb)
  have e4 := readAt_whole arg4.view off00 inb_S128x1536_S128x1536_0_0 _ sb (harg4.read_unread sb)
  have c3 := readCov_last (Val := Elt F) arg3.view inb_S128x1536_S128x1536_0_0
  have c4 := readCov_last (Val := Elt F) arg4.view inb_S128x1536_S128x1536_0_0
  have r3 := read_last (Val := Elt F) arg3.view off00 inb_S128x1536_S128x1536_0_0
  have r4 := read_last (Val := Elt F) arg4.view off00 inb_S128x1536_S128x1536_0_0
  simp only [cc0_trig_p_eq_skeleton]; unfold cc0_trig_p_skel
  simp only [k0_part1_eq_skeleton, k0_part2_eq_skeleton, k0_part3_eq_skeleton]
  unfold owns
  iintro ⟨⟨%f0, %hf0, H0⟩, ⟨%f1, %hf1, H1⟩, ⟨%f2, %hf2, HS0⟩, ⟨%f3, %hf3, HS1⟩, Hk⟩
  obtain rfl := harg1.eq_unread hf0; obtain rfl := harg2.eq_unread hf1; obtain rfl := harg3.eq_unread hf2; obtain rfl := harg4.eq_unread hf3
  by_cases hc0 : pFirst i
  all_goals
    sl_exec (disch := sl_exact hc0)
    sl_step
    iapply Hk
    isplitl [H0]
    · iexists _; isplitr; · ipureintro; exact harg1.read_unread _
      iexact H0
    isplitl [H1]
    · iexists _; isplitr
      swap; · iexact H1
      ipureintro
      refine Eq.trans ?_ (View.read_writes_eq_canon arg2.view (harg2.unread o) _ (pPieces_cover i v0 (pCb i v0 cb) (pSb i v0 sb)))
      sl_unfold_words
      simp only [c3, c4, e1, e3, e4, pCb, pSb]
      all_goals split_ifs <;> first | rfl | contradiction
    isplitl [HS0]
    · iexists _; isplitr
      swap; · iexact HS0
      ipureintro
      sl_unfold_words
      simp only [r3, c3, e1, e3, hf2, pCb]
      all_goals split_ifs <;> first | rfl | contradiction
    · iexists _; isplitr
      swap; · iexact HS1
      ipureintro
      sl_unfold_words
      simp only [r4, c4, e1, e4, hf3, pSb]
      all_goals split_ifs <;> first | rfl | contradiction

end Cert.KernelIdeal.Gen

end
-- ==== Proof.PRegion.lean ====
/- The row factor (`trig_p`) over its grid: what its buffers hold point by point, and the obligation of its body. -/
module

public import proofs.«01_k».proof.Proof.PBody

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (W : Dev nD → Valuation τ sig (Elt F))

/-- Window `w`'s block at point `t`, read off the array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- Every point finds the same frequencies. -/
theorem iblk0_const (c : Dev nD) (t u : Fin cfg0.N) : (iblk0 W c 0 t : Vec F S1x1536 .i32) = iblk0 W c 0 u := rfl

/-- What the call keeps between points: after the first point its scratch holds the cosines and sines of the offsets
    inside a row block; beside it the buffers of the other calls and the generator register. -/
def pPhi (c : Dev nD) (n : ℕ) : sProp 𝕄 :=
  iprop((∃ cb, ⌜n ≠ 0 → ∀ t : Fin cfg0.N, cb = k0_pay8 (iblk0 W c 0 t)⌝ ∗ owns (c : Thread nD τ) (Memref.whole cc0_scratch0 : Memref sig .tc .vmem S128x1536 .f32) fullShare cb)
    ∗ (∃ sb, ⌜n ≠ 0 → ∀ t : Fin cfg0.N, sb = k0_pay9 (iblk0 W c 0 t)⌝ ∗ owns (c : Thread nD τ) (Memref.whole cc0_scratch1 : Memref sig .tc .vmem S128x1536 .f32) fullShare sb)
    ∗ Pipeline.scopedRestBut spec0 c [cc0_scratch0, cc0_scratch1] ∗ ∃ r, prngReg c r)

/-- The proof data of the call. -/
def pDat (c : Dev nD) : Dat τ (Elt F) Unit ℕ (UR sig nD τ) ℕ cfg0 c where
  A w := W c (Proc.devRef .tc (Pipeline.arrRef spec0 w))
  after w t := match w with
    | ⟨0, _⟩ => iblk0 W c 0 t
    | ⟨1, _⟩ => View.canon (pPieces (grid0.coords t) (iblk0 W c 0 t) (k0_pay8 (iblk0 W c 0 t)) (k0_pay9 (iblk0 W c 0 t)))
  Φ t := pPhi W c t.val
  q _ := fullShare
  owed _ := 0

theorem pA_eq (c : Dev nD) (w : Fin cfg0.W) : (pDat W c).A w = W c (Proc.devRef .tc (Pipeline.arrRef spec0 w)) := by
  dsimp only [pDat]
theorem pAfter_0 (c : Dev nD) (t : Fin cfg0.N) : (pDat W c).after 0 t = iblk0 W c 0 t := by dsimp only [pDat]
theorem pAfter_1 (c : Dev nD) (t : Fin cfg0.N) : (pDat W c).after 1 t = View.canon (pPieces (grid0.coords t) (iblk0 W c 0 t) (k0_pay8 (iblk0 W c 0 t)) (k0_pay9 (iblk0 W c 0 t))) := by dsimp only [pDat]
theorem pBefore_0 (c : Dev nD) (t : Fin cfg0.N) (d) : (pDat W c).before 0 t d = iblk0 W c 0 t :=
  ((pDat W c).before_in_eq_fetched 0 rfl (fun _ => rfl) (fun _ _ _ => rfl) (fun t => by rw [pAfter_0]; unfold Dat.blockOf iblk0; rw [pA_eq]; try rfl) t d).trans
    (by unfold Dat.fetched Dat.blockOf iblk0; rw [pA_eq]; try rfl)

theorem pFirst_iff : ∀ t : Fin cfg0.N, pFirst (grid0.coords t) ↔ t.val = 0 :=
  (fun t => by
    have ht : t.val < 32 := Nat.lt_of_lt_of_eq t.isLt N_0
    have e0 : (grid0.coords t 0).val = t.val / 1 % 32 := Pipeline.Grid.coords_val t 0 (by decide) rfl
    simp only [pFirst, e0]
    word_cmp
   : ∀ t : Fin grid0.N, pFirst (grid0.coords t) ↔ t.val = 0)

theorem pCb_step (c : Dev nD) (t : Fin cfg0.N) (cb : Vec F S128x1536 .f32) (h : t.val ≠ 0 → ∀ t : Fin cfg0.N, cb = k0_pay8 (iblk0 W c 0 t)) :
    pCb (grid0.coords t) (iblk0 W c 0 t) cb = k0_pay8 (iblk0 W c 0 t) := by
  unfold pCb; split_ifs with hf
  · rfl
  · exact h (fun e => hf ((pFirst_iff t).mpr e)) t
theorem pSb_step (c : Dev nD) (t : Fin cfg0.N) (sb : Vec F S128x1536 .f32) (h : t.val ≠ 0 → ∀ t : Fin cfg0.N, sb = k0_pay9 (iblk0 W c 0 t)) :
    pSb (grid0.coords t) (iblk0 W c 0 t) sb = k0_pay9 (iblk0 W c 0 t) := by
  unfold pSb; split_ifs with hf
  · rfl
  · exact h (fun e => hf ((pFirst_iff t).mpr e)) t

/-- What the body is called with at point `t`, the windows one by one, -/
def pBodyPre (c : Dev nD) (t : Fin cfg0.N) : sProp 𝕄 :=
  iprop((pDat W c).Φ t.castSucc ∗ (pDat W c).owesAt () t.castSucc
    ∗ (∃ d, owns (c : Thread nD τ) (st0_0 t) fullShare ((pDat W c).before 0 t d))
    ∗ (∃ d, owns (c : Thread nD τ) (st0_1 t) fullShare ((pDat W c).before 1 t d)))
/-- and what it returns. -/
def pBodyPost (c : Dev nD) (t : Fin cfg0.N) : sProp 𝕄 :=
  iprop((pDat W c).Φ t.succ ∗ (pDat W c).owesAt () t.succ
    ∗ (pDat W c).leavesExact 0 t ∗ (pDat W c).leavesExact 1 t)

set_option maxHeartbeats 1600000 in
theorem p_sound (c : Dev nD) (t : Fin cfg0.N) :
    pBodyPre W c t ⊢ wp frame (wpE (defs₀ (F := F)) Variants.none c none) Set.univ (bodyAt0 t) (fun _ => pBodyPost W c t) := by
  unfold pBodyPre pBodyPost bodyAt0
  simp only [pBefore_0]
  rw [show (pDat W c).owesAt () t.succ = (pDat W c).owesAt () t.castSucc from rfl]
  rw [show (pDat W c).Φ t.succ = pPhi W c (t.val + 1) from rfl, show (pDat W c).Φ t.castSucc = pPhi W c t.val from rfl]
  rw [show (pDat W c).leavesExact 0 t = owns (c : Thread nD τ) (st0_0 t) fullShare (iblk0 W c 0 t) from by
      unfold Dat.leavesExact; rw [show cfg0.idle 0 (grid0.coords t) = false from rfl, pAfter_0]]
  rw [show (pDat W c).leavesExact 1 t = owns (c : Thread nD τ) (st0_1 t) fullShare (View.canon (pPieces (grid0.coords t) (iblk0 W c 0 t) (k0_pay8 (iblk0 W c 0 t)) (k0_pay9 (iblk0 W c 0 t)))) from by
      unfold Dat.leavesExact; rw [show cfg0.idle 1 (grid0.coords t) = false from rfl, pAfter_1]]
  unfold pPhi
  iintro ⟨⟨⟨%cb, %hcb, HS0⟩, ⟨%sb, %hsb, HS1⟩, Hr, Hg⟩, Ho, ⟨%d0, H0⟩, ⟨%d1, H1⟩⟩
  iapply (p_body c (grid0.coords t) _ _ _ _ _ _ _ _ (iblk0 W c 0 t) ((pDat W c).before 1 t d1) cb sb Set.univ _)
  isplitl [H0]; · iexact H0
  isplitl [H1]; · iexact H1
  isplitl [HS0]; · iexact HS0
  isplitl [HS1]; · iexact HS1
  rw [pCb_step W c t cb hcb, pSb_step W c t sb hsb]
  iintro ⟨H0, H1, HS0, HS1⟩
  isplitl [HS0 HS1 Hr Hg]
  · isplitl [HS0]
    · iexists _; isplitr
      swap; · iexact HS0
      ipureintro; intro _ u; exact congrArg k0_pay8 (iblk0_const W c t u)
    isplitl [HS1]
    · iexists _; isplitr
      swap; · iexact HS1
      ipureintro; intro _ u; exact congrArg k0_pay9 (iblk0_const W c t u)
    isplitl [Hr]; · iexact Hr
    iexact Hg
  isplitl [Ho]; · iexact Ho
  isplitl [H0]; · iexact H0
  iexact H1

theorem defs₀_row0 (t : Fin cfg0.N) :
    defs₀ (F := F) .tc cfg0.body (cfg0.bodyArgs t (cfg0.slots t)) = bodyAt0 t := by
  unfold defs₀; rw [Defs.onTc_tc]

theorem p_obligation (c : Dev nD) : BodyObligation (pDat (F := F) W c) (defs₀ (F := F)) Variants.none () Set.univ := fun t => by
  rw [bigSep_W0, bigSep_W0, defs₀_row0]
  exact triple_restated (p_sound W c t) rfl .rfl fun _ => .rfl

/-- The call is entered from the buffers no window stages and the generator register, -/
theorem p_in (c : Dev nD) : iprop(Pipeline.scopedRest spec0 c ∗ ∃ r, prngReg c r) ⊢ (pDat (F := F) W c).Φ 0 := by
  rw [show (pDat W c).Φ 0 = pPhi W c 0 from rfl, scopedRest0_split]
  unfold pPhi; simp only [owns_whole]
  iintro ⟨⟨⟨⟨%f, Hs⟩, ⟨%g, Ht⟩⟩, Hr⟩, Hg⟩
  isplitl [Hs]
  · iexists _; isplitr
    swap; · iexact Hs
    ipureintro; intro h; exact absurd rfl h
  isplitl [Ht]
  · iexists _; isplitr
    swap; · iexact Ht
    ipureintro; intro h; exact absurd rfl h
  isplitl [Hr]; · iexact Hr
  iexact Hg

/-- and gives them back. -/
theorem p_out (c : Dev nD) : (pDat (F := F) W c).Φ (Fin.last cfg0.N) ⊢ iprop(Pipeline.scopedRest spec0 c ∗ ∃ r, prngReg c r) := by
  rw [show (pDat W c).Φ (Fin.last cfg0.N) = pPhi W c cfg0.N from rfl, scopedRest0_split]
  unfold pPhi; simp only [owns_whole]
  iintro ⟨⟨%f, %hf, Hs⟩, ⟨%g, %hg, Ht⟩, Hr, Hg⟩
  isplitl [Hs Ht Hr]
  · isplitl [Hs Ht]
    · isplitl [Hs]
      · iexists _; iexact Hs
      iexists _; iexact Ht
    iexact Hr
  iexact Hg

end Cert.KernelIdeal.Gen

end
-- ==== Proof.QBody.lean ====
/- One grid point of the column factor (`trig_q`), as a function of what its buffers hold. -/
module

public import proofs.«01_k».proof.Proof.Base

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem qSlices {a : ℕ} (h : a < 40) : S256x128.Slices ![0, a] S256x1 := by
  refine ⟨rfl, ?_⟩; intro k; fin_cases k
  · show 0 + 256 ≤ 256; omega
  · show a + 1 ≤ 128; omega
theorem qInb {a : ℕ} (h : a < 40) : ∀ k, (![0, 128 * a] : Fin 2 → ℕ) k + S256x128.size k ≤ S256x5120.size k := by
  intro k; fin_cases k
  · show 0 + 256 ≤ 256; omega
  · show 128 * a + 128 ≤ 5120; omega

/-- The cosines and sines of the offset inside a column block, -/
def qCb (v0 : Vec F S256x1 .i32) : FVec F S256x128 .f32 := k1_pay4 v0
def qSb (v0 : Vec F S256x1 .i32) : FVec F S256x128 .f32 := k1_pay5 v0
/-- and those of every column block's first column. -/
def qCa (v0 : Vec F S256x1 .i32) : FVec F S256x128 .f32 := k1_pay9 (F := F) (k1_pay6 v0) (k1_pay7 v0)
def qSa (v0 : Vec F S256x1 .i32) : FVec F S256x128 .f32 := k1_pay10 (F := F) (k1_pay6 v0) (k1_pay7 v0)

/-- The cosines of column block `a`, -/
def qCos (v0 : Vec F S256x1 .i32) (a : ℕ) (h : a < 40) : FVec F S256x128 .bf16 :=
  truncf .bf16 (subf (mulf (broadcastTo S256x128 (extractStridedSlice S256x1 ![0, a] (qCa v0) (qSlices h)) broadcasts_S256x1_S256x128) (qCb v0))
    (mulf (broadcastTo S256x128 (extractStridedSlice S256x1 ![0, a] (qSa v0) (qSlices h)) broadcasts_S256x1_S256x128) (qSb v0))) bitsLt_bf16_f32
/-- and its sines, with the sign turned. -/
def qSin (v0 : Vec F S256x1 .i32) (a : ℕ) (h : a < 40) : FVec F S256x128 .bf16 :=
  truncf .bf16 (subf (broadcast S256x128 (Scalar.ofBits .f32 0x00000000#32)) (addf (mulf (broadcastTo S256x128 (extractStridedSlice S256x1 ![0, a] (qSa v0) (qSlices h)) broadcasts_S256x1_S256x128) (qCb v0))
    (mulf (broadcastTo S256x128 (extractStridedSlice S256x1 ![0, a] (qCa v0) (qSlices h)) broadcasts_S256x1_S256x128) (qSb v0)))) bitsLt_bf16_f32

/-- The stores of the two output blocks, the last first. -/
def qPiecesC (v0 : Vec F S256x1 .i32) : (n : ℕ) → n ≤ 40 → List (View.Piece (Elt F) S256x5120 .bf16)
  | 0, _ => []
  | n + 1, h => ⟨Rect.unit ![0, 128 * n] S256x128.size (qInb h), qCos v0 n h⟩ :: qPiecesC v0 n (Nat.le_of_succ_le h)
def qPiecesS (v0 : Vec F S256x1 .i32) : (n : ℕ) → n ≤ 40 → List (View.Piece (Elt F) S256x5120 .bf16)
  | 0, _ => []
  | n + 1, h => ⟨Rect.unit ![0, 128 * n] S256x128.size (qInb h), qSin v0 n h⟩ :: qPiecesS v0 n (Nat.le_of_succ_le h)

theorem qPiecesC_cover (v0 : Vec F S256x1 .i32) (y : S256x5120.Idx) : ∃ p ∈ qPiecesC v0 40 (Nat.le_refl _), y ∈ p.1.set :=
  View.cover_of_tiledL (qPiecesC v0 40 (Nat.le_refl _)) S256x128.size (by sl_kernel_rfl) y
theorem qPiecesS_cover (v0 : Vec F S256x1 .i32) (y : S256x5120.Idx) : ∃ p ∈ qPiecesS v0 40 (Nat.le_refl _), y ∈ p.1.set :=
  View.cover_of_tiledL (qPiecesS v0 40 (Nat.le_refl _)) S256x128.size (by sl_kernel_rfl) y

set_option maxHeartbeats 4000000 in
theorem q_body (c : Dev nD) (i : grid1.Coords) (arg1 : Memref sig .tc .vmem S256x1 .i32) (harg1 : arg1.IsWhole) (arg2 : Memref sig .tc .vmem S256x5120 .bf16) (harg2 : arg2.IsWhole) (arg3 : Memref sig .tc .vmem S256x5120 .bf16) (harg3 : arg3.IsWhole)
    (v0 : Vec F S256x1 .i32) (o2 o3 : Vec F S256x5120 .bf16)
    (E : Set ℕ) (K : PUnit → sProp 𝕄) :
    iprop(owns (c : Thread nD τ) arg1 fullShare v0 ∗ owns (c : Thread nD τ) arg2 fullShare o2 ∗ owns (c : Thread nD τ) arg3 fullShare o3
      ∗ (iprop(owns (c : Thread nD τ) arg1 fullShare v0 ∗ owns (c : Thread nD τ) arg2 fullShare (View.canon (qPiecesC v0 40 (Nat.le_refl _)))
          ∗ owns (c : Thread nD τ) arg3 fullShare (View.canon (qPiecesS v0 40 (Nat.le_refl _)))) -∗ K ⟨⟩))
    ⊢ wp frame (wpE (defs₀ (F := F)) Variants.none c none) E (cc1_trig_q i arg1 harg1 arg2 harg2 arg3 harg3) K := by
  have e1 := readAt_whole arg1.view off00 inb_S256x1_S256x1_0_0 _ v0 (harg1.read_unread v0)
  simp only [cc1_trig_q_eq_skeleton]; unfold cc1_trig_q_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton]
  unfold owns
  iintro ⟨⟨%f0, %hf0, H0⟩, ⟨%f1, %hf1, H1⟩, ⟨%f2, %hf2, H2⟩, Hk⟩
  obtain rfl := harg1.eq_unread hf0; obtain rfl := harg2.eq_unread hf1; obtain rfl := harg3.eq_unread hf2
  sl_exec
  sl_step
  iapply Hk
  isplitl [H0]
  · iexists _; isplitr; · ipureintro; exact harg1.read_unread _
    iexact H0
  isplitl [H1]
  · iexists _; isplitr
    swap; · iexact H1
    ipureintro
    refine Eq.trans ?_ (View.read_writes_eq_canon arg2.view (harg2.unread o2) _ (qPiecesC_cover v0))
    sl_unfold_words
    simp only [e1]
    rfl
  · iexists _; isplitr
    swap; · iexact H2
    ipureintro
    refine Eq.trans ?_ (View.read_writes_eq_canon arg3.view (harg3.unread o3) _ (qPiecesS_cover v0))
    sl_unfold_words
    simp only [e1]
    rfl

end Cert.KernelIdeal.Gen

end
-- ==== Proof.QRegion.lean ====
/- The column factor (`trig_q`) over its grid: what its buffers hold point by point, and the obligation of its body. -/
module

public import proofs.«01_k».proof.Proof.QBody

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (W : Dev nD → Valuation τ sig (Elt F))

/-- Window `w`'s block at point `t`, read off the array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- What the call keeps between points: the buffers of the other calls and the generator register. -/
def qPhi (c : Dev nD) : sProp 𝕄 := iprop(Pipeline.scopedRest spec1 c ∗ ∃ r, prngReg c r)

/-- The proof data of the call. -/
def qDat (c : Dev nD) : Dat τ (Elt F) Unit ℕ (UR sig nD τ) ℕ cfg1 c where
  A w := W c (Proc.devRef .tc (Pipeline.arrRef spec1 w))
  after w t := match w with
    | ⟨0, _⟩ => iblk1 W c 0 t
    | ⟨1, _⟩ => View.canon (qPiecesC (iblk1 W c 0 t) 40 (Nat.le_refl _))
    | ⟨2, _⟩ => View.canon (qPiecesS (iblk1 W c 0 t) 40 (Nat.le_refl _))
  Φ t := qPhi c
  q _ := fullShare
  owed _ := 0

theorem qA_eq (c : Dev nD) (w : Fin cfg1.W) : (qDat W c).A w = W c (Proc.devRef .tc (Pipeline.arrRef spec1 w)) := by
  dsimp only [qDat]
theorem qAfter_0 (c : Dev nD) (t : Fin cfg1.N) : (qDat W c).after 0 t = iblk1 W c 0 t := by dsimp only [qDat]
theorem qAfter_1 (c : Dev nD) (t : Fin cfg1.N) : (qDat W c).after 1 t = View.canon (qPiecesC (iblk1 W c 0 t) 40 (Nat.le_refl _)) := by dsimp only [qDat]
theorem qAfter_2 (c : Dev nD) (t : Fin cfg1.N) : (qDat W c).after 2 t = View.canon (qPiecesS (iblk1 W c 0 t) 40 (Nat.le_refl _)) := by dsimp only [qDat]
theorem qBefore_0 (c : Dev nD) (t : Fin cfg1.N) (d) : (qDat W c).before 0 t d = iblk1 W c 0 t :=
  ((qDat W c).before_in_eq_fetched 0 rfl (fun _ => rfl) (fun _ _ _ => rfl) (fun t => by rw [qAfter_0]; unfold Dat.blockOf iblk1; rw [qA_eq]; try rfl) t d).trans
    (by unfold Dat.fetched Dat.blockOf iblk1; rw [qA_eq]; try rfl)
/-- What the body is called with at point `t`, the windows one by one, -/
def qBodyPre (c : Dev nD) (t : Fin cfg1.N) : sProp 𝕄 :=
  iprop((qDat W c).Φ t.castSucc ∗ (qDat W c).owesAt () t.castSucc
    ∗ (∃ d, owns (c : Thread nD τ) (st1_0 t) fullShare ((qDat W c).before 0 t d))
    ∗ (∃ d, owns (c : Thread nD τ) (st1_1 t) fullShare ((qDat W c).before 1 t d))
    ∗ (∃ d, owns (c : Thread nD τ) (st1_2 t) fullShare ((qDat W c).before 2 t d)))
/-- and what it returns. -/
def qBodyPost (c : Dev nD) (t : Fin cfg1.N) : sProp 𝕄 :=
  iprop((qDat W c).Φ t.succ ∗ (qDat W c).owesAt () t.succ
    ∗ (qDat W c).leavesExact 0 t ∗ (qDat W c).leavesExact 1 t ∗ (qDat W c).leavesExact 2 t)

set_option maxHeartbeats 1600000 in
theorem q_sound (c : Dev nD) (t : Fin cfg1.N) :
    qBodyPre W c t ⊢ wp frame (wpE (defs₀ (F := F)) Variants.none c none) Set.univ (bodyAt1 t) (fun _ => qBodyPost W c t) := by
  unfold qBodyPre qBodyPost bodyAt1
  simp only [qBefore_0]
  rw [show (qDat W c).owesAt () t.succ = (qDat W c).owesAt () t.castSucc from rfl]
  rw [show (qDat W c).Φ t.succ = qPhi c from rfl, show (qDat W c).Φ t.castSucc = qPhi c from rfl]
  rw [show (qDat W c).leavesExact 0 t = owns (c : Thread nD τ) (st1_0 t) fullShare (iblk1 W c 0 t) from by
      unfold Dat.leavesExact; rw [show cfg1.idle 0 (grid1.coords t) = false from rfl, qAfter_0]]
  rw [show (qDat W c).leavesExact 1 t = owns (c : Thread nD τ) (st1_1 t) fullShare (View.canon (qPiecesC (iblk1 W c 0 t) 40 (Nat.le_refl _))) from by
      unfold Dat.leavesExact; rw [show cfg1.idle 1 (grid1.coords t) = false from rfl, qAfter_1]]
  rw [show (qDat W c).leavesExact 2 t = owns (c : Thread nD τ) (st1_2 t) fullShare (View.canon (qPiecesS (iblk1 W c 0 t) 40 (Nat.le_refl _))) from by
      unfold Dat.leavesExact; rw [show cfg1.idle 2 (grid1.coords t) = false from rfl, qAfter_2]]
  iintro ⟨HP, Ho, ⟨%d0, H0⟩, ⟨%d1, H1⟩, ⟨%d2, H2⟩⟩
  iapply (q_body c (grid1.coords t) _ _ _ _ _ _ (iblk1 W c 0 t) ((qDat W c).before 1 t d1) ((qDat W c).before 2 t d2) Set.univ _)
  isplitl [H0]; · iexact H0
  isplitl [H1]; · iexact H1
  isplitl [H2]; · iexact H2
  iintro ⟨H0, H1, H2⟩
  isplitl [HP]; · iexact HP
  isplitl [Ho]; · iexact Ho
  isplitl [H0]; · iexact H0
  isplitl [H1]; · iexact H1
  iexact H2

theorem defs₀_row1 (t : Fin cfg1.N) :
    defs₀ (F := F) .tc cfg1.body (cfg1.bodyArgs t (cfg1.slots t)) = bodyAt1 t := by
  unfold defs₀; rw [Defs.onTc_tc]

theorem q_obligation (c : Dev nD) : BodyObligation (qDat (F := F) W c) (defs₀ (F := F)) Variants.none () Set.univ := fun t => by
  rw [bigSep_W1, bigSep_W1, defs₀_row1]
  exact triple_restated (q_sound W c t) rfl .rfl fun _ => .rfl

theorem q_in (c : Dev nD) : iprop(Pipeline.scopedRest spec1 c ∗ ∃ r, prngReg c r) ⊢ (qDat (F := F) W c).Φ 0 := .rfl
theorem q_out (c : Dev nD) : (qDat (F := F) W c).Φ (Fin.last cfg1.N) ⊢ iprop(Pipeline.scopedRest spec1 c ∗ ∃ r, prngReg c r) := .rfl

end Cert.KernelIdeal.Gen

end
-- ==== Proof.HBody.lean ====
/- One grid point of the second product (`h_proj`), as a function of what its buffers hold. -/
module

public import proofs.«01_k».proof.Proof.Base

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The point is the first of its accumulation: the accumulator is cleared. -/
abbrev hFirst (i : grid2.Coords) : Prop := (Scalar.cmpi .ne (Scalar.extui (Scalar.cmpi .eq (BitVec.ofNat 32 (i 2).val) 0#32)) 0#32) = 1#1
/-- The point is the last of its accumulation: the output block is stored. -/
abbrev hLast (i : grid2.Coords) : Prop := k2_cond2 i = 1#1

/-- The accumulator after a point, from what it held before and the two blocks. -/
def hAcc (i : grid2.Coords) (a : Vec F S2048x1024 .f32) (x0 : Vec F S2048x1024 .bf16) (x1 : Vec F S1024x1024 .bf16) : Vec F S2048x1024 .f32 :=
  k2_pay2 (if hFirst i then k2_pay1 else a) x0 x1
/-- The output block after a point, from what it held before, the new accumulator and the coefficients. -/
def hOut (i : grid2.Coords) (o : Vec F S2048x1024 .bf16) (a : Vec F S2048x1024 .f32) (x2 : Vec F S1x1024 .f32) : Vec F S2048x1024 .bf16 :=
  if hLast i then k2_pay3 a x2 else o

set_option maxHeartbeats 1000000 in
theorem h_body (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole)
    (x0 : Vec F S2048x1024 .bf16) (x1 : Vec F S1024x1024 .bf16) (x2 : Vec F S1x1024 .f32) (o : Vec F S2048x1024 .bf16) (a : Vec F S2048x1024 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare o ∗ owns (c : Thread nD τ) arg7 fullShare a
      ∗ (iprop(owns (c : Thread nD τ) arg3 fullShare x0 ∗ owns (c : Thread nD τ) arg4 fullShare x1 ∗ owns (c : Thread nD τ) arg5 fullShare x2
          ∗ owns (c : Thread nD τ) arg6 fullShare (hOut i o (hAcc i a x0 x1) x2) ∗ owns (c : Thread nD τ) arg7 fullShare (hAcc i a x0 x1)) -∗ K ⟨⟩))
    ⊢ wp frame (wpE (defs₀ (F := F)) Variants.none c none) E (cc2_h_proj i arg3 harg3 arg4 harg4 arg5 harg5 arg6 harg6 arg7 harg7) K := by
  have e3 := readAt_whole arg3.view off00 inb_S2048x1024_S2048x1024_0_0 _ x0 (harg3.read_unread x0)
  have e4 := readAt_whole arg4.view off00 inb_S1024x1024_S1024x1024_0_0 _ x1 (harg4.read_unread x1)
  have e5 := readAt_whole arg5.view off00 inb_S1x1024_S1x1024_0_0 _ x2 (harg5.read_unread x2)
  have e7 := readAt_whole arg7.view off00 inb_S2048x1024_S2048x1024_0_0 _ a (harg7.read_unread a)
  have ec := readCov_last (Val := Elt F) arg7.view inb_S2048x1024_S2048x1024_0_0
  have r6 := read_last (Val := Elt F) arg6.view off00 inb_S2048x1024_S2048x1024_0_0
  have r7 := read_last (Val := Elt F) arg7.view off00 inb_S2048x1024_S2048x1024_0_0
  simp only [cc2_h_proj_eq_skeleton]; unfold cc2_h_proj_skel
  unfold owns
  iintro ⟨⟨%f0, %hf0, H0⟩, ⟨%f1, %hf1, H1⟩, ⟨%f2, %hf2, H2⟩, ⟨%f3, %hf3, H3⟩, ⟨%fs0, %hfs0, HS0⟩, Hk⟩
  obtain rfl := harg3.eq_unread hf0; obtain rfl := harg4.eq_unread hf1; obtain rfl := harg5.eq_unread hf2; obtain rfl := harg6.eq_unread hf3; obtain rfl := harg7.eq_unread hfs0
  by_cases hc0 : hFirst i <;> by_cases hc1 : hLast i
  all_goals
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr
      swap; · iexact H3
      ipureintro
      sl_unfold_words
      simp only [r6, r7, ec, e3, e4, e5, e7, hf3, hOut, hAcc]
      all_goals split_ifs <;> first | rfl | contradiction
    · iexists _; isplitr
      swap; · iexact HS0
      ipureintro
      sl_unfold_words
      simp only [r6, r7, ec, e3, e4, e5, e7, hf3, hOut, hAcc]
      all_goals split_ifs <;> first | rfl | contradiction

end Cert.KernelIdeal.Gen

end
-- ==== Proof.HRegion.lean ====
/- The second product (`h_proj`) over its grid: what its buffers hold point by point, and the obligation of its body. -/
module

public import proofs.«01_k».proof.Proof.HBody

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (W : Dev nD → Valuation τ sig (Elt F))

/-- Window `w`'s block at point `t`, read off the array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (W c (Proc.devRef .tc (Pipeline.arrRef spec2 w)))

/-- The accumulator after point `n`. -/
def hAccAt (c : Dev nD) : (n : ℕ) → n < cfg2.N → Vec F S2048x1024 .f32
  | 0, hn => hAcc (grid2.coords ⟨0, hn⟩) k2_pay1 (iblk2 W c 0 ⟨0, hn⟩) (iblk2 W c 1 ⟨0, hn⟩)
  | n + 1, hn => hAcc (grid2.coords ⟨n + 1, hn⟩) (hAccAt c n (Nat.lt_of_succ_lt hn)) (iblk2 W c 0 ⟨n + 1, hn⟩) (iblk2 W c 1 ⟨n + 1, hn⟩)

/-- What the call keeps between points: its accumulator at what the point before left, the buffers of the other
    calls, and the generator register. -/
def hPhi (c : Dev nD) (n : ℕ) (hn : n ≤ cfg2.N) : sProp 𝕄 :=
  iprop((∃ a, ⌜∀ k (hk : k < cfg2.N), n = k + 1 → a = hAccAt W c k hk⌝ ∗ owns (c : Thread nD τ) (Memref.whole cc2_scratch0 : Memref sig .tc .vmem S2048x1024 .f32) fullShare a)
    ∗ Pipeline.scopedRestBut spec2 c [cc2_scratch0] ∗ ∃ r, prngReg c r)

/-- The proof data of the call. -/
def hDat (c : Dev nD) : Dat τ (Elt F) Unit ℕ (UR sig nD τ) ℕ cfg2 c where
  A w := W c (Proc.devRef .tc (Pipeline.arrRef spec2 w))
  after w t := match w with
    | ⟨0, _⟩ => iblk2 W c 0 t
    | ⟨1, _⟩ => iblk2 W c 1 t
    | ⟨2, _⟩ => iblk2 W c 2 t
    | ⟨3, _⟩ => k2_pay3 (hAccAt W c t.val t.isLt) (iblk2 W c 2 t)
  Φ t := hPhi W c t.val (Nat.le_of_lt_succ t.isLt)
  q _ := fullShare
  owed _ := 0

theorem hA_eq (c : Dev nD) (w : Fin cfg2.W) : (hDat W c).A w = W c (Proc.devRef .tc (Pipeline.arrRef spec2 w)) := by
  dsimp only [hDat]
theorem hAfter_0 (c : Dev nD) (t : Fin cfg2.N) : (hDat W c).after 0 t = iblk2 W c 0 t := by dsimp only [hDat]
theorem hAfter_1 (c : Dev nD) (t : Fin cfg2.N) : (hDat W c).after 1 t = iblk2 W c 1 t := by dsimp only [hDat]
theorem hAfter_2 (c : Dev nD) (t : Fin cfg2.N) : (hDat W c).after 2 t = iblk2 W c 2 t := by dsimp only [hDat]
theorem hAfter_3 (c : Dev nD) (t : Fin cfg2.N) : (hDat W c).after 3 t = k2_pay3 (hAccAt W c t.val t.isLt) (iblk2 W c 2 t) := by dsimp only [hDat]

theorem hBefore_0 (c : Dev nD) (t : Fin cfg2.N) (d) : (hDat W c).before 0 t d = iblk2 W c 0 t :=
  ((hDat W c).before_in_eq_fetched 0 rfl (fun _ => rfl) (fun _ _ _ => rfl) (fun t => by rw [hAfter_0]; unfold Dat.blockOf iblk2; rw [hA_eq]; try rfl) t d).trans
    (by unfold Dat.fetched Dat.blockOf iblk2; rw [hA_eq]; try rfl)
theorem hBefore_1 (c : Dev nD) (t : Fin cfg2.N) (d) : (hDat W c).before 1 t d = iblk2 W c 1 t :=
  ((hDat W c).before_in_eq_fetched 1 rfl (fun _ => rfl) (fun _ _ _ => rfl) (fun t => by rw [hAfter_1]; unfold Dat.blockOf iblk2; rw [hA_eq]; try rfl) t d).trans
    (by unfold Dat.fetched Dat.blockOf iblk2; rw [hA_eq]; try rfl)
theorem hBefore_2 (c : Dev nD) (t : Fin cfg2.N) (d) : (hDat W c).before 2 t d = iblk2 W c 2 t :=
  ((hDat W c).before_in_eq_fetched 2 rfl (fun _ => rfl) (fun _ _ _ => rfl) (fun t => by rw [hAfter_2]; unfold Dat.blockOf iblk2; rw [hA_eq]; try rfl) t d).trans
    (by unfold Dat.fetched Dat.blockOf iblk2; rw [hA_eq]; try rfl)

/-- The accumulation starts at the points ≡ 0 (mod 16). -/
theorem hFirst_iff : ∀ t : Fin cfg2.N, hFirst (grid2.coords t) ↔ t.val % 16 = 0 :=
  (fun t => by
    have ht : t.val < 96 := Nat.lt_of_lt_of_eq t.isLt N_2
    have e0 : (grid2.coords t 0).val = t.val / 48 % 2 := Pipeline.Grid.coords_val t 0 (by decide) rfl
    have e1 : (grid2.coords t 1).val = t.val / 16 % 3 := Pipeline.Grid.coords_val t 1 (by decide) rfl
    have e2 : (grid2.coords t 2).val = t.val / 1 % 16 := Pipeline.Grid.coords_val t 2 (by decide) rfl
    simp only [hFirst, e0, e1, e2]
    word_cmp
   : ∀ t : Fin grid2.N, hFirst (grid2.coords t) ↔ t.val % 16 = 0)
/-- The output block is stored at the points ≡ 15 (mod 16). -/
theorem hLast_iff : ∀ t : Fin cfg2.N, hLast (grid2.coords t) ↔ t.val % 16 = 15 :=
  (fun t => by
    have ht : t.val < 96 := Nat.lt_of_lt_of_eq t.isLt N_2
    have e0 : (grid2.coords t 0).val = t.val / 48 % 2 := Pipeline.Grid.coords_val t 0 (by decide) rfl
    have e1 : (grid2.coords t 1).val = t.val / 16 % 3 := Pipeline.Grid.coords_val t 1 (by decide) rfl
    have e2 : (grid2.coords t 2).val = t.val / 1 % 16 := Pipeline.Grid.coords_val t 2 (by decide) rfl
    simp only [hLast, k2_cond2, e0, e1, e2]
    word_cmp
   : ∀ t : Fin grid2.N, hLast (grid2.coords t) ↔ t.val % 16 = 15)

theorem hLive : ∀ t : Fin cfg2.N, hLast (grid2.coords t) → cfg2.idle 3 (grid2.coords t) = false := by decide +kernel
theorem hIdle : ∀ t : Fin cfg2.N, ¬hLast (grid2.coords t) → cfg2.idle 3 (grid2.coords t) = true := by decide +kernel
theorem hNoFlush : ∀ t : Fin cfg2.N, ¬hLast (grid2.coords t) → (cfg2.win 3).flush t = false := by decide +kernel

/-- One point's accumulation from whatever the point before left. -/
theorem hAccAt_step (c : Dev nD) (t : Fin cfg2.N) (a : Vec F S2048x1024 .f32)
    (ha : ∀ k (hk : k < cfg2.N), t.val = k + 1 → a = hAccAt W c k hk) :
    hAcc (grid2.coords t) a (iblk2 W c 0 t) (iblk2 W c 1 t) = hAccAt W c t.val t.isLt := by
  obtain ⟨n, hn⟩ := t
  cases n with
  | zero =>
    have h0 : hFirst (grid2.coords ⟨0, hn⟩) := (hFirst_iff ⟨0, hn⟩).mpr rfl
    show _ = hAcc (grid2.coords ⟨0, hn⟩) k2_pay1 (iblk2 W c 0 ⟨0, hn⟩) (iblk2 W c 1 ⟨0, hn⟩)
    unfold hAcc; rw [if_pos h0, if_pos h0]
  | succ n => rw [ha n (Nat.lt_of_succ_lt hn) rfl]; rfl

/-- What the body is called with at point `t`, the windows one by one, -/
def hBodyPre (c : Dev nD) (t : Fin cfg2.N) : sProp 𝕄 :=
  iprop((hDat W c).Φ t.castSucc ∗ (hDat W c).owesAt () t.castSucc
    ∗ (∃ d, owns (c : Thread nD τ) (st2_0 t) fullShare ((hDat W c).before 0 t d))
    ∗ (∃ d, owns (c : Thread nD τ) (st2_1 t) fullShare ((hDat W c).before 1 t d))
    ∗ (∃ d, owns (c : Thread nD τ) (st2_2 t) fullShare ((hDat W c).before 2 t d))
    ∗ (∃ d, owns (c : Thread nD τ) (st2_3 t) fullShare ((hDat W c).before 3 t d)))
/-- and what it returns. -/
def hBodyPost (c : Dev nD) (t : Fin cfg2.N) : sProp 𝕄 :=
  iprop((hDat W c).Φ t.succ ∗ (hDat W c).owesAt () t.succ
    ∗ (hDat W c).leavesExact 0 t ∗ (hDat W c).leavesExact 1 t ∗ (hDat W c).leavesExact 2 t ∗ (hDat W c).leavesExact 3 t)

set_option maxHeartbeats 1600000 in
theorem h_sound (c : Dev nD) (t : Fin cfg2.N) :
    hBodyPre W c t ⊢ wp frame (wpE (defs₀ (F := F)) Variants.none c none) Set.univ (bodyAt2 t) (fun _ => hBodyPost W c t) := by
  unfold hBodyPre hBodyPost bodyAt2
  simp only [hBefore_0, hBefore_1, hBefore_2]
  rw [show (hDat W c).owesAt () t.succ = (hDat W c).owesAt () t.castSucc from rfl]
  rw [show (hDat W c).Φ t.succ = hPhi W c (t.val + 1) t.isLt from rfl,
    show (hDat W c).Φ t.castSucc = hPhi W c t.val (Nat.le_of_lt t.isLt) from rfl]
  rw [show (hDat W c).leavesExact 0 t = owns (c : Thread nD τ) (st2_0 t) fullShare (iblk2 W c 0 t) from by
      unfold Dat.leavesExact; rw [show cfg2.idle 0 (grid2.coords t) = false from rfl, hAfter_0],
    show (hDat W c).leavesExact 1 t = owns (c : Thread nD τ) (st2_1 t) fullShare (iblk2 W c 1 t) from by
      unfold Dat.leavesExact; rw [show cfg2.idle 1 (grid2.coords t) = false from rfl, hAfter_1],
    show (hDat W c).leavesExact 2 t = owns (c : Thread nD τ) (st2_2 t) fullShare (iblk2 W c 2 t) from by
      unfold Dat.leavesExact; rw [show cfg2.idle 2 (grid2.coords t) = false from rfl, hAfter_2]]
  unfold hPhi
  iintro ⟨⟨⟨%a, %ha, HS⟩, Hr, Hg⟩, Ho, ⟨%d0, H0⟩, ⟨%d1, H1⟩, ⟨%d2, H2⟩, ⟨%d3, H3⟩⟩
  iapply (h_body c (grid2.coords t) _ _ _ _ _ _ _ _ _ _ (iblk2 W c 0 t) (iblk2 W c 1 t) (iblk2 W c 2 t) ((hDat W c).before 3 t d3) a Set.univ _)
  isplitl [H0]; · iexact H0
  isplitl [H1]; · iexact H1
  isplitl [H2]; · iexact H2
  isplitl [H3]; · iexact H3
  isplitl [HS]; · iexact HS
  rw [hAccAt_step W c t a ha]
  iintro ⟨H0, H1, H2, H3, HS⟩
  isplitl [HS Hr Hg]
  · isplitl [HS]
    · iexists _; isplitr
      swap; · iexact HS
      ipureintro; intro k hk e
      obtain rfl : t.val = k := Nat.succ.inj e
      rfl
    isplitl [Hr]; · iexact Hr
    iexact Hg
  isplitl [Ho]; · iexact Ho
  isplitl [H0]; · iexact H0
  isplitl [H1]; · iexact H1
  isplitl [H2]; · iexact H2
  by_cases hl : hLast (grid2.coords t)
  · rw [show (hDat W c).leavesExact 3 t = owns (c : Thread nD τ) (st2_3 t) fullShare (k2_pay3 (hAccAt W c t.val t.isLt) (iblk2 W c 2 t)) from by
      unfold Dat.leavesExact; rw [hLive t hl, hAfter_3]]
    unfold hOut; rw [if_pos hl]; iexact H3
  · rw [Dat.leavesExact_idle (hDat W c) 3 t (hIdle t hl) (hNoFlush t hl)]
    unfold hOut; rw [if_neg hl]; iexists _; iexact H3

theorem defs₀_row2 (t : Fin cfg2.N) :
    defs₀ (F := F) .tc cfg2.body (cfg2.bodyArgs t (cfg2.slots t)) = bodyAt2 t := by
  unfold defs₀; rw [Defs.onTc_tc]

theorem h_obligation (c : Dev nD) : BodyObligation (hDat (F := F) W c) (defs₀ (F := F)) Variants.none () Set.univ := fun t => by
  rw [bigSep_W2, bigSep_W2, defs₀_row2]
  exact triple_restated (h_sound W c t) rfl .rfl fun _ => .rfl

/-- The call is entered from the buffers no window stages and the generator register, -/
theorem h_in (c : Dev nD) : iprop(Pipeline.scopedRest spec2 c ∗ ∃ r, prngReg c r) ⊢ (hDat (F := F) W c).Φ 0 := by
  rw [show (hDat W c).Φ 0 = hPhi W c 0 (Nat.zero_le _) from rfl, scopedRest2_split]
  unfold hPhi; simp only [owns_whole]
  iintro ⟨⟨⟨%f, Hs⟩, Hr⟩, Hg⟩
  isplitl [Hs]
  · iexists _; isplitr
    swap; · iexact Hs
    ipureintro; intro k hk e; exact absurd e (Nat.succ_ne_zero k).symm
  isplitl [Hr]; · iexact Hr
  iexact Hg

/-- and gives them back. -/
theorem h_out (c : Dev nD) : (hDat (F := F) W c).Φ (Fin.last cfg2.N) ⊢ iprop(Pipeline.scopedRest spec2 c ∗ ∃ r, prngReg c r) := by
  rw [show (hDat W c).Φ (Fin.last cfg2.N) = hPhi W c cfg2.N (Nat.le_refl _) from rfl, scopedRest2_split]
  unfold hPhi; simp only [owns_whole]
  iintro ⟨⟨%f, %hf, Hs⟩, Hr, Hg⟩
  isplitl [Hs Hr]
  · isplitl [Hs]; · iexists _; iexact Hs
    iexact Hr
  iexact Hg

end Cert.KernelIdeal.Gen

end
-- ==== Proof.MBody.lean ====
/- One grid point of the first product (`base_proj`), as a function of what its buffers hold. -/
module

public import proofs.«01_k».proof.Proof.Base

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem wSlG {g : ℕ} (h : g < 8) : S1024x128.Slices ![128 * g, 0] S128x128 := by
  refine ⟨rfl, ?_⟩; intro k; fin_cases k
  · show 128 * g + 128 ≤ 1024; omega
  · show 0 + 128 ≤ 128; omega
theorem wSlC {b : ℕ} (h : b < 8) : S256x512.Slices ![0, 128 * (b / 2)] S256x128 := by
  refine ⟨rfl, ?_⟩; intro k; fin_cases k
  · show 0 + 256 ≤ 256; omega
  · show 128 * (b / 2) + 128 ≤ 512; omega
theorem wInbS {g b : ℕ} (hg : g < 8) (hb : b < 8) : ∀ k, (![g, 128 * b] : Fin 2 → ℕ) k + S1x128.size k ≤ S8x1024.size k := by
  intro k; fin_cases k
  · show g + 1 ≤ 8; omega
  · show 128 * b + 128 ≤ 1024; omega
theorem wInbW {g b : ℕ} (hg : g < 8) (hb : b < 8) : ∀ k, (![128 * g, 128 * b] : Fin 2 → ℕ) k + S128x128.size k ≤ S1024x1024.size k := by
  intro k; fin_cases k
  · show 128 * g + 128 ≤ 1024; omega
  · show 128 * b + 128 ≤ 1024; omega

/-- Column block `b` of the weights as integers over sixteen: the two nibbles of each packed byte side by side. -/
def wBlk (p : Vec F S1024x512 .i8) (b : ℕ) (h : b < 8) : FVec F S1024x128 .bf16 :=
  have v24 : IVec S256x128 32 := extractStridedSlice S256x128 ![0, 128 * (b / 2)] (k3_pay8 p) (wSlC h)
  have v26 : IVec S256x128 32 := addi k3_pay6 (broadcast S256x128 (BitVec.ofNat 32 (64 * (b % 2))))
  have v31 : IVec S256x128 32 := select (cmpi .slt v26 (broadcast S256x128 0#32)) (addi v26 (broadcast S256x128 128#32)) v26
  have v33 : IVec S256x128 32 := shapeCast S256x128 (shapeCast S256x128x1 v31 shapeCasts_S256x128_S256x128x1) shapeCasts_S256x128x1_S256x128
  have v34 : IVec S256x128 32 := dynamicGather 1 v24 v33
  have v37 : IVec S256x128 32 := select k3_pay7 (shli v34 (broadcast S256x128 4#32)) v34
  have v40 : IVec S1024x128 8 := bitcast S1024x128 8 (andi v37 (broadcast S256x128 4042322160#32)) bitcasts_S256x128_w32_S1024x128_w8
  mulf (sitofp .bf16 v40) (broadcast S1024x128 (Scalar.ofBits .bf16 0x3D80#16))

/-- Row group `g` of that block, with its scales. -/
def wTile (p : Vec F S1024x512 .i8) (s : Vec F S8x1024 .f32) (g b : ℕ) (hg : g < 8) (hb : b < 8) : FVec F S128x128 .bf16 :=
  shapeCast S128x128 (mulf (extractStridedSlice S128x128 ![128 * g, 0] (wBlk p b hb) (wSlG hg))
    (broadcastTo S128x128 (truncf .bf16 (View.ld s (Rect.unit (s := S8x1024) ![g, 128 * b] S1x128.size (wInbS hg hb)) : FVec F S1x128 .f32) bitsLt_bf16_f32) broadcasts_S1x128_S128x128)) shapeCasts_S128x128_S128x128

theorem wLt {n : ℕ} (h : n + 1 ≤ 64) : n / 8 < 8 := by omega

/-- The stores of the decoded weights, the last first. -/
def wPieces (p : Vec F S1024x512 .i8) (s : Vec F S8x1024 .f32) : (n : ℕ) → n ≤ 64 → List (View.Piece (Elt F) S1024x1024 .bf16)
  | 0, _ => []
  | n + 1, h => ⟨Rect.unit ![128 * (n % 8), 128 * (n / 8)] S128x128.size (wInbW (Nat.mod_lt n (by decide)) (wLt h)),
      wTile p s (n % 8) (n / 8) (Nat.mod_lt n (by decide)) (wLt h)⟩ :: wPieces p s n (Nat.le_of_succ_le h)

theorem wPieces_cover (p : Vec F S1024x512 .i8) (s : Vec F S8x1024 .f32) (y : S1024x1024.Idx) : ∃ q ∈ wPieces p s 64 (Nat.le_refl _), y ∈ q.1.set :=
  View.cover_of_tiledL (wPieces p s 64 (Nat.le_refl _)) S128x128.size (by sl_kernel_rfl) y

/-- The decoded weights. -/
def wDec (p : Vec F S1024x512 .i8) (s : Vec F S8x1024 .f32) : Vec F S1024x1024 .bf16 := View.canon (wPieces p s 64 (Nat.le_refl _))

theorem wRead (v : View sig .tc .vmem S1024x1024 .bf16) (p : Vec F S1024x512 .i8) (s : Vec F S8x1024 .f32) :
    v.readCov (Val := Elt F) (wPieces p s 64 (Nat.le_refl _)) (Rect.unit (s := S1024x1024) ![0, 0] S1024x1024.size inb_S1024x1024_S1024x1024_0_0).toLoadRect = wDec p s := by
  rw [View.readCov_eq_canon_ld v _ _ (wPieces_cover p s)]
  exact View.ld_unit_zero off00 _ _

abbrev m1 (i : grid3.Coords) : Prop := (Scalar.cmpi .ne (Scalar.extui (Scalar.cmpi .eq (BitVec.ofNat 32 (i 2).val) 0#32)) 0#32) = 1#1
abbrev m2 (i : grid3.Coords) : Prop := (Scalar.cmpi .ne (Scalar.extui (Scalar.cmpi .slt (BitVec.ofNat 32 (i 2).val) 3#32)) 0#32) = 1#1
abbrev m3 (i : grid3.Coords) : Prop := k3_cond3 i = 1#1
abbrev m4 (i : grid3.Coords) : Prop := (Scalar.cmpi .ne (Scalar.extui (Scalar.cmpi .sge (BitVec.ofNat 32 (i 2).val) 3#32)) 0#32) = 1#1
abbrev m5 (i : grid3.Coords) : Prop := k3_cond5 i = 1#1

/-- What the steps of one output block ask: the first clears and adds a delta, the next add deltas, the third of them
    stores the delta product, the others add a base product, and the last stores the output. -/
def MCase (i : grid3.Coords) : Prop :=
  (m1 i ∧ m2 i ∧ ¬m3 i ∧ ¬m4 i ∧ ¬m5 i) ∨ (¬m1 i ∧ m2 i ∧ ¬m3 i ∧ ¬m4 i ∧ ¬m5 i) ∨ (¬m1 i ∧ m2 i ∧ m3 i ∧ ¬m4 i ∧ ¬m5 i)
    ∨ (¬m1 i ∧ ¬m2 i ∧ ¬m3 i ∧ m4 i ∧ ¬m5 i) ∨ (¬m1 i ∧ ¬m2 i ∧ ¬m3 i ∧ m4 i ∧ m5 i)

/-- The accumulator after a point. -/
def mAcc (i : grid3.Coords) (a : Vec F S2048x1024 .f32) (x : Vec F S2048x1024 .bf16) (p : Vec F S1024x512 .i8) (s : Vec F S8x1024 .f32) (g : Vec F S2048x1024 .bf16) (q : Vec F S1024x1024 .bf16) : Vec F S2048x1024 .f32 :=
  if m4 i then k3_pay4 a (k3_pay98 x) (wDec p s) else k3_pay2 (if m1 i then k3_pay1 else a) g q
/-- The delta block after a point, -/
def mYd (i : grid3.Coords) (o : Vec F S2048x1024 .bf16) (a : Vec F S2048x1024 .f32) : Vec F S2048x1024 .bf16 := if m3 i then k3_pay3 a else o
/-- and the output block. -/
def mY (i : grid3.Coords) (o : Vec F S2048x1024 .bf16) (a : Vec F S2048x1024 .f32) (b : Vec F S1x1024 .f32) : Vec F S2048x1024 .bf16 := if m5 i then k3_pay5 a b else o

set_option maxHeartbeats 8000000 in
theorem m_body (c : Dev nD) (i : grid3.Coords) (hi : MCase i)
    (arg3 : Memref sig .tc .vmem S2048x1024 .bf16) (harg3 : arg3.IsWhole) (arg4 : Memref sig .tc .vmem S1024x512 .i8) (harg4 : arg4.IsWhole) (arg5 : Memref sig .tc .vmem S8x1024 .f32) (harg5 : arg5.IsWhole) (arg6 : Memref sig .tc .vmem S2048x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S2048x1024 .bf16) (harg9 : arg9.IsWhole) (arg10 : Memref sig .tc .vmem S2048x1024 .bf16) (harg10 : arg10.IsWhole) (arg11 : Memref sig .tc .vmem S2048x1024 .f32) (harg11 : arg11.IsWhole) (arg12 : Memref sig .tc .vmem S1024x1024 .bf16) (harg12 : arg12.IsWhole)
    (x : Vec F S2048x1024 .bf16) (p : Vec F S1024x512 .i8) (s : Vec F S8x1024 .f32) (g : Vec F S2048x1024 .bf16) (q : Vec F S1024x1024 .bf16) (b : Vec F S1x1024 .f32)
    (oy od : Vec F S2048x1024 .bf16) (a : Vec F S2048x1024 .f32) (w : Vec F S1024x1024 .bf16)
    (E : Set ℕ) (K : PUnit → sProp 𝕄) :
    iprop(owns (c : Thread nD τ) arg3 fullShare x ∗ owns (c : Thread nD τ) arg4 fullShare p ∗ owns (c : Thread nD τ) arg5 fullShare s ∗ owns (c : Thread nD τ) arg6 fullShare g ∗ owns (c : Thread nD τ) arg7 fullShare q ∗ owns (c : Thread nD τ) arg8 fullShare b
      ∗ owns (c : Thread nD τ) arg9 fullShare oy ∗ owns (c : Thread nD τ) arg10 fullShare od ∗ owns (c : Thread nD τ) arg11 fullShare a ∗ owns (c : Thread nD τ) arg12 fullShare w
      ∗ (iprop(owns (c : Thread nD τ) arg3 fullShare x ∗ owns (c : Thread nD τ) arg4 fullShare p ∗ owns (c : Thread nD τ) arg5 fullShare s ∗ owns (c : Thread nD τ) arg6 fullShare g ∗ owns (c : Thread nD τ) arg7 fullShare q ∗ owns (c : Thread nD τ) arg8 fullShare b
          ∗ owns (c : Thread nD τ) arg9 fullShare (mY i oy (mAcc i a x p s g q) b) ∗ owns (c : Thread nD τ) arg10 fullShare (mYd i od (mAcc i a x p s g q))
          ∗ owns (c : Thread nD τ) arg11 fullShare (mAcc i a x p s g q) ∗ (∃ w', owns (c : Thread nD τ) arg12 fullShare w')) -∗ K ⟨⟩))
    ⊢ wp frame (wpE (defs₀ (F := F)) Variants.none c none) E (cc3_base_proj i arg3 harg3 arg4 harg4 arg5 harg5 arg6 harg6 arg7 harg7 arg8 harg8 arg9 harg9 arg10 harg10 arg11 harg11 arg12 harg12) K := by
  have e3 := readAt_whole arg3.view off00 inb_S2048x1024_S2048x1024_0_0 _ x (harg3.read_unread x)
  have e4 := readAt_whole arg4.view off00 inb_S1024x512_S1024x512_0_0 _ p (harg4.read_unread p)
  have e6 := readAt_whole arg6.view off00 inb_S2048x1024_S2048x1024_0_0 _ g (harg6.read_unread g)
  have e7 := readAt_whole arg7.view off00 inb_S1024x1024_S1024x1024_0_0 _ q (harg7.read_unread q)
  have e8 := readAt_whole arg8.view off00 inb_S1x1024_S1x1024_0_0 _ b (harg8.read_unread b)
  have e11 := readAt_whole arg11.view off00 inb_S2048x1024_S2048x1024_0_0 _ a (harg11.read_unread a)
  have c11 := readCov_last (Val := Elt F) arg11.view inb_S2048x1024_S2048x1024_0_0
  have r9 := read_last (Val := Elt F) arg9.view off00 inb_S2048x1024_S2048x1024_0_0
  have r10 := read_last (Val := Elt F) arg10.view off00 inb_S2048x1024_S2048x1024_0_0
  have r11 := read_last (Val := Elt F) arg11.view off00 inb_S2048x1024_S2048x1024_0_0
  simp only [cc3_base_proj_eq_skeleton]; unfold cc3_base_proj_skel
  simp only [k3_part18_eq_skeleton, k3_part1_eq_skeleton, k3_part2_eq_skeleton, k3_part3_eq_skeleton, k3_part4_eq_skeleton, k3_part5_eq_skeleton, k3_part6_eq_skeleton, k3_part7_eq_skeleton, k3_part8_eq_skeleton, k3_part9_eq_skeleton, k3_part10_eq_skeleton, k3_part11_eq_skeleton, k3_part12_eq_skeleton, k3_part13_eq_skeleton, k3_part14_eq_skeleton, k3_part15_eq_skeleton, k3_part16_eq_skeleton, k3_part17_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg3.eq_unread hf3; obtain rfl := harg4.eq_unread hf4; obtain rfl := harg6.eq_unread hf6; obtain rfl := harg7.eq_unread hf7; obtain rfl := harg8.eq_unread hf8
  obtain rfl := harg9.eq_unread hf9; obtain rfl := harg10.eq_unread hf10; obtain rfl := harg11.eq_unread hf11; obtain rfl := harg12.eq_unread hf12
  subst hf5
  have hw := wRead arg12.view p (arg5.view.read (Elt F) f5)
  rcases hi with ⟨h1, h2, h3, h4, h5⟩ | ⟨h1, h2, h3, h4, h5⟩ | ⟨h1, h2, h3, h4, h5⟩ | ⟨h1, h2, h3, h4, h5⟩ | ⟨h1, h2, h3, h4, h5⟩
  all_goals
    sl_exec (disch := first | sl_exact h1 | sl_exact h2 | sl_exact h3 | sl_exact h4 | sl_exact h5)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists f5; isplitr; · ipureintro; rfl
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr
      swap; · iexact H9
      ipureintro
      sl_unfold_words
      simp only [r9, c11, e3, e4, e6, e7, e8, e11, hf9, mY, mAcc]
      all_goals (try rw [← hw])
      all_goals split_ifs <;> first | rfl | contradiction
    isplitl [H10]
    · iexists _; isplitr
      swap; · iexact H10
      ipureintro
      sl_unfold_words
      simp only [r10, c11, e3, e4, e6, e7, e8, e11, hf10, mYd, mAcc]
      all_goals (try rw [← hw])
      all_goals split_ifs <;> first | rfl | contradiction
    isplitl [H11]
    · iexists _; isplitr
      swap; · iexact H11
      ipureintro
      sl_unfold_words
      simp only [r11, c11, e3, e4, e6, e7, e8, e11, hf11, mAcc]
      all_goals (try rw [← hw])
      all_goals split_ifs <;> first | rfl | contradiction
    · iexists _, _; isplitr
      swap; · iexact H12
      ipureintro; rfl

end Cert.KernelIdeal.Gen

end
-- ==== Proof.MRegion.lean ====
/- The first product (`base_proj`) over its grid: what its buffers hold point by point, and the obligation of its body. -/
module

public import proofs.«01_k».proof.Proof.MBody
public import Idealize.ShloMosaic.Lib.Pipeline.TableIdle

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (W : Dev nD → Valuation τ sig (Elt F))

/-- Window `w`'s block at point `t`, read off the array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (W c (Proc.devRef .tc (Pipeline.arrRef spec3 w)))

/-- The accumulator after point `n`. -/
def mAccAt (c : Dev nD) : (n : ℕ) → n < cfg3.N → Vec F S2048x1024 .f32
  | 0, hn => mAcc (grid3.coords ⟨0, hn⟩) k3_pay1 (iblk3 W c 0 ⟨0, hn⟩) (iblk3 W c 1 ⟨0, hn⟩) (iblk3 W c 2 ⟨0, hn⟩) (iblk3 W c 3 ⟨0, hn⟩) (iblk3 W c 4 ⟨0, hn⟩)
  | n + 1, hn => mAcc (grid3.coords ⟨n + 1, hn⟩) (mAccAt c n (Nat.lt_of_succ_lt hn)) (iblk3 W c 0 ⟨n + 1, hn⟩) (iblk3 W c 1 ⟨n + 1, hn⟩) (iblk3 W c 2 ⟨n + 1, hn⟩) (iblk3 W c 3 ⟨n + 1, hn⟩) (iblk3 W c 4 ⟨n + 1, hn⟩)

theorem mThird_lt (t : Fin cfg3.N) : 19 * (t.val / 19) + 2 < cfg3.N := by
  have h : t.val < 190 := Nat.lt_of_lt_of_eq t.isLt N_3
  exact Nat.lt_of_lt_of_eq (by omega : 19 * (t.val / 19) + 2 < 190) N_3.symm

/-- What the call keeps between points: its accumulator at what the point before left, the decoded weights' scratch at
    anything, the buffers of the other calls, and the generator register. -/
def mPhi (c : Dev nD) (n : ℕ) (hn : n ≤ cfg3.N) : sProp 𝕄 :=
  iprop((∃ a, ⌜∀ k (hk : k < cfg3.N), n = k + 1 → a = mAccAt W c k hk⌝ ∗ owns (c : Thread nD τ) (Memref.whole cc3_scratch0 : Memref sig .tc .vmem S2048x1024 .f32) fullShare a)
    ∗ (∃ w, owns (c : Thread nD τ) (Memref.whole cc3_scratch1 : Memref sig .tc .vmem S1024x1024 .bf16) fullShare w)
    ∗ Pipeline.scopedRestBut spec3 c [cc3_scratch0, cc3_scratch1] ∗ ∃ r, prngReg c r)

/-- The proof data of the call. -/
def mDat (c : Dev nD) : Dat τ (Elt F) Unit ℕ (UR sig nD τ) ℕ cfg3 c where
  A w := W c (Proc.devRef .tc (Pipeline.arrRef spec3 w))
  after w t := match w with
    | ⟨0, _⟩ => iblk3 W c 0 t
    | ⟨1, _⟩ => iblk3 W c 1 t
    | ⟨2, _⟩ => iblk3 W c 2 t
    | ⟨3, _⟩ => iblk3 W c 3 t
    | ⟨4, _⟩ => iblk3 W c 4 t
    | ⟨5, _⟩ => iblk3 W c 5 t
    | ⟨6, _⟩ => k3_pay5 (mAccAt W c t.val t.isLt) (iblk3 W c 5 t)
    | ⟨7, _⟩ => k3_pay3 (mAccAt W c (19 * (t.val / 19) + 2) (mThird_lt t))
  Φ t := mPhi W c t.val (Nat.le_of_lt_succ t.isLt)
  q _ := fullShare
  owed _ := 0

theorem mA_eq (c : Dev nD) (w : Fin cfg3.W) : (mDat W c).A w = W c (Proc.devRef .tc (Pipeline.arrRef spec3 w)) := by
  dsimp only [mDat]
theorem mAfter_0 (c : Dev nD) (t : Fin cfg3.N) : (mDat W c).after 0 t = iblk3 W c 0 t := by dsimp only [mDat]
theorem mAfter_1 (c : Dev nD) (t : Fin cfg3.N) : (mDat W c).after 1 t = iblk3 W c 1 t := by dsimp only [mDat]
theorem mAfter_2 (c : Dev nD) (t : Fin cfg3.N) : (mDat W c).after 2 t = iblk3 W c 2 t := by dsimp only [mDat]
theorem mAfter_3 (c : Dev nD) (t : Fin cfg3.N) : (mDat W c).after 3 t = iblk3 W c 3 t := by dsimp only [mDat]
theorem mAfter_4 (c : Dev nD) (t : Fin cfg3.N) : (mDat W c).after 4 t = iblk3 W c 4 t := by dsimp only [mDat]
theorem mAfter_5 (c : Dev nD) (t : Fin cfg3.N) : (mDat W c).after 5 t = iblk3 W c 5 t := by dsimp only [mDat]
theorem mAfter_6 (c : Dev nD) (t : Fin cfg3.N) : (mDat W c).after 6 t = k3_pay5 (mAccAt W c t.val t.isLt) (iblk3 W c 5 t) := by dsimp only [mDat]
theorem mAfter_7 (c : Dev nD) (t : Fin cfg3.N) : (mDat W c).after 7 t = k3_pay3 (mAccAt W c (19 * (t.val / 19) + 2) (mThird_lt t)) := by dsimp only [mDat]
theorem mBefore_0 (c : Dev nD) (t : Fin cfg3.N) (d) : (mDat W c).before 0 t d = iblk3 W c 0 t :=
  ((mDat W c).before_in_eq_fetched 0 rfl (fun _ => rfl) (fun _ _ _ => rfl) (fun t => by rw [mAfter_0]; unfold Dat.blockOf iblk3; rw [mA_eq]; try rfl) t d).trans
    (by unfold Dat.fetched Dat.blockOf iblk3; rw [mA_eq]; try rfl)
theorem mBefore_1 (c : Dev nD) (t : Fin cfg3.N) (d) : (mDat W c).before 1 t d = iblk3 W c 1 t :=
  ((mDat W c).before_in_eq_fetched 1 rfl (fun _ => rfl) (fun _ _ _ => rfl) (fun t => by rw [mAfter_1]; unfold Dat.blockOf iblk3; rw [mA_eq]; try rfl) t d).trans
    (by unfold Dat.fetched Dat.blockOf iblk3; rw [mA_eq]; try rfl)
theorem mBefore_2 (c : Dev nD) (t : Fin cfg3.N) (d) : (mDat W c).before 2 t d = iblk3 W c 2 t :=
  ((mDat W c).before_in_eq_fetched 2 rfl (fun _ => rfl) (fun _ _ _ => rfl) (fun t => by rw [mAfter_2]; unfold Dat.blockOf iblk3; rw [mA_eq]; try rfl) t d).trans
    (by unfold Dat.fetched Dat.blockOf iblk3; rw [mA_eq]; try rfl)
theorem mBefore_3 (c : Dev nD) (t : Fin cfg3.N) (d) : (mDat W c).before 3 t d = iblk3 W c 3 t :=
  ((mDat W c).before_in_eq_fetched 3 rfl (fun _ => rfl) (fun _ _ _ => rfl) (fun t => by rw [mAfter_3]; unfold Dat.blockOf iblk3; rw [mA_eq]; try rfl) t d).trans
    (by unfold Dat.fetched Dat.blockOf iblk3; rw [mA_eq]; try rfl)
theorem mBefore_4 (c : Dev nD) (t : Fin cfg3.N) (d) : (mDat W c).before 4 t d = iblk3 W c 4 t :=
  ((mDat W c).before_in_eq_fetched 4 rfl (fun _ => rfl) (fun _ _ _ => rfl) (fun t => by rw [mAfter_4]; unfold Dat.blockOf iblk3; rw [mA_eq]; try rfl) t d).trans
    (by unfold Dat.fetched Dat.blockOf iblk3; rw [mA_eq]; try rfl)
theorem mBefore_5 (c : Dev nD) (t : Fin cfg3.N) (d) : (mDat W c).before 5 t d = iblk3 W c 5 t :=
  ((mDat W c).before_in_eq_fetched 5 rfl (fun _ => rfl) (fun _ _ _ => rfl) (fun t => by rw [mAfter_5]; unfold Dat.blockOf iblk3; rw [mA_eq]; try rfl) t d).trans
    (by unfold Dat.fetched Dat.blockOf iblk3; rw [mA_eq]; try rfl)

theorem m1_iff : ∀ t : Fin cfg3.N, m1 (grid3.coords t) ↔ t.val % 19 = 0 :=
  (fun t => by
    have ht : t.val < 190 := Nat.lt_of_lt_of_eq t.isLt N_3
    have e0 : (grid3.coords t 0).val = t.val / 95 % 2 := Pipeline.Grid.coords_val t 0 (by decide) rfl
    have e1 : (grid3.coords t 1).val = t.val / 19 % 5 := Pipeline.Grid.coords_val t 1 (by decide) rfl
    have e2 : (grid3.coords t 2).val = t.val / 1 % 19 := Pipeline.Grid.coords_val t 2 (by decide) rfl
    simp only [m1, k3_cond3, k3_cond5, e0, e1, e2]
    word_cmp
   : ∀ t : Fin grid3.N, m1 (grid3.coords t) ↔ t.val % 19 = 0)
theorem m2_iff : ∀ t : Fin cfg3.N, m2 (grid3.coords t) ↔ t.val % 19 ≤ 2 :=
  (fun t => by
    have ht : t.val < 190 := Nat.lt_of_lt_of_eq t.isLt N_3
    have e0 : (grid3.coords t 0).val = t.val / 95 % 2 := Pipeline.Grid.coords_val t 0 (by decide) rfl
    have e1 : (grid3.coords t 1).val = t.val / 19 % 5 := Pipeline.Grid.coords_val t 1 (by decide) rfl
    have e2 : (grid3.coords t 2).val = t.val / 1 % 19 := Pipeline.Grid.coords_val t 2 (by decide) rfl
    simp only [m2, k3_cond3, k3_cond5, e0, e1, e2]
    word_cmp
   : ∀ t : Fin grid3.N, m2 (grid3.coords t) ↔ t.val % 19 ≤ 2)
theorem m3_iff : ∀ t : Fin cfg3.N, m3 (grid3.coords t) ↔ t.val % 19 = 2 :=
  (fun t => by
    have ht : t.val < 190 := Nat.lt_of_lt_of_eq t.isLt N_3
    have e0 : (grid3.coords t 0).val = t.val / 95 % 2 := Pipeline.Grid.coords_val t 0 (by decide) rfl
    have e1 : (grid3.coords t 1).val = t.val / 19 % 5 := Pipeline.Grid.coords_val t 1 (by decide) rfl
    have e2 : (grid3.coords t 2).val = t.val / 1 % 19 := Pipeline.Grid.coords_val t 2 (by decide) rfl
    simp only [m3, k3_cond3, k3_cond5, e0, e1, e2]
    word_cmp
   : ∀ t : Fin grid3.N, m3 (grid3.coords t) ↔ t.val % 19 = 2)
theorem m4_iff : ∀ t : Fin cfg3.N, m4 (grid3.coords t) ↔ 3 ≤ t.val % 19 :=
  (fun t => by
    have ht : t.val < 190 := Nat.lt_of_lt_of_eq t.isLt N_3
    have e0 : (grid3.coords t 0).val = t.val / 95 % 2 := Pipeline.Grid.coords_val t 0 (by decide) rfl
    have e1 : (grid3.coords t 1).val = t.val / 19 % 5 := Pipeline.Grid.coords_val t 1 (by decide) rfl
    have e2 : (grid3.coords t 2).val = t.val / 1 % 19 := Pipeline.Grid.coords_val t 2 (by decide) rfl
    simp only [m4, k3_cond3, k3_cond5, e0, e1, e2]
    word_cmp
   : ∀ t : Fin grid3.N, m4 (grid3.coords t) ↔ 3 ≤ t.val % 19)
theorem m5_iff : ∀ t : Fin cfg3.N, m5 (grid3.coords t) ↔ t.val % 19 = 18 :=
  (fun t => by
    have ht : t.val < 190 := Nat.lt_of_lt_of_eq t.isLt N_3
    have e0 : (grid3.coords t 0).val = t.val / 95 % 2 := Pipeline.Grid.coords_val t 0 (by decide) rfl
    have e1 : (grid3.coords t 1).val = t.val / 19 % 5 := Pipeline.Grid.coords_val t 1 (by decide) rfl
    have e2 : (grid3.coords t 2).val = t.val / 1 % 19 := Pipeline.Grid.coords_val t 2 (by decide) rfl
    simp only [m5, k3_cond3, k3_cond5, e0, e1, e2]
    word_cmp
   : ∀ t : Fin grid3.N, m5 (grid3.coords t) ↔ t.val % 19 = 18)

theorem mCase (t : Fin cfg3.N) : MCase (grid3.coords t) := by
  unfold MCase
  rw [m1_iff, m2_iff, m3_iff, m4_iff, m5_iff]
  omega

theorem mLive6 : ∀ t : Fin cfg3.N, m5 (grid3.coords t) → cfg3.idle 6 (grid3.coords t) = false := by decide +kernel
theorem mIdle6 : ∀ t : Fin cfg3.N, ¬m5 (grid3.coords t) → cfg3.idle 6 (grid3.coords t) = true := by decide +kernel
theorem mNoFlush6 : ∀ t : Fin cfg3.N, ¬m5 (grid3.coords t) → (cfg3.win 6).flush t = false := by decide +kernel
theorem mLive7 : ∀ t : Fin cfg3.N, m3 (grid3.coords t) → cfg3.idle 7 (grid3.coords t) = false := by decide +kernel
theorem mIdle7 : ∀ t : Fin cfg3.N, ¬m3 (grid3.coords t) → cfg3.idle 7 (grid3.coords t) = true := by decide +kernel
theorem mNoFlush7 : ∀ t : Fin cfg3.N, ¬m5 (grid3.coords t) → (cfg3.win 7).flush t = false := by decide +kernel
theorem mFlush7 : ∀ t : Fin cfg3.N, m5 (grid3.coords t) → (cfg3.win 7).flush t = true := by decide +kernel
theorem mFetch7 : ∀ t : Fin cfg3.N, (cfg3.win 7).fetch t = false := by decide +kernel

theorem mAccAt_congr (c : Dev nD) {n k : ℕ} (h : n = k) (hn : n < cfg3.N) (hk : k < cfg3.N) : mAccAt W c n hn = mAccAt W c k hk := by
  subst h; rfl

section
variable {cfg : Cfg sig Λ₀} {c : Dev nD} (dat : Dat τ (Elt F) Unit ℕ (UR sig nD τ) ℕ cfg c)
theorem left_live (w : Fin cfg.W) (t : Fin cfg.N) (d) (h : cfg.idle w (cfg.grid.coords t) = false) : dat.left w t d = dat.kept w t d := by
  unfold Dat.left; rw [h]
theorem left_idle (w : Fin cfg.W) (t : Fin cfg.N) (d) (h : cfg.idle w (cfg.grid.coords t) = true) : dat.left w t d = dat.before w t d := by
  unfold Dat.left; rw [h]
end

/-- From the fourth step of an output block on, the delta block's buffer holds what the third stored. -/
theorem mBefore_7 (c : Dev nD) (d) : ∀ (n : ℕ) (hn : n < cfg3.N), 3 ≤ n % 19 →
    (mDat W c).before 7 ⟨n, hn⟩ d = k3_pay3 (mAccAt W c (19 * (n / 19) + 2) (mThird_lt ⟨n, hn⟩)) := by
  intro n
  induction n with
  | zero => intro hn h; simp at h
  | succ n ih =>
    intro hn h
    have hn' : n < cfg3.N := Nat.lt_of_succ_lt hn
    have hd : (n + 1) / 19 = n / 19 := by omega
    have hnf : (cfg3.win 7).flush ⟨n, hn'⟩ = false := mNoFlush7 ⟨n, hn'⟩ (fun h5 => by
      have := (m5_iff ⟨n, hn'⟩).mp h5; simp only at this; omega)
    rw [Dat.before_of_pos (mDat W c) 7 ⟨n + 1, hn⟩ (Nat.succ_ne_zero n) (mFetch7 _) d]
    rw [if_neg (by rw [show (cfg3.win 7).flush ⟨(n + 1) - 1, _⟩ = false from hnf]; exact Bool.false_ne_true)]
    rw [show (⟨(n + 1) - 1, Nat.lt_of_le_of_lt (Nat.sub_le _ _) hn⟩ : Fin cfg3.N) = ⟨n, hn'⟩ from rfl]
    rw [mAccAt_congr W c (show 19 * ((n + 1) / 19) + 2 = 19 * (n / 19) + 2 by rw [hd]) (mThird_lt ⟨n + 1, hn⟩) (mThird_lt ⟨n, hn'⟩)]
    by_cases h3 : n % 19 = 2
    · rw [left_live (mDat W c) 7 ⟨n, hn'⟩ d (mLive7 ⟨n, hn'⟩ ((m3_iff ⟨n, hn'⟩).mpr h3))]
      unfold Dat.kept
      rw [mAfter_7]
      rfl
    · rw [left_idle (mDat W c) 7 ⟨n, hn'⟩ d (mIdle7 ⟨n, hn'⟩ (fun e => h3 ((m3_iff ⟨n, hn'⟩).mp e)))]
      exact ih hn' (by omega)

/-- One point's accumulation from whatever the point before left. -/
theorem mAccAt_step (c : Dev nD) (t : Fin cfg3.N) (a : Vec F S2048x1024 .f32)
    (ha : ∀ k (hk : k < cfg3.N), t.val = k + 1 → a = mAccAt W c k hk) :
    mAcc (grid3.coords t) a (iblk3 W c 0 t) (iblk3 W c 1 t) (iblk3 W c 2 t) (iblk3 W c 3 t) (iblk3 W c 4 t) = mAccAt W c t.val t.isLt := by
  obtain ⟨n, hn⟩ := t
  cases n with
  | zero =>
    have h0 : m1 (grid3.coords ⟨0, hn⟩) := (m1_iff ⟨0, hn⟩).mpr rfl
    have h4 : ¬m4 (grid3.coords ⟨0, hn⟩) := fun h => absurd ((m4_iff ⟨0, hn⟩).mp h) (by simp)
    show _ = mAcc (grid3.coords ⟨0, hn⟩) k3_pay1 (iblk3 W c 0 ⟨0, hn⟩) (iblk3 W c 1 ⟨0, hn⟩) (iblk3 W c 2 ⟨0, hn⟩) (iblk3 W c 3 ⟨0, hn⟩) (iblk3 W c 4 ⟨0, hn⟩)
    unfold mAcc; rw [if_neg h4, if_neg h4, if_pos h0, if_pos h0]
  | succ n => rw [ha n (Nat.lt_of_succ_lt hn) rfl]; rfl

/-- What the body is called with at point `t`, the windows one by one, -/
def mBodyPre (c : Dev nD) (t : Fin cfg3.N) : sProp 𝕄 :=
  iprop((mDat W c).Φ t.castSucc ∗ (mDat W c).owesAt () t.castSucc
    ∗ (∃ d, owns (c : Thread nD τ) (st3_0 t) fullShare ((mDat W c).before 0 t d))
    ∗ (∃ d, owns (c : Thread nD τ) (st3_1 t) fullShare ((mDat W c).before 1 t d))
    ∗ (∃ d, owns (c : Thread nD τ) (st3_2 t) fullShare ((mDat W c).before 2 t d))
    ∗ (∃ d, owns (c : Thread nD τ) (st3_3 t) fullShare ((mDat W c).before 3 t d))
    ∗ (∃ d, owns (c : Thread nD τ) (st3_4 t) fullShare ((mDat W c).before 4 t d))
    ∗ (∃ d, owns (c : Thread nD τ) (st3_5 t) fullShare ((mDat W c).before 5 t d))
    ∗ (∃ d, owns (c : Thread nD τ) (st3_6 t) fullShare ((mDat W c).before 6 t d))
    ∗ (∃ d, owns (c : Thread nD τ) (st3_7 t) fullShare ((mDat W c).before 7 t d)))
/-- and what it returns. -/
def mBodyPost (c : Dev nD) (t : Fin cfg3.N) : sProp 𝕄 :=
  iprop((mDat W c).Φ t.succ ∗ (mDat W c).owesAt () t.succ
    ∗ (mDat W c).leavesExact 0 t ∗ (mDat W c).leavesExact 1 t ∗ (mDat W c).leavesExact 2 t ∗ (mDat W c).leavesExact 3 t ∗ (mDat W c).leavesExact 4 t ∗ (mDat W c).leavesExact 5 t ∗ (mDat W c).leavesExact 6 t ∗ (mDat W c).leavesExact 7 t)

set_option maxHeartbeats 3200000 in
theorem m_sound (c : Dev nD) (t : Fin cfg3.N) :
    mBodyPre W c t ⊢ wp frame (wpE (defs₀ (F := F)) Variants.none c none) Set.univ (bodyAt3 t) (fun _ => mBodyPost W c t) := by
  unfold mBodyPre mBodyPost bodyAt3
  simp only [mBefore_0, mBefore_1, mBefore_2, mBefore_3, mBefore_4, mBefore_5]
  rw [show (mDat W c).owesAt () t.succ = (mDat W c).owesAt () t.castSucc from rfl]
  rw [show (mDat W c).Φ t.succ = mPhi W c (t.val + 1) t.isLt from rfl,
    show (mDat W c).Φ t.castSucc = mPhi W c t.val (Nat.le_of_lt t.isLt) from rfl]
  rw [show (mDat W c).leavesExact 0 t = owns (c : Thread nD τ) (st3_0 t) fullShare (iblk3 W c 0 t) from by
      unfold Dat.leavesExact; rw [show cfg3.idle 0 (grid3.coords t) = false from rfl, mAfter_0]]
  rw [show (mDat W c).leavesExact 1 t = owns (c : Thread nD τ) (st3_1 t) fullShare (iblk3 W c 1 t) from by
      unfold Dat.leavesExact; rw [show cfg3.idle 1 (grid3.coords t) = false from rfl, mAfter_1]]
  rw [show (mDat W c).leavesExact 2 t = owns (c : Thread nD τ) (st3_2 t) fullShare (iblk3 W c 2 t) from by
      unfold Dat.leavesExact; rw [show cfg3.idle 2 (grid3.coords t) = false from rfl, mAfter_2]]
  rw [show (mDat W c).leavesExact 3 t = owns (c : Thread nD τ) (st3_3 t) fullShare (iblk3 W c 3 t) from by
      unfold Dat.leavesExact; rw [show cfg3.idle 3 (grid3.coords t) = false from rfl, mAfter_3]]
  rw [show (mDat W c).leavesExact 4 t = owns (c : Thread nD τ) (st3_4 t) fullShare (iblk3 W c 4 t) from by
      unfold Dat.leavesExact; rw [show cfg3.idle 4 (grid3.coords t) = false from rfl, mAfter_4]]
  rw [show (mDat W c).leavesExact 5 t = owns (c : Thread nD τ) (st3_5 t) fullShare (iblk3 W c 5 t) from by
      unfold Dat.leavesExact; rw [show cfg3.idle 5 (grid3.coords t) = false from rfl, mAfter_5]]
  unfold mPhi
  iintro ⟨⟨⟨%a, %ha, HS⟩, ⟨%w, HT⟩, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (m_body c (grid3.coords t) (mCase t) _ _ _ _ _ _ _ _ _ _ _ _ _ _ _ _ _ _ _ _ (iblk3 W c 0 t) (iblk3 W c 1 t) (iblk3 W c 2 t) (iblk3 W c 3 t) (iblk3 W c 4 t) (iblk3 W c 5 t) ((mDat W c).before 6 t d6) ((mDat W c).before 7 t d7) a w Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  isplitl [HT]; · iexact HT
  rw [mAccAt_step W c t a ha]
  iintro ⟨H0, H1, H2, H3, H4, H5, H6, H7, HS, HT⟩
  isplitl [HS HT Hr Hg]
  · isplitl [HS]
    · iexists _; isplitr
      swap; · iexact HS
      ipureintro; intro k hk e
      obtain rfl : t.val = k := Nat.succ.inj e
      rfl
    isplitl [HT]; · iexact HT
    isplitl [Hr]; · iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · by_cases h5 : m5 (grid3.coords t)
    · rw [show (mDat W c).leavesExact 6 t = owns (c : Thread nD τ) (st3_6 t) fullShare (k3_pay5 (mAccAt W c t.val t.isLt) (iblk3 W c 5 t)) from by
        unfold Dat.leavesExact; rw [mLive6 t h5, mAfter_6]]
      unfold mY; rw [if_pos h5]; iexact H6
    · rw [Dat.leavesExact_idle (mDat W c) 6 t (mIdle6 t h5) (mNoFlush6 t h5)]
      unfold mY; rw [if_neg h5]; iexists _; iexact H6
  by_cases h3 : m3 (grid3.coords t)
  · have e3 : 19 * (t.val / 19) + 2 = t.val := by have := (m3_iff t).mp h3; omega
    rw [show (mDat W c).leavesExact 7 t = owns (c : Thread nD τ) (st3_7 t) fullShare (k3_pay3 (mAccAt W c t.val t.isLt)) from by
      unfold Dat.leavesExact; rw [mLive7 t h3, mAfter_7, mAccAt_congr W c e3 (mThird_lt t) t.isLt]]
    unfold mYd; rw [if_pos h3]; iexact H7
  · by_cases h5 : m5 (grid3.coords t)
    · rw [show (mDat W c).leavesExact 7 t = owns (c : Thread nD τ) (st3_7 t) fullShare (k3_pay3 (mAccAt W c (19 * (t.val / 19) + 2) (mThird_lt t))) from by
        unfold Dat.leavesExact; rw [mIdle7 t h3, mFlush7 t h5, mAfter_7],
        show (mDat W c).before 7 t d7 = k3_pay3 (mAccAt W c (19 * (t.val / 19) + 2) (mThird_lt t)) from
          mBefore_7 W c d7 t.val t.isLt (by have := (m5_iff t).mp h5; omega)]
      unfold mYd; rw [if_neg h3]; iexact H7
    · rw [Dat.leavesExact_idle (mDat W c) 7 t (mIdle7 t h3) (mNoFlush7 t h5)]
      unfold mYd; rw [if_neg h3]; iexists _; iexact H7

theorem defs₀_row3 (t : Fin cfg3.N) :
    defs₀ (F := F) .tc cfg3.body (cfg3.bodyArgs t (cfg3.slots t)) = bodyAt3 t := by
  unfold defs₀; rw [Defs.onTc_tc]

theorem m_obligation (c : Dev nD) : BodyObligation (mDat (F := F) W c) (defs₀ (F := F)) Variants.none () Set.univ := fun t => by
  rw [bigSep_W3, bigSep_W3, defs₀_row3]
  exact triple_restated (m_sound W c t) rfl .rfl fun _ => .rfl

theorem scopedRest3_split (c : Dev nD) :
    (Pipeline.scopedRest (Val := Elt F) spec3 c : sProp 𝕄)
      = iprop(iprop((∃ f : Buf (Elt F) ((c : Thread nD τ).loc cc3_scratch0), ((c : Thread nD τ).loc cc3_scratch0) ↦{fullShare} f) ∗ (∃ f : Buf (Elt F) ((c : Thread nD τ).loc cc3_scratch1), ((c : Thread nD τ).loc cc3_scratch1) ↦{fullShare} f))
          ∗ Pipeline.scopedRestBut spec3 c [cc3_scratch0, cc3_scratch1]) :=
  Pipeline.scopedRest_split_of_list spec3 c [cc3_scratch0, cc3_scratch1] (by decide) (by decide)

/-- The call is entered from the buffers no window stages and the generator register, -/
theorem m_in (c : Dev nD) : iprop(Pipeline.scopedRest spec3 c ∗ ∃ r, prngReg c r) ⊢ (mDat (F := F) W c).Φ 0 := by
  rw [show (mDat W c).Φ 0 = mPhi W c 0 (Nat.zero_le _) from rfl, scopedRest3_split]
  unfold mPhi; simp only [owns_whole]
  iintro ⟨⟨⟨⟨%f, Hs⟩, ⟨%g, Ht⟩⟩, Hr⟩, Hg⟩
  isplitl [Hs]
  · iexists _; isplitr
    swap; · iexact Hs
    ipureintro; intro k hk e; exact absurd e (Nat.succ_ne_zero k).symm
  isplitl [Ht]; · iexists _; iexact Ht
  isplitl [Hr]; · iexact Hr
  iexact Hg

/-- and gives them back. -/
theorem m_out (c : Dev nD) : (mDat (F := F) W c).Φ (Fin.last cfg3.N) ⊢ iprop(Pipeline.scopedRest spec3 c ∗ ∃ r, prngReg c r) := by
  rw [show (mDat W c).Φ (Fin.last cfg3.N) = mPhi W c cfg3.N (Nat.le_refl _) from rfl, scopedRest3_split]
  unfold mPhi; simp only [owns_whole]
  iintro ⟨⟨%f, %hf, Hs⟩, ⟨%g, Ht⟩, Hr, Hg⟩
  isplitl [Hs Ht Hr]
  · isplitl [Hs Ht]
    · isplitl [Hs]
      · iexists _; iexact Hs
      iexists _; iexact Ht
    iexact Hr
  iexact Hg

end Cert.KernelIdeal.Gen

end
-- ==== Proof.Run.lean ====
/- The four calls joined with the host's operations: one run of the whole program, its arguments unchanged, its counters zero,
   and its two results read off the contents the last item leaves. -/
module

public import proofs.«01_k».proof.Proof.PRegion
public import proofs.«01_k».proof.Proof.QRegion
public import proofs.«01_k».proof.Proof.HRegion
public import proofs.«01_k».proof.Proof.MRegion
public import proofs.«01_k».proof.Proof.Gen.KernelIdeal.Regions
public import Idealize.ShloMosaic.Lib.Pipeline.RegionArraysS

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]

local notation "𝕄" => MT nD τ sig Unit (Elt F) ℕ (UR sig nD τ) ℕ

variable (m : (ℓ : Loc nD τ sig) → Buf (Elt F) ℓ)

/-! ## What each call finds and leaves -/

/-- What the row factor leaves of `r`. -/
def left0 (c : Dev nD) (r : Ref sig .tc) : Buf (Elt F) ((c : Thread nD τ).loc r) :=
  Pipeline.afterRegion (pDat (V7 m) c) (V7 m c) (Proc.devRef .tc r)
/-- The contents after the row factor. -/
def X8 (c : Dev nD) : Valuation τ sig (Elt F) := Function.update (V7 m c) main_v10 (left0 m c main_v10)
/-- What the column factor leaves of `r`. -/
def left1 (c : Dev nD) (r : Ref sig .tc) : Buf (Elt F) ((c : Thread nD τ).loc r) :=
  Pipeline.afterRegion (qDat (X8 m) c) (X8 m c) (Proc.devRef .tc r)
/-- The contents after the column factor, its two halves stacked. -/
def X10 (c : Dev nD) : Valuation τ sig (Elt F) :=
  StableHlo.after hostOps2 (Function.update (Function.update (X8 m c) main_v11_0 (left1 m c main_v11_0)) main_v11_1 (left1 m c main_v11_1))
/-- What the projection onto the row factor leaves of `r`. -/
def left2 (c : Dev nD) (r : Ref sig .tc) : Buf (Elt F) ((c : Thread nD τ).loc r) :=
  Pipeline.afterRegion (hDat (X10 m) c) (X10 m c) (Proc.devRef .tc r)
/-- The contents the last call finds. -/
def X12 (c : Dev nD) : Valuation τ sig (Elt F) :=
  StableHlo.after hostOps3 (Function.update (X10 m c) main_v13 (left2 m c main_v13))
/-- What the last call leaves of `r`. -/
def left3 (c : Dev nD) (r : Ref sig .tc) : Buf (Elt F) ((c : Thread nD τ).loc r) :=
  Pipeline.afterRegion (mDat (X12 m) c) (X12 m c) (Proc.devRef .tc r)

/-- What the calls leave. -/
def left : Outs (F := F) := fun n r c => match n with
  | 8 => left0 m c r
  | 9 => left1 m c r
  | 11 => left2 m c r
  | 13 => left3 m c r
  | _ => m ((c : Thread nD τ).loc r)

theorem V8_left : V8 m (left m) = X8 m := rfl
theorem V10_left : V10 m (left m) = X10 m := rfl
theorem V12_left : V12 m (left m) = X12 m := rfl

/-- The four calls' proof data. -/
def wDats : (p : Fin 4) → (c : Dev nD) → Dat τ (Elt F) Unit ℕ (UR sig nD τ) ℕ (cfgs p) c
  | ⟨0, _⟩ => fun c => pDat (V7 m) c
  | ⟨1, _⟩ => fun c => qDat (X8 m) c
  | ⟨2, _⟩ => fun c => hDat (X10 m) c
  | ⟨3, _⟩ => fun c => mDat (X12 m) c

/-- The one index is assigned at every counter of the core that runs the program. -/
def lvL : GSem nD τ sig → Finset Unit := fun g => if g.1.2 = .tc then {()} else ∅
/-- Every index sits at level zero. -/
def lvV : GSem nD τ sig → Unit → ℕ := fun _ _ => 0

theorem lvL_off (g : GSem nD τ sig) (h : g.1.2 ≠ .tc) : lvL g = ∅ := if_neg h

theorem lv_cut (p : Fin 4) : Pipeline.LevelCut (pcfgs (F := F)) adm () lvL lvV p (fun _ => 0) (fun _ => 0) where
  hι c w s := by
    unfold lvL; rw [if_pos rfl]; exact Finset.mem_singleton_self _
  hιb _ _ _ := Nat.le_refl _
  hD c g i h := absurd h (Nat.lt_irrefl _)

/-- What rides beside the buffers between the items: the core owes nothing, and its generator register. -/
def rest (c : Dev nD) : sProp 𝕄 :=
  iprop((∃ Wd, owes (c : Thread nD τ) (0 : CellTallies nD τ sig Unit) Wd) ∗ (∃ r, prngReg c r) ∗ emp)

theorem ucRefs_elim {b : DevRef τ sig} (hb : b ∈ Pipeline.ucRefs τ sig) : ∃ r : Ref sig .tc, b = Proc.devRef .tc r := by
  obtain ⟨h, -⟩ := Finset.mem_filter.mp hb
  obtain ⟨r, -, rfl⟩ := Finset.mem_map.mp h
  exact ⟨r, rfl⟩

def wSeg0 : RegionSeg (pcfgs (F := F)) adm (wDats m) () defs₀ Variants.none lvL lvV 0 :=
  RegionSeg.ofHeldIn (pcfgs (F := F)) adm (wDats m) () defs₀ Variants.none lvL lvV 0 (fun _ => 0) (Pipeline.ucRefs τ sig)
    (fun c => iprop(∃ r, prngReg c r)) (fun c => iprop(∃ r, prngReg c r)) launch0.toP rfl
    (fun c => (p_obligation (V7 m) c).loose) (fun _ _ => rfl) (fun _ => rfl) (fun c => (pDat (V7 m) c).share_full fun _ => rfl)
    (fun c => p_in (V7 m) c) (fun c => p_out (V7 m) c) (fun _ => 0) (lv_cut 0) (fun _ => iprop(emp)) (V7 m) (fun c w => rfl)

def wSeg1 : RegionSeg (pcfgs (F := F)) adm (wDats m) () defs₀ Variants.none lvL lvV 1 :=
  RegionSeg.ofHeldIn (pcfgs (F := F)) adm (wDats m) () defs₀ Variants.none lvL lvV 1 (fun _ => 0) (Pipeline.ucRefs τ sig)
    (fun c => iprop(∃ r, prngReg c r)) (fun c => iprop(∃ r, prngReg c r)) launch1.toP rfl
    (fun c => (q_obligation (X8 m) c).loose) (fun _ _ => rfl) (fun _ => rfl) (fun c => (qDat (X8 m) c).share_full fun _ => rfl)
    (fun c => q_in (X8 m) c) (fun c => q_out (X8 m) c) (fun _ => 0) (lv_cut 1) (fun _ => iprop(emp)) (X8 m) (fun c w => rfl)

def wSeg2 : RegionSeg (pcfgs (F := F)) adm (wDats m) () defs₀ Variants.none lvL lvV 2 :=
  RegionSeg.ofHeldIn (pcfgs (F := F)) adm (wDats m) () defs₀ Variants.none lvL lvV 2 (fun _ => 0) (Pipeline.ucRefs τ sig)
    (fun c => iprop(∃ r, prngReg c r)) (fun c => iprop(∃ r, prngReg c r)) launch2.toP rfl
    (fun c => (h_obligation (X10 m) c).loose) (fun _ _ => rfl) (fun _ => rfl) (fun c => (hDat (X10 m) c).share_full fun _ => rfl)
    (fun c => h_in (X10 m) c) (fun c => h_out (X10 m) c) (fun _ => 0) (lv_cut 2) (fun _ => iprop(emp)) (X10 m) (fun c w => rfl)

def wSeg3 : RegionSeg (pcfgs (F := F)) adm (wDats m) () defs₀ Variants.none lvL lvV 3 :=
  RegionSeg.ofHeldIn (pcfgs (F := F)) adm (wDats m) () defs₀ Variants.none lvL lvV 3 (fun _ => 0) (Pipeline.ucRefs τ sig)
    (fun c => iprop(∃ r, prngReg c r)) (fun c => iprop(∃ r, prngReg c r)) launch3.toP rfl
    (fun c => (m_obligation (X12 m) c).loose) (fun _ _ => rfl) (fun _ => rfl) (fun c => (mDat (X12 m) c).share_full fun _ => rfl)
    (fun c => m_in (X12 m) c) (fun c => m_out (X12 m) c) (fun _ => 0) (lv_cut 3) (fun _ => iprop(emp)) (X12 m) (fun c w => rfl)

theorem after0 (c : Dev nD) (b : DevRef τ sig) (hb : b ∈ Pipeline.ucRefs τ sig) :
    Pipeline.afterRegion (pDat (V7 m) c) (V7 m c) b = V8 m (left m) c b := by
  obtain ⟨r, rfl⟩ := ucRefs_elim hb
  by_cases h : r = main_v10
  · subst h
    exact (Function.update_self (f := V7 m c) (Proc.devRef .tc main_v10) _).symm
  · refine (Pipeline.afterRegion_keeps (pDat (V7 m) c) (V7 m c) winFacts0.arr_inj (fun _ => rfl) r ?_).trans
      (V8_of m (left m) c r (by simpa using h)).symm
    rintro ⟨w, hw⟩ e
    interval_cases w
    · rfl
    · exact absurd e.symm h

theorem after1 (c : Dev nD) (b : DevRef τ sig) (hb : b ∈ Pipeline.ucRefs τ sig) :
    Pipeline.afterRegion (qDat (X8 m) c) (X8 m c) b = V9 m (left m) c b := by
  obtain ⟨r, rfl⟩ := ucRefs_elim hb
  by_cases h1 : r = main_v11_1
  · subst h1
    exact (Function.update_self (f := Function.update (V8 m (left m) c) main_v11_0 (left m 9 main_v11_0 c)) (Proc.devRef .tc main_v11_1) _).symm
  by_cases h0 : r = main_v11_0
  · subst h0
    exact ((Function.update_of_ne (StableHlo.devRef_ne_of_ne h1) _ _).trans
      (Function.update_self (f := V8 m (left m) c) (Proc.devRef .tc main_v11_0) _)).symm
  · refine (Pipeline.afterRegion_keeps (qDat (X8 m) c) (X8 m c) winFacts1.arr_inj (fun _ => rfl) r ?_).trans
      (V9_of m (left m) c r (by simp [h0, h1])).symm
    rintro ⟨w, hw⟩ e
    interval_cases w
    · rfl
    · exact absurd e.symm h0
    · exact absurd e.symm h1

theorem after2 (c : Dev nD) (b : DevRef τ sig) (hb : b ∈ Pipeline.ucRefs τ sig) :
    Pipeline.afterRegion (hDat (X10 m) c) (X10 m c) b = V11 m (left m) c b := by
  obtain ⟨r, rfl⟩ := ucRefs_elim hb
  by_cases h : r = main_v13
  · subst h
    exact (Function.update_self (f := V10 m (left m) c) (Proc.devRef .tc main_v13) _).symm
  · refine (Pipeline.afterRegion_keeps (hDat (X10 m) c) (X10 m c) winFacts2.arr_inj (fun _ => rfl) r ?_).trans
      (V11_of m (left m) c r (by simpa using h)).symm
    rintro ⟨w, hw⟩ e
    interval_cases w
    · rfl
    · rfl
    · rfl
    · exact absurd e.symm h

theorem after3 (c : Dev nD) (b : DevRef τ sig) (hb : b ∈ Pipeline.ucRefs τ sig) :
    Pipeline.afterRegion (mDat (X12 m) c) (X12 m c) b = V13 m (left m) c b := by
  obtain ⟨r, rfl⟩ := ucRefs_elim hb
  by_cases h1 : r = main_v15_1
  · subst h1
    exact (Function.update_self (f := Function.update (V12 m (left m) c) main_v15_0 (left m 13 main_v15_0 c)) (Proc.devRef .tc main_v15_1) _).symm
  by_cases h0 : r = main_v15_0
  · subst h0
    exact ((Function.update_of_ne (StableHlo.devRef_ne_of_ne h1) _ _).trans
      (Function.update_self (f := V12 m (left m) c) (Proc.devRef .tc main_v15_0) _)).symm
  · refine (Pipeline.afterRegion_keeps (mDat (X12 m) c) (X12 m c) winFacts3.arr_inj (fun _ => rfl) r ?_).trans
      (V13_of m (left m) c r (by simp [h0, h1])).symm
    rintro ⟨w, hw⟩ e
    interval_cases w
    · rfl
    · rfl
    · rfl
    · rfl
    · rfl
    · rfl
    · exact absurd e.symm h0
    · exact absurd e.symm h1

theorem arrs_in (p : Fin 4) : Pipeline.arrRefs (τ := τ) (pcfgs (F := F) p).spec ⊆ Pipeline.ucRefs τ sig :=
  (show ∀ p : Fin 4, Pipeline.arrRefs (τ := τ) (cfgs p).spec ⊆ Pipeline.ucRefs τ sig from fun p => by
    apply Pipeline.arrRefs_sub_ucRefs
    revert p; decide) p

/-- A call built by `ofHeldIn` is entered from the buffers it finds, -/
theorem enter {pdats : (p : Fin 4) → (c : Dev nD) → Dat τ (Elt F) Unit ℕ (UR sig nD τ) ℕ (cfgs p) c} {p : Fin 4}
    {R : RegionSeg (pcfgs (F := F)) adm pdats () defs₀ Variants.none lvL lvV p} {X Y : Dev nD → sProp 𝕄}
    {kit hK hbody howed hrec hshare hin hout b hcut Z W hW}
    (hR : R = RegionSeg.ofHeldIn (pcfgs (F := F)) adm pdats () defs₀ Variants.none lvL lvV p (fun _ => 0) (Pipeline.ucRefs τ sig) X Y
      kit hK hbody howed hrec hshare hin hout b hcut Z W hW) (c : Dev nD) :
    iprop(StableHlo.held (c : Thread nD τ) (Pipeline.ucRefs τ sig) (W c) ∗ ((∃ Wd, owes (c : Thread nD τ) (0 : CellTallies nD τ sig Unit) Wd) ∗ X c ∗ Z c)) ⊢ R.pre c := by
  subst hR
  exact RegionSeg.ofHeldIn_pre (pcs := pcfgs (F := F)) (a := adm) (pdats := pdats) (p := p) (D := fun _ => 0) (S := Pipeline.ucRefs τ sig) (X := X) (Y := Y) (R := Z) (W := W) (kit := kit) (hK := hK) (hbody := hbody) (howed := howed) (hrec := hrec) (hshare := hshare) (hin := hin) (hout := hout) (b := b) (hcut := hcut) (hW := hW) (arrs_in p) c
/-- and left with what it made of them. -/
theorem leave {pdats : (p : Fin 4) → (c : Dev nD) → Dat τ (Elt F) Unit ℕ (UR sig nD τ) ℕ (cfgs p) c} {p : Fin 4}
    {R : RegionSeg (pcfgs (F := F)) adm pdats () defs₀ Variants.none lvL lvV p} {X Y : Dev nD → sProp 𝕄}
    {kit hK hbody howed hrec hshare hin hout b hcut Z W hW}
    (hR : R = RegionSeg.ofHeldIn (pcfgs (F := F)) adm pdats () defs₀ Variants.none lvL lvV p (fun _ => 0) (Pipeline.ucRefs τ sig) X Y
      kit hK hbody howed hrec hshare hin hout b hcut Z W hW) (c : Dev nD)
    (V : Valuation τ sig (Elt F)) (hV : ∀ b ∈ Pipeline.ucRefs τ sig, Pipeline.afterRegion (pdats p c) (W c) b = V b) :
    R.post c ⊢ iprop(StableHlo.held (c : Thread nD τ) (Pipeline.ucRefs τ sig) V ∗ ((∃ Wd, owes (c : Thread nD τ) (0 : CellTallies nD τ sig Unit) Wd) ∗ Y c ∗ Z c)) := by
  subst hR
  rw [← StableHlo.held_congr (c.tc : Thread nD τ) (S := Pipeline.ucRefs τ sig) (V := Pipeline.afterRegion (pdats p c) (W c)) hV]
  exact RegionSeg.ofHeldIn_post (arrs_in p) c

theorem pre0 (c : Dev nD) : iprop(StableHlo.held (c : Thread nD τ) (Pipeline.ucRefs τ sig) (V7 m c) ∗ rest c) ⊢ (wSeg0 m).pre c :=
  enter (R := wSeg0 m) rfl c
theorem post0 (c : Dev nD) : (wSeg0 m).post c ⊢ iprop(StableHlo.held (c : Thread nD τ) (Pipeline.ucRefs τ sig) (V8 m (left m) c) ∗ rest c) :=
  leave (R := wSeg0 m) rfl c (V8 m (left m) c) (after0 m c)
theorem pre1 (c : Dev nD) : iprop(StableHlo.held (c : Thread nD τ) (Pipeline.ucRefs τ sig) (V8 m (left m) c) ∗ rest c) ⊢ (wSeg1 m).pre c :=
  enter (R := wSeg1 m) rfl c
theorem post1 (c : Dev nD) : (wSeg1 m).post c ⊢ iprop(StableHlo.held (c : Thread nD τ) (Pipeline.ucRefs τ sig) (V9 m (left m) c) ∗ rest c) :=
  leave (R := wSeg1 m) rfl c (V9 m (left m) c) (after1 m c)
theorem pre2 (c : Dev nD) : iprop(StableHlo.held (c : Thread nD τ) (Pipeline.ucRefs τ sig) (V10 m (left m) c) ∗ rest c) ⊢ (wSeg2 m).pre c :=
  enter (R := wSeg2 m) rfl c
theorem post2 (c : Dev nD) : (wSeg2 m).post c ⊢ iprop(StableHlo.held (c : Thread nD τ) (Pipeline.ucRefs τ sig) (V11 m (left m) c) ∗ rest c) :=
  leave (R := wSeg2 m) rfl c (V11 m (left m) c) (after2 m c)
theorem pre3 (c : Dev nD) : iprop(StableHlo.held (c : Thread nD τ) (Pipeline.ucRefs τ sig) (V12 m (left m) c) ∗ rest c) ⊢ (wSeg3 m).pre c :=
  enter (R := wSeg3 m) rfl c
theorem post3 (c : Dev nD) : (wSeg3 m).post c ⊢ iprop(StableHlo.held (c : Thread nD τ) (Pipeline.ucRefs τ sig) (V13 m (left m) c) ∗ rest c) :=
  leave (R := wSeg3 m) rfl c (V13 m (left m) c) (after3 m c)

/-! ## The run -/

/-- What holds of core `c`'s memory at the end. -/
def Ends (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6))
  ∧ s.mem ((c.tc : Thread nD τ).loc main_v16) = V14 m (left m) c main_v16
  ∧ s.mem ((c.tc : Thread nD τ).loc main_v17) = V14 m (left m) c main_v17

theorem rest_core (ρ : Dev nD → PrngReg) (c : Dev nD) :
    (iprop(unscopedSems0 c ∗ owes (c : Thread nD τ) (0 : CellTallies nD τ sig Unit) ∅ ∗ Pipeline.launchCred (fun _ => 0) c ∗ prngReg c (ρ c) ∗ emp) : sProp 𝕄) ⊢ rest c := by
  unfold rest
  iintro ⟨-, HO, -, Hp, He⟩
  isplitl [HO]; · iexists _; iexact HO
  isplitl [Hp]; · iexists _; iexact Hp
  iexact He

theorem launch_rest (ρ : Dev nD → PrngReg) :
    (iprop((bigSep Finset.univ fun c : Dev nD => iprop(unscopedSems0 c ∗ owes (c : Thread nD τ) (0 : CellTallies nD τ sig Unit) ∅ ∗ Pipeline.launchCred (fun _ => 0) c ∗ prngReg c (ρ c) ∗ emp)) ∗ levAts lvL lvV) : sProp 𝕄)
      ⊢ |={Set.univ}=> bigSep Finset.univ (fun c : Dev nD => rest c) := by
  have h : (bigSep Finset.univ (fun c : Dev nD => iprop(unscopedSems0 c ∗ owes (c : Thread nD τ) (0 : CellTallies nD τ sig Unit) ∅ ∗ Pipeline.launchCred (fun _ => 0) c ∗ prngReg c (ρ c) ∗ emp)) : sProp 𝕄)
      ⊢ (bigSep Finset.univ (fun c : Dev nD => rest c) : sProp 𝕄) := bigSep_mono fun c _ => rest_core (F := F) ρ c
  iintro ⟨H, -⟩
  imodintro
  iapply h; iexact H

theorem launch_own :
    (ownU (initOf (Pipeline.cells cfgs cellOf_inj) (Pipeline.launchToks cfgs cellOf_inj)) : sProp 𝕄) ⊢ |={Set.univ}=>
      iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU _ : sProp 𝕄) ⊢ BI.own (emb₁ (initOf (Pipeline.cells cfgs cellOf_inj) (Pipeline.launchToks cfgs cellOf_inj))) from .rfl); iexact Hu
  iapply (show (BI.emp : sProp 𝕄) ⊢ bigSep Finset.univ (fun _ : Dev nD => (BI.emp : sProp 𝕄)) from by rw [BI.bigSep_emp_const])
  iempintro

theorem rest_owes (c : Dev nD) : rest c ⊢ (iprop(∃ W, owes (c : Thread nD τ) (0 : CellTallies nD τ sig Unit) W) : sProp 𝕄) := by
  unfold rest
  iintro ⟨HO, -, -⟩
  iexact HO

-- the kit's implicit arguments are found by unifying its conclusion with this one, which takes unfolding plain definitions
set_option backward.isDefEq.respectTransparency.types false in
/-- Every weakly fair execution of the program from memory `m` with zero counters terminates, with the arguments as launched,
    the results at the contents the last item leaves, and every counter at zero. -/
theorem runs (ρ : Dev nD → PrngReg) :
    θ_run defs (onTc (τ := τ) (main (F := F))) ⟨m, fun _ => 0, ρ⟩ (fun r => (∀ c : Dev nD, Ends m c r.2) ∧ r.2.sem = fun _ => 0) := by
  refine Pipeline.θ_run_regions_kit_dev_sems (pcfgs (F := F)) adm (wDats m) () cellOf_inj emb₁ defs₀ Variants.none lvL lvV m ρ main
    (segs m (left m) Variants.none lvL lvV (fun _ => rest) () (wDats m) (wSeg0 m) (wSeg1 m) (wSeg2 m) (wSeg3 m))
    (fun c Q => by
      rewrite [main_chain c, Seg.run_eq_chain,
        show (segs m (left m) Variants.none lvL lvV (fun _ => rest) () (wDats m) (wSeg0 m) (wSeg1 m) (wSeg2 m) (wSeg3 m) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      dsimp (config := { failIfUnchanged := false }) only
      exact .rfl)
    (fun c => by simp only [segs, Seg.pipes_host, Seg.pipes_region, Seg.pipes_nil]; decide) (fun _ => 0) lvL_off (fun _ => iprop(emp)) (initOf (Pipeline.cells cfgs cellOf_inj) (Pipeline.launchToks cfgs cellOf_inj)) launch_own
    (T₀ := fun c => iprop(StableHlo.held (c : Thread nD τ) (Pipeline.ucRefs τ sig) (V0 m c) ∗ rest c))
    (Tₙ := fun c => StableHlo.held (c : Thread nD τ) (Pipeline.ucRefs τ sig) (V14 m (left m) c))
    (hch := fun c => ⟨.rfl, .rfl, .rfl, .rfl, .rfl, .rfl, .rfl, pre0 m c, (post0 m c).trans (pre1 m c), post1 m c, pre2 m c, post2 m c, pre3 m c, post3 m c, sep_mono .rfl (rest_owes c)⟩)
    (hinit := ?_) (QY := Ends m)
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (0 : CellTallies nD τ sig Unit) ∅ ∗ Pipeline.launchCred (fun _ => 0) c ∗ prngReg c (ρ c) ∗ emp))
            : sProp (MT nD τ sig Unit (Elt F) ℕ (UR sig nD τ) ℕ)) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (launch_rest ρ) $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V14 m (left m) c) s') $$ [Hh HSI]
    · isplitl [Hh] <;> iassumption
    icases Hr with ⟨%h, HSI⟩
    imodintro
    isplitr
    · ipureintro
      exact ⟨⟨(h (Proc.devRef .tc main_arg0) (Finset.mem_filter.mpr ⟨StableHlo.devRef_mem_tcRefs main_arg0, by decide⟩)).trans (V14_main_arg0 m (left m) c),
        (h (Proc.devRef .tc main_arg1) (Finset.mem_filter.mpr ⟨StableHlo.devRef_mem_tcRefs main_arg1, by decide⟩)).trans (V14_main_arg1 m (left m) c),
        (h (Proc.devRef .tc main_arg2) (Finset.mem_filter.mpr ⟨StableHlo.devRef_mem_tcRefs main_arg2, by decide⟩)).trans (V14_main_arg2 m (left m) c),
        (h (Proc.devRef .tc main_arg3) (Finset.mem_filter.mpr ⟨StableHlo.devRef_mem_tcRefs main_arg3, by decide⟩)).trans (V14_main_arg3 m (left m) c),
        (h (Proc.devRef .tc main_arg4) (Finset.mem_filter.mpr ⟨StableHlo.devRef_mem_tcRefs main_arg4, by decide⟩)).trans (V14_main_arg4 m (left m) c),
        (h (Proc.devRef .tc main_arg5) (Finset.mem_filter.mpr ⟨StableHlo.devRef_mem_tcRefs main_arg5, by decide⟩)).trans (V14_main_arg5 m (left m) c),
        (h (Proc.devRef .tc main_arg6) (Finset.mem_filter.mpr ⟨StableHlo.devRef_mem_tcRefs main_arg6, by decide⟩)).trans (V14_main_arg6 m (left m) c)⟩,
        h (Proc.devRef .tc main_v16) (Finset.mem_filter.mpr ⟨StableHlo.devRef_mem_tcRefs main_v16, by decide⟩),
        h (Proc.devRef .tc main_v17) (Finset.mem_filter.mpr ⟨StableHlo.devRef_mem_tcRefs main_v17, by decide⟩)⟩
    · iexact HSI

end Cert.KernelIdeal.Gen

end
-- ==== Proof.Transfer.lean ====
module

public import proofs.«01_k».proof.Defs
public import proofs.«01_k».proof.Proof.Gen.Kernel
public import proofs.«01_k».proof.Proof.Gen.KernelIdeal

/- The kernel as written is the generalized kernel with each named constant read as the bits it
names: the two programs are then the same text, so what is proved of the second at every reading of
the floats holds of the first. -/

@[expose] public section
set_option maxRecDepth 100000
set_option maxHeartbeats 4000000
noncomputable section
namespace Cert.Proof
open Idealize.ShloMosaic Idealize.SL.Sem

/-- Every named constant read as its own bits. -/
@[reducible] def namedBits : Named Bits := ⟨fun _ _ {_} b => Scalar.ofBits _ b⟩

attribute [local instance] namedBits
attribute [local instance] Cert.Kernel.Gen.facts Cert.KernelIdeal.Gen.facts

theorem cc0_trig_p_eq : Cert.Kernel.cc0_trig_p (F := Bits) = Cert.KernelIdeal.cc0_trig_p (F := Bits) := by rfl
theorem cc1_trig_q_eq : Cert.Kernel.cc1_trig_q (F := Bits) = Cert.KernelIdeal.cc1_trig_q (F := Bits) := by rfl
theorem cc2_h_proj_eq : Cert.Kernel.cc2_h_proj (F := Bits) = Cert.KernelIdeal.cc2_h_proj (F := Bits) := by rfl
theorem cc3_base_proj_eq : Cert.Kernel.cc3_base_proj (F := Bits) = Cert.KernelIdeal.cc3_base_proj (F := Bits) := by rfl
theorem main_eq : Cert.Kernel.main (F := Bits) = Cert.KernelIdeal.main (F := Bits) := by rfl

theorem defs₀_eq : Cert.Kernel.defs₀ (F := Bits) = Cert.KernelIdeal.defs₀ (F := Bits) := by
  unfold Cert.Kernel.defs₀ Cert.KernelIdeal.defs₀
  rw [cc0_trig_p_eq, cc1_trig_q_eq, cc2_h_proj_eq, cc3_base_proj_eq]
  refine congrArg Defs.onTc ?_
  funext ℓ a
  rcases ℓ with ⟨_ | _ | _ | _ | n, h⟩
  · rfl
  · rfl
  · rfl
  · rfl
  · exact absurd h (Nat.not_lt.2 (Nat.le_add_left _ _))

theorem defs_eq : Cert.Kernel.defs (F := Bits) = Cert.KernelIdeal.defs (F := Bits) := by
  unfold Cert.Kernel.defs Cert.KernelIdeal.defs
  rw [defs₀_eq]
  rfl

end Cert.Proof

end
-- ==== Proof.Frames.lean ====
/- The frames of the three programs, and what naming the two constants preserves. -/
module

public import proofs.«01_k».proof.Defs
public import proofs.«01_k».proof.Proof.Run
public import proofs.«01_k».proof.Proof.Transfer
public import proofs.«01_k».proof.Proof.Gen.ReferenceIdeal
public import proofs.«01_k».proof.Proof.Gen.ReferenceIdeal.Run

@[expose] public section

noncomputable section

namespace Cert.Proof

open Idealize.ShloMosaic Idealize.SL.Sem

/-- The side conditions of the precondition's operations. -/
theorem pre_facts : Cert.Pre_freq_v_in_range.Facts where
  bcast_S_S2x2048x16384 := by decide
  bcast_S_S16384x2560 := by decide
  bcast_S_S128x5120 := by decide
  bcast_S_S5120 := by decide
  bcast_S_S1500 := by decide

section Bits

attribute [local instance] namedBits
attribute [local instance] Cert.Kernel.Gen.facts Cert.KernelIdeal.Gen.facts

/-- The kernel as printed: the same run at machine numbers, every named constant read as its own bits. -/
theorem frame_P : Cert.quiescent_Kernel := fun m ρ _ => by
  rw [defs_eq, main_eq]
  exact (θ_run _ _ _).mono (fun r h => ⟨fun c => (h.1 c).1, h.2⟩) (Cert.KernelIdeal.Gen.runs (F := Bits) m ρ)

end Bits

section Ideal

attribute [local instance] Cert.KernelIdeal.Gen.facts Cert.ReferenceIdeal.Gen.facts pre_facts

theorem frame_PI : Cert.quiescent_KernelIdeal := fun m ρ _ =>
  (θ_run _ _ _).mono (fun r h => ⟨fun c => (h.1 c).1, h.2⟩) (Cert.KernelIdeal.Gen.runs (F := Ideal) m ρ)

theorem frame_PI_pre : Cert.quiescent_KernelIdeal_pre_freq_v_in_range := fun m ρ _ =>
  (θ_run _ _ _).mono (fun r h => ⟨fun c => (h.1 c).1, h.2⟩) (Cert.KernelIdeal.Gen.runs (F := Ideal) m ρ)

theorem frame_RI : Cert.quiescent_ReferenceIdeal := fun m ρ _ =>
  (θ_run _ _ _).mono (fun r h => ⟨fun c => (h c).2.2, sem_eq_zero_of_no_sems (by decide) r.2⟩) (Cert.ReferenceIdeal.Value.run (F := Ideal) m ρ)

theorem frame_RI_pre : Cert.quiescent_ReferenceIdeal_pre_freq_v_in_range := fun m ρ _ =>
  (θ_run _ _ _).mono (fun r h => ⟨fun c => (h c).2.2, sem_eq_zero_of_no_sems (by decide) r.2⟩) (Cert.ReferenceIdeal.Value.run (F := Ideal) m ρ)

theorem named : Cert.preserves_Kernel_KernelIdeal :=
  ⟨IdealRules.named_const.statement Cert.KernelIdeal.κ "unit_in" .f32 _ _ rfl, IdealRules.named_const.statement Cert.KernelIdeal.κ "unit_out" .f32 _ _ rfl⟩

end Ideal

end Cert.Proof

end
-- ==== Proof.Angles.lean ====
/- Angles that are whole multiples of a fraction of the full turn, and the words that carry them. -/
module

public import Idealize.ShloMosaic.Lib.WordCmp
public import Idealize.ShloMosaic.Lib.ValueIdx
public import Idealize.ShloMosaic.PureOps.Ideal
public import Mathlib.Analysis.SpecialFunctions.Trigonometric.Basic
public import Mathlib.Data.Int.ModEq

@[expose] public section

noncomputable section

namespace Cert.Proof.Angles

open Idealize.ShloMosaic

/-- The cosine of `n` parts of a full turn cut into `N`, -/
def cosN (N : ℕ) (n : ℤ) : ℝ := Real.cos ((n : ℝ) * (2 * Real.pi / N))
/-- and its sine. -/
def sinN (N : ℕ) (n : ℤ) : ℝ := Real.sin ((n : ℝ) * (2 * Real.pi / N))

theorem turn {N : ℕ} (hN : N ≠ 0) {n k : ℤ} (h : n ≡ k [ZMOD N]) :
    ∃ j : ℤ, (n : ℝ) * (2 * Real.pi / N) = (k : ℝ) * (2 * Real.pi / N) + j * (2 * Real.pi) := by
  obtain ⟨j, hj⟩ := (Int.modEq_iff_dvd.mp h.symm)
  refine ⟨j, ?_⟩
  have hN' : (N : ℝ) ≠ 0 := by exact_mod_cast hN
  have e : (n : ℝ) = k + N * j := by
    have : n = k + N * j := by omega
    exact_mod_cast this
  rw [e]; field_simp

theorem cosN_congr {N : ℕ} (hN : N ≠ 0) {n k : ℤ} (h : n ≡ k [ZMOD N]) : cosN N n = cosN N k := by
  obtain ⟨j, hj⟩ := turn hN h
  unfold cosN; rw [hj, Real.cos_add_int_mul_two_pi]
theorem sinN_congr {N : ℕ} (hN : N ≠ 0) {n k : ℤ} (h : n ≡ k [ZMOD N]) : sinN N n = sinN N k := by
  obtain ⟨j, hj⟩ := turn hN h
  unfold sinN; rw [hj, Real.sin_add_int_mul_two_pi]

theorem cosN_add (N : ℕ) (a b : ℤ) : cosN N (a + b) = cosN N a * cosN N b - sinN N a * sinN N b := by
  unfold cosN sinN; rw [← Real.cos_add]; push_cast; ring_nf
theorem sinN_add (N : ℕ) (a b : ℤ) : sinN N (a + b) = sinN N a * cosN N b + cosN N a * sinN N b := by
  unfold cosN sinN; rw [← Real.sin_add]; push_cast; ring_nf

/-! ## Words -/

theorem modEq_bmod (a : ℤ) (n : ℕ) : a.bmod n ≡ a [ZMOD n] := Int.bmod_emod

theorem toInt_mul_mod (x y : BitVec 32) : (x * y).toInt ≡ x.toInt * y.toInt [ZMOD 4294967296] := by
  rw [BitVec.toInt_mul]; exact modEq_bmod _ (2 ^ 32)
theorem toInt_sub_mod (x y : BitVec 32) : (x - y).toInt ≡ x.toInt - y.toInt [ZMOD 4294967296] := by
  rw [BitVec.toInt_sub]; exact modEq_bmod _ (2 ^ 32)
theorem toInt_add_mod (x y : BitVec 32) : (x + y).toInt ≡ x.toInt + y.toInt [ZMOD 4294967296] := by
  rw [BitVec.toInt_add]; exact modEq_bmod _ (2 ^ 32)
theorem toInt_toNat_mod (x : BitVec 32) : x.toInt ≡ (x.toNat : ℤ) [ZMOD 4294967296] := by
  rw [BitVec.toInt_eq_toNat_bmod]; exact modEq_bmod _ (2 ^ 32)

theorem modEq_small {a b : ℤ} (ha : -2147483648 ≤ a) (ha' : a < 2147483648) (hb : -2147483648 ≤ b) (hb' : b < 2147483648)
    (h : a ≡ b [ZMOD 4294967296]) : a = b := by
  unfold Int.ModEq at h; omega

theorem toInt_bounds (x : BitVec 32) : -2147483648 ≤ x.toInt ∧ x.toInt < 2147483648 := by
  have h1 := BitVec.le_toInt x; have h2 := BitVec.toInt_lt (x := x); norm_num at h1 h2; exact ⟨h1, h2⟩

theorem toInt_mul_small {x y : BitVec 32} (h : -2147483648 ≤ x.toInt * y.toInt) (h' : x.toInt * y.toInt < 2147483648) :
    (x * y).toInt = x.toInt * y.toInt :=
  modEq_small (toInt_bounds _).1 (toInt_bounds _).2 h h' (toInt_mul_mod x y)
theorem toInt_sub_small {x y : BitVec 32} (h : -2147483648 ≤ x.toInt - y.toInt) (h' : x.toInt - y.toInt < 2147483648) :
    (x - y).toInt = x.toInt - y.toInt :=
  modEq_small (toInt_bounds _).1 (toInt_bounds _).2 h h' (toInt_sub_mod x y)
theorem toInt_add_small {x y : BitVec 32} (h : -2147483648 ≤ x.toInt + y.toInt) (h' : x.toInt + y.toInt < 2147483648) :
    (x + y).toInt = x.toInt + y.toInt :=
  modEq_small (toInt_bounds _).1 (toInt_bounds _).2 h h' (toInt_add_mod x y)

theorem toInt_ofNat_small {n : ℕ} (h : n < 2147483648) : (BitVec.ofNat 32 n).toInt = n := WordCmp.toInt_ofNat_of_lt (by simpa using h)

theorem select_slt (x y : BitVec 32) (a b : BitVec 32) : Scalar.select (IntOp.cmpi .slt x y) a b = if x.toInt < y.toInt then a else b := by
  rw [WordCmp.cmpi_slt_eq]; unfold Scalar.select; by_cases h : x.toInt < y.toInt <;> simp [h]
theorem select_sge (x y : BitVec 32) (a b : BitVec 32) : Scalar.select (IntOp.cmpi .sge x y) a b = if y.toInt ≤ x.toInt then a else b := by
  rw [WordCmp.cmpi_sge_eq]; unfold Scalar.select; by_cases h : y.toInt ≤ x.toInt <;> simp [h]

theorem mod_of_mod {a b : ℤ} (h : a ≡ b [ZMOD 4294967296]) : a ≡ b [ZMOD (16384 : ℕ)] :=
  h.of_dvd (by norm_num)

/-- A row angle's word: reduced to the low fourteen bits, its upper half turned negative. -/
def pWord (x : BitVec 32) : BitVec 32 :=
  Scalar.select (IntOp.cmpi .sge (IntOp.andi x 16383#32) 8192#32) (IntOp.subi (IntOp.andi x 16383#32) 16384#32) (IntOp.andi x 16383#32)

theorem pWord_mod (x : BitVec 32) : (pWord x).toInt ≡ x.toInt [ZMOD (16384 : ℕ)] := by
  have h1 : (x &&& 16383#32).toInt ≡ x.toInt [ZMOD (16384 : ℕ)] := by
    have e : (x &&& 16383#32).toNat = x.toNat % 16384 := by
      rw [BitVec.toNat_and]; exact Nat.and_two_pow_sub_one_eq_mod x.toNat 14
    refine (mod_of_mod (toInt_toNat_mod _)).trans (Int.ModEq.trans ?_ (mod_of_mod (toInt_toNat_mod x)).symm)
    rw [e]; exact Int.natCast_modEq_iff.mpr (Nat.mod_modEq _ _)
  unfold pWord
  rw [select_sge]
  split_ifs
  · refine (mod_of_mod (toInt_sub_mod (x &&& 16383#32) 16384#32)).trans ?_
    have e : (16384#32 : BitVec 32).toInt = 16384 := by decide
    rw [e]
    refine Int.ModEq.trans ?_ h1
    exact (Int.modEq_iff_dvd.mpr (by norm_num))
  · exact h1

/-- A word whose upper half of `[0, 5120)` is turned negative. -/
def negHalf (x : BitVec 32) : BitVec 32 := Scalar.select (IntOp.cmpi .sge x 2560#32) (IntOp.subi x 5120#32) x

theorem negHalf_mod (x : BitVec 32) (h : -1000000000 ≤ x.toInt) : (negHalf x).toInt ≡ x.toInt [ZMOD (5120 : ℕ)] := by
  have e : (5120#32 : BitVec 32).toInt = 5120 := by decide
  have hb := toInt_bounds x
  unfold negHalf; rw [select_sge]; split_ifs
  · rw [show IntOp.subi x 5120#32 = x - 5120#32 from rfl, toInt_sub_small (by rw [e]; omega) (by rw [e]; omega), e]
    exact Int.modEq_iff_dvd.mpr (by norm_num)
  · rfl

/-- The remainder by `m` up to one period: a quotient by multiplication, then one period added or taken away. -/
def remFix (m r : BitVec 32) : BitVec 32 :=
  have r1 := Scalar.select (IntOp.cmpi .slt r 0#32) (IntOp.addi r m) r
  Scalar.select (IntOp.cmpi .sge r1 m) (IntOp.subi r1 m) r1

theorem remFix_mod {m r : BitVec 32} (hm : 0 < m.toInt) (hm' : m.toInt ≤ 5120) (h : -6000 ≤ r.toInt) (h' : r.toInt ≤ 6000) :
    (remFix m r).toInt ≡ r.toInt [ZMOD m.toInt] ∧ -6000 ≤ (remFix m r).toInt ∧ (remFix m r).toInt ≤ 12000 := by
  have e0 : (0#32 : BitVec 32).toInt = 0 := by decide
  have key : ∀ s : BitVec 32, s.toInt ≡ r.toInt [ZMOD m.toInt] → -6000 ≤ s.toInt → s.toInt ≤ 12000 →
      (Scalar.select (IntOp.cmpi .sge s m) (IntOp.subi s m) s).toInt ≡ r.toInt [ZMOD m.toInt]
        ∧ -6000 ≤ (Scalar.select (IntOp.cmpi .sge s m) (IntOp.subi s m) s).toInt
        ∧ (Scalar.select (IntOp.cmpi .sge s m) (IntOp.subi s m) s).toInt ≤ 12000 := by
    intro s h1 h2 h3
    rw [select_sge]; split_ifs with hc
    · rw [show IntOp.subi s m = s - m from rfl, toInt_sub_small (by omega) (by omega)]
      exact ⟨(Int.modEq_iff_dvd.mpr (by simp)).trans h1, by omega, by omega⟩
    · exact ⟨h1, h2, h3⟩
  unfold remFix
  apply key <;> rw [select_slt] <;> split_ifs with hc
  · rw [show IntOp.addi r m = r + m from rfl, toInt_add_small (by omega) (by omega)]
    exact Int.modEq_iff_dvd.mpr (by simp)
  · rfl
  · rw [show IntOp.addi r m = r + m from rfl, toInt_add_small (by omega) (by omega)]; omega
  · exact h
  · rw [show IntOp.addi r m = r + m from rfl, toInt_add_small (by omega) (by omega)]; omega
  · omega

/-- The quotient by multiplication with a reciprocal slightly too large, as a word. -/
def quo (cst : EReal) (n : BitVec 32) : BitVec 32 :=
  Ideal.fptosi 32 (Ideal.liftRound Int.floor (((n.toInt : ℝ) : EReal) * cst))

theorem quo_toInt {c : ℝ} {m : ℤ} (hm : 0 < m) (hc : (m : ℝ) * c = 1 + 1 / 67108864) (n : BitVec 32)
    (h : -60000000 ≤ n.toInt) (h' : n.toInt ≤ 60000000) :
    n.toInt - (quo (c : EReal) n).toInt * m ≤ m ∧ -1 ≤ n.toInt - (quo (c : EReal) n).toInt * m := by
  have hmr : (1 : ℝ) ≤ m := by exact_mod_cast hm
  have hc0 : 0 < c := by
    by_contra hn; push Not at hn
    have := mul_nonpos_of_nonneg_of_nonpos (by linarith : (0:ℝ) ≤ m) hn
    linarith
  have hc1 : c ≤ 2 := by nlinarith
  have hnr : (-60000000 : ℝ) ≤ n.toInt := by exact_mod_cast h
  have hnr' : (n.toInt : ℝ) ≤ 60000000 := by exact_mod_cast h'
  set q : ℤ := ⌊(n.toInt : ℝ) * c⌋ with hq
  have hq1 : (q : ℝ) ≤ n.toInt * c := Int.floor_le _
  have hq2 : (n.toInt : ℝ) * c < q + 1 := Int.lt_floor_add_one _
  have hqlo : -200000000 ≤ q := by
    have : (-200000000 : ℝ) ≤ q := by nlinarith
    exact_mod_cast this
  have hqhi : q ≤ 200000000 := by
    have : (q : ℝ) ≤ 200000000 := by nlinarith
    exact_mod_cast this
  have e : (quo (c : EReal) n).toInt = q := by
    have e1 : quo (c : EReal) n = BitVec.ofInt 32 q := by
      unfold quo
      rw [← EReal.coe_mul]
      show Ideal.fptosi 32 (((⌊(n.toInt : ℝ) * c⌋ : ℤ) : ℝ) : EReal) = _
      rw [← hq]; unfold Ideal.fptosi
      rw [Ideal.toIntClamped_coe, Int.floor_intCast, Int.ceil_intCast, ite_self]
      congr 1
      norm_num
      omega
    rw [e1, BitVec.toInt_ofInt]
    exact modEq_small (by have := @Int.le_bmod q (2^32) (by norm_num); norm_num at this ⊢; exact this)
      (by have := @Int.bmod_lt q (2^32) (by norm_num); norm_num at this ⊢; exact this) (by omega) (by omega) (modEq_bmod _ _)
  rw [e]
  have a1 : (n.toInt : ℝ) - q * m ≥ -(60000000 / 67108864) := by nlinarith
  have a2 : (n.toInt : ℝ) - q * m < m + 60000000 / 67108864 := by nlinarith
  constructor
  · have : (n.toInt - q * m : ℤ) < m + 1 := by
      have : ((n.toInt - q * m : ℤ) : ℝ) < m + 1 := by push_cast; linarith
      exact_mod_cast this
    omega
  · have : (-1 : ℤ) < n.toInt - q * m := by
      have : ((-1 : ℤ) : ℝ) < ((n.toInt - q * m : ℤ) : ℝ) := by push_cast; linarith
      exact_mod_cast this
    omega

/-- The word before its fixes. -/
def remWord (cst : EReal) (m n : BitVec 32) : BitVec 32 := IntOp.subi n (IntOp.muli (quo cst n) m)

theorem remWord_mod {c : ℝ} {m : BitVec 32} (hm : 0 < m.toInt) (hm' : m.toInt ≤ 5120) (hc : (m.toInt : ℝ) * c = 1 + 1 / 67108864) (n : BitVec 32)
    (h : -60000000 ≤ n.toInt) (h' : n.toInt ≤ 60000000) :
    (remFix m (remWord (c : EReal) m n)).toInt ≡ n.toInt [ZMOD m.toInt]
      ∧ -6000 ≤ (remFix m (remWord (c : EReal) m n)).toInt ∧ (remFix m (remWord (c : EReal) m n)).toInt ≤ 12000 := by
  obtain ⟨h1, h2⟩ := quo_toInt hm hc n h h'
  have em : (quo (c : EReal) n * m).toInt = (quo (c : EReal) n).toInt * m.toInt := toInt_mul_small (by omega) (by omega)
  have er : (remWord (c : EReal) m n).toInt = n.toInt - (quo (c : EReal) n).toInt * m.toInt := by
    show (n - quo (c : EReal) n * m).toInt = _
    rw [toInt_sub_small (by rw [em]; omega) (by rw [em]; omega), em]
  obtain ⟨k1, k2, k3⟩ := remFix_mod hm hm' (r := remWord (c : EReal) m n) (by omega) (by omega)
  refine ⟨k1.trans ?_, k2, k3⟩
  rw [er]; exact Int.modEq_iff_dvd.mpr (by simp)

/-! ## The host's remainder -/

/-- The remainder with the sign of the divisor. -/
def hostRem (m x : BitVec 32) : BitVec 32 :=
  Scalar.select (IntOp.andi (IntOp.cmpi .ne (IntOp.cmpi .slt (IntOp.remsi .host x m) 0#32) (IntOp.cmpi .slt m 0#32)) (IntOp.cmpi .ne (IntOp.remsi .host x m) 0#32))
    (IntOp.addi (IntOp.remsi .host x m) m) (IntOp.remsi .host x m)

theorem hostRem_mod {m : BitVec 32} (hm : 0 < m.toInt) (hm' : m.toInt ≤ 20000) (x : BitVec 32) : (hostRem m x).toInt ≡ x.toInt [ZMOD m.toInt] := by
  have er : IntOp.remsi .host x m = x.srem m := by
    unfold IntOp.remsi; rw [if_neg]
    unfold IntOp.SDivCorner
    rintro (h | ⟨-, h⟩)
    · rw [h] at hm; exact absurd hm (by decide)
    · rw [h] at hm; exact absurd hm (by decide)
  have et : (x.srem m).toInt = x.toInt.tmod m.toInt := BitVec.toInt_srem x m
  have e1 : (x.srem m).toInt ≡ x.toInt [ZMOD m.toInt] := by
    rw [et]; refine Int.modEq_iff_dvd.mpr ?_
    have := Int.mul_tdiv_add_tmod x.toInt m.toInt
    exact ⟨x.toInt.tdiv m.toInt, by omega⟩
  have hb : -20000 ≤ (x.srem m).toInt ∧ (x.srem m).toInt ≤ 20000 := by
    have h1 := Int.lt_tmod_of_pos x.toInt hm
    have h2 := Int.tmod_lt_of_pos x.toInt hm
    rw [et]; omega
  unfold hostRem; rw [er]; unfold Scalar.select; split_ifs
  · rw [show IntOp.addi (x.srem m) m = x.srem m + m from rfl, toInt_add_small (by omega) (by omega)]
    exact (Int.modEq_iff_dvd.mpr (by simp)).trans e1
  · exact e1

end Cert.Proof.Angles

end
-- ==== Proof.Tables.lean ====
/- Arrays read at natural-number positions, and sums cut into blocks. -/
module

public import proofs.«01_k».proof.Proof.Angles
public import Idealize.ShloMosaic.Lib.Pipeline.Value

@[expose] public section

noncomputable section

namespace Cert.Proof.Tables

open Idealize.ShloMosaic Idealize.ShloMosaic.ValueIdx Cert.Proof.Angles

/-- An array of two axes read at a pair of numbers (anything outside it). -/
def at2 {α : Type} [Inhabited α] {a b : ℕ} (v : (⟨2, ![a, b]⟩ : Shape).Idx → α) (i j : ℕ) : α :=
  if h : i < a ∧ j < b then v (ix2 ⟨i, h.1⟩ ⟨j, h.2⟩) else default
/-- An array of one axis read at a number. -/
def at1 {α : Type} [Inhabited α] {a : ℕ} (v : (⟨1, ![a]⟩ : Shape).Idx → α) (i : ℕ) : α :=
  if h : i < a then v (ix1 ⟨i, h⟩) else default

theorem at2_of {α : Type} [Inhabited α] {a b : ℕ} (v : (⟨2, ![a, b]⟩ : Shape).Idx → α) (y : (⟨2, ![a, b]⟩ : Shape).Idx) (i j : ℕ)
    (h0 : (y 0).val = i) (h1 : (y 1).val = j) : v y = at2 v i j := by
  subst h0 h1
  unfold at2
  rw [dif_pos ⟨(y 0).isLt, (y 1).isLt⟩]
  exact congrArg v (eq_ix2 y)
theorem at1_of {α : Type} [Inhabited α] {a : ℕ} (v : (⟨1, ![a]⟩ : Shape).Idx → α) (y : (⟨1, ![a]⟩ : Shape).Idx) (i : ℕ)
    (h0 : (y 0).val = i) : v y = at1 v i := by
  subst h0
  have hy : (y 0).val < a := (y 0).isLt
  unfold at1
  rw [dif_pos hy]
  exact congrArg v (funext fun k => by match k with | ⟨0, _⟩ => rfl)
theorem at2_eq {α : Type} [Inhabited α] {a b : ℕ} (v : (⟨2, ![a, b]⟩ : Shape).Idx → α) {i j : ℕ} (hi : i < a) (hj : j < b) :
    at2 v i j = v (ix2 ⟨i, hi⟩ ⟨j, hj⟩) := dif_pos ⟨hi, hj⟩
theorem at1_eq {α : Type} [Inhabited α] {a : ℕ} (v : (⟨1, ![a]⟩ : Shape).Idx → α) {i : ℕ} (hi : i < a) :
    at1 v i = v (ix1 ⟨i, hi⟩) := dif_pos hi

/-- The row factor: the cosines in the first half of the columns, the sines in the second. -/
def pEnt (u : ℕ → ℤ) (p k : ℕ) : ℝ := if k < 1536 then cosN 16384 (p * u k) else sinN 16384 (p * u (k - 1536))
/-- The column factor: the cosines in the first half of the rows, the sines with the sign turned in the second. -/
def qC (v : ℕ → ℤ) (k n : ℕ) : ℝ := cosN 5120 (n * v k)
def qS (v : ℕ → ℤ) (k n : ℕ) : ℝ := -sinN 5120 (n * v k)

/-- The signed value of a nibble of a byte: the low one, or the high one. -/
def nib (x : BitVec 8) (par : ℕ) : ℤ :=
  if par = 0 then (if 8 ≤ x.toNat % 16 then (x.toNat % 16 : ℤ) - 16 else (x.toNat % 16 : ℤ))
  else (if 8 ≤ x.toNat / 16 then (x.toNat / 16 : ℤ) - 16 else (x.toNat / 16 : ℤ))

/-- A sum over a block is a stretch of the whole sum. -/
theorem sum_range_block (f : ℕ → EReal) (a b : ℕ) : (∑ k ∈ Finset.range a, f k) + ∑ k : Fin b, f (a + k.val) = ∑ k ∈ Finset.range (a + b), f k := by
  rw [Finset.sum_range_add, Fin.sum_univ_eq_sum_range (fun k => f (a + k)) b]

theorem sum_fin (n : ℕ) (f : ℕ → EReal) : ∑ k : Fin n, f k.val = ∑ k ∈ Finset.range n, f k := Fin.sum_univ_eq_sum_range f n

/-- A sum over two zero-padded halves is the sum over the two unpadded ones. -/
theorem sum_halves (f : ℕ → EReal) (h0 : ∀ k, 1500 ≤ k → k < 1536 → f k = 0) (h1 : ∀ k, 1500 ≤ k → k < 1536 → f (1536 + k) = 0) :
    ∑ k ∈ Finset.range 3072, f k = (∑ k ∈ Finset.range 1500, f k) + ∑ k ∈ Finset.range 1500, f (1536 + k) := by
  have cut : ∀ g : ℕ → EReal, (∀ k, 1500 ≤ k → k < 1536 → g k = 0) → ∑ k ∈ Finset.range 1536, g k = ∑ k ∈ Finset.range 1500, g k := fun g hg => by
    rw [show 1536 = 1500 + 36 from rfl, Finset.sum_range_add, Finset.sum_eq_zero (s := Finset.range 36), add_zero]
    intro k hk; have := Finset.mem_range.mp hk; exact hg _ (by omega) (by omega)
  rw [show 3072 = 1536 + 1536 from rfl, Finset.sum_range_add, cut f h0, cut (fun k => f (1536 + k)) h1]

end Cert.Proof.Tables

end
-- ==== Proof.PValue.lean ====
/- What the row factor (`trig_p`) leaves: the cosines and sines of the products of row and frequency. -/
module

public import proofs.«01_k».proof.Proof.PRegion
public import proofs.«01_k».proof.Proof.Tables
public import Idealize.ShloMosaic.Lib.ValueLayout

@[expose] public section

set_option maxRecDepth 16384

noncomputable section

namespace Cert.KernelIdeal.Gen

open Idealize.ShloMosaic Idealize.ShloMosaic.TcCoe Idealize.ShloMosaic.ValueIdx
open Idealize.SL Idealize.SL.RA Idealize.SL.BI Idealize.SL.Sem
open Idealize.ShloMosaic.Pipeline (Dat Cfg Window)
open Cert.Proof.Angles Cert.Proof.Tables

theorem unit_in_val : Named.named (F := Ideal) Cert.KernelIdeal.κ "unit_in" (φ := .f32) 0x39C90FDB#32 = (((1 / 8192) * Real.pi : ℝ) : EReal) := by
  have h : Cert.KernelIdeal.κ "unit_in" = some (((1 / 8192) * Real.pi : ℝ) : EReal) := rfl
  simp [Named.named, h]

theorem cos_unit_in {x : BitVec 32} {n : ℤ} (h : x.toInt ≡ n [ZMOD (16384 : ℕ)]) :
    Ideal.cos (((x.toInt : ℝ) : EReal) * Named.named (F := Ideal) Cert.KernelIdeal.κ "unit_in" (φ := .f32) 0x39C90FDB#32) = ((cosN 16384 n : ℝ) : EReal) := by
  rw [unit_in_val, ← EReal.coe_mul, ← cosN_congr (by decide) h]
  show ((Real.cos _ : ℝ) : EReal) = _
  unfold cosN; congr 2; push_cast; ring
theorem sin_unit_in {x : BitVec 32} {n : ℤ} (h : x.toInt ≡ n [ZMOD (16384 : ℕ)]) :
    Ideal.sin (((x.toInt : ℝ) : EReal) * Named.named (F := Ideal) Cert.KernelIdeal.κ "unit_in" (φ := .f32) 0x39C90FDB#32) = ((sinN 16384 n : ℝ) : EReal) := by
  rw [unit_in_val, ← EReal.coe_mul, ← sinN_congr (by decide) h]
  show ((Real.sin _ : ℝ) : EReal) = _
  unfold sinN; congr 2; push_cast; ring

/-- The frequencies, as numbers. -/
def pU (v0 : Vec Ideal S1x1536 .i32) (k : ℕ) : ℤ := (at2 (α := BitVec 32) v0 0 k).toInt

/-- The word of the angle inside a row block. -/
def pInner (v0 : Vec Ideal S1x1536 .i32) (b : Fin 128) (k : Fin 1536) : BitVec 32 :=
  pWord (IntOp.muli (BitVec.ofNat 32 b.val) (v0 (ix2 0 k)))

theorem pInner_mod (v0 : Vec Ideal S1x1536 .i32) (b : Fin 128) (k : Fin 1536) :
    (pInner v0 b k).toInt ≡ (b.val : ℤ) * pU v0 k.val [ZMOD (16384 : ℕ)] := by
  refine (pWord_mod _).trans ((mod_of_mod (toInt_mul_mod _ _)).trans ?_)
  rw [toInt_ofNat_small (by have := b.isLt; omega)]
  unfold pU; rw [at2_eq v0 (by decide : 0 < 1) k.isLt]; exact Int.ModEq.refl _

theorem pay7_eq (v0 : Vec Ideal S1x1536 .i32) (b : Fin 128) (k : Fin 1536) :
    k0_pay7 v0 (ix2 b k) = (((pInner v0 b k).toInt : ℝ) : EReal) * Named.named (F := Ideal) Cert.KernelIdeal.κ "unit_in" (φ := .f32) 0x39C90FDB#32 := by
  have e1 : iota .tc S128x1536 32 [0] iota_S128x1536_d0_w32 (ix2 b k) = BitVec.ofNat 32 b.val := iota_single_apply _ _ _ _ _ _
  have e2 : broadcastTo S128x1536 (k0_pay6 v0) broadcasts_S1x1536_S128x1536 (ix2 b k) = v0 (ix2 0 k) := by
    rw [show k0_pay6 v0 = v0 from shapeCast_self _ _]
    exact broadcastTo_1b_ab_apply v0 _ b k
  unfold pInner
  rw [← e1, ← e2]; rfl

theorem pay8_eq (v0 : Vec Ideal S1x1536 .i32) (b : Fin 128) (k : Fin 1536) : k0_pay8 v0 (ix2 b k) = ((cosN 16384 (b.val * pU v0 k.val) : ℝ) : EReal) := by
  rw [show k0_pay8 v0 = cos (k0_pay7 v0) from shapeCast_self _ _, ← cos_unit_in (pInner_mod v0 b k), ← pay7_eq]; rfl
theorem pay9_eq (v0 : Vec Ideal S1x1536 .i32) (b : Fin 128) (k : Fin 1536) : k0_pay9 v0 (ix2 b k) = ((sinN 16384 (b.val * pU v0 k.val) : ℝ) : EReal) := by
  rw [show k0_pay9 v0 = sin (k0_pay7 v0) from shapeCast_self _ _, ← sin_unit_in (pInner_mod v0 b k), ← pay7_eq]; rfl

/-- The word of the angle of a row block's first row. -/
def pOuter (v0 : Vec Ideal S1x1536 .i32) (w : BitVec 32) (k : Fin 1536) : BitVec 32 := pWord (IntOp.muli (v0 (ix2 0 k)) w)

theorem pOuter_mod (v0 : Vec Ideal S1x1536 .i32) (w : BitVec 32) (n : ℕ) (hw : w.toInt = n) (k : Fin 1536) :
    (pOuter v0 w k).toInt ≡ (n : ℤ) * pU v0 k.val [ZMOD (16384 : ℕ)] := by
  refine (pWord_mod _).trans ((mod_of_mod (toInt_mul_mod _ _)).trans ?_)
  rw [hw, mul_comm]
  unfold pU; rw [at2_eq v0 (by decide : 0 < 1) k.isLt]; exact Int.ModEq.refl _

theorem pAng_eq (v0 : Vec Ideal S1x1536 .i32) (w : BitVec 32) (k : Fin 1536) :
    pAng w v0 (ix2 0 k) = (((pOuter v0 w k).toInt : ℝ) : EReal) * Named.named (F := Ideal) Cert.KernelIdeal.κ "unit_in" (φ := .f32) 0x39C90FDB#32 := by
  have e2 : k0_pay6 v0 (ix2 0 k) = v0 (ix2 0 k) := by rw [show k0_pay6 v0 = v0 from shapeCast_self _ _]
  unfold pOuter
  rw [← e2]; rfl

theorem pCos_eq (v0 : Vec Ideal S1x1536 .i32) (w : BitVec 32) (n : ℕ) (hw : w.toInt = n) (b : Fin 128) (k : Fin 1536) :
    pCos w v0 (k0_pay8 v0) (k0_pay9 v0) (ix2 b k) = ((pEnt (pU v0) (n + b.val) k.val : ℝ) : EReal) := by
  have ec : broadcastTo S128x1536 (cos (pAng w v0)) broadcasts_S1x1536_S128x1536 (ix2 b k) = ((cosN 16384 (n * pU v0 k.val) : ℝ) : EReal) := by
    rw [← cos_unit_in (pOuter_mod v0 w n hw k), ← pAng_eq]
    exact broadcastTo_1b_ab_apply (cos (pAng w v0)) _ b k
  have es : broadcastTo S128x1536 (sin (pAng w v0)) broadcasts_S1x1536_S128x1536 (ix2 b k) = ((sinN 16384 (n * pU v0 k.val) : ℝ) : EReal) := by
    rw [← sin_unit_in (pOuter_mod v0 w n hw k), ← pAng_eq]
    exact broadcastTo_1b_ab_apply (sin (pAng w v0)) _ b k
  have e : pCos w v0 (k0_pay8 v0) (k0_pay9 v0) (ix2 b k)
      = (broadcastTo S128x1536 (cos (pAng w v0)) broadcasts_S1x1536_S128x1536 (ix2 b k) : EReal) * k0_pay8 v0 (ix2 b k)
        - (broadcastTo S128x1536 (sin (pAng w v0)) broadcasts_S1x1536_S128x1536 (ix2 b k) : EReal) * k0_pay9 v0 (ix2 b k) := rfl
  rw [e, ec, es, pay8_eq, pay9_eq, ← EReal.coe_mul, ← EReal.coe_mul, ← EReal.coe_sub]
  refine congrArg Real.toEReal ?_
  unfold pEnt; rw [if_pos k.isLt]
  push_cast; rw [add_mul, cosN_add]
theorem pSin_eq (v0 : Vec Ideal S1x1536 .i32) (w : BitVec 32) (n : ℕ) (hw : w.toInt = n) (b : Fin 128) (k : Fin 1536) :
    pSin w v0 (k0_pay8 v0) (k0_pay9 v0) (ix2 b k) = ((pEnt (pU v0) (n + b.val) (1536 + k.val) : ℝ) : EReal) := by
  have ec : broadcastTo S128x1536 (cos (pAng w v0)) broadcasts_S1x1536_S128x1536 (ix2 b k) = ((cosN 16384 (n * pU v0 k.val) : ℝ) : EReal) := by
    rw [← cos_unit_in (pOuter_mod v0 w n hw k), ← pAng_eq]
    exact broadcastTo_1b_ab_apply (cos (pAng w v0)) _ b k
  have es : broadcastTo S128x1536 (sin (pAng w v0)) broadcasts_S1x1536_S128x1536 (ix2 b k) = ((sinN 16384 (n * pU v0 k.val) : ℝ) : EReal) := by
    rw [← sin_unit_in (pOuter_mod v0 w n hw k), ← pAng_eq]
    exact broadcastTo_1b_ab_apply (sin (pAng w v0)) _ b k
  have e : pSin w v0 (k0_pay8 v0) (k0_pay9 v0) (ix2 b k)
      = (broadcastTo S128x1536 (sin (pAng w v0)) broadcasts_S1x1536_S128x1536 (ix2 b k) : EReal) * k0_pay8 v0 (ix2 b k)
        + (broadcastTo S128x1536 (cos (pAng w v0)) broadcasts_S1x1536_S128x1536 (ix2 b k) : EReal) * k0_pay9 v0 (ix2 b k) := rfl
  rw [e, ec, es, pay8_eq, pay9_eq, ← EReal.coe_mul, ← EReal.coe_mul, ← EReal.coe_add]
  refine congrArg Real.toEReal ?_
  unfold pEnt; rw [if_neg (by omega), Nat.add_sub_cancel_left]
  push_cast; rw [add_mul, sinN_add]

theorem pBase_toInt (i : grid0.Coords) (a : ℕ) (ha : a < 4) : (pBase i a).toInt = ((512 * (i 0).val + 128 * a : ℕ) : ℤ) := by
  have h0 : (i 0).val < 32 := (i 0).isLt
  have e : pBase i a = BitVec.ofNat 32 (512 * (i 0).val + 128 * a) := by
    apply BitVec.eq_of_toNat_eq
    show (((BitVec.ofNat 32 (i 0).val) * 4#32 + BitVec.ofNat 32 a) * 128#32 : BitVec 32).toNat = _
    simp only [BitVec.toNat_mul, BitVec.toNat_add, BitVec.toNat_ofNat]
    omega
  rw [e, toInt_ofNat_small (by omega)]

/-- The block a point leaves. -/
theorem pBlock_eq (i : grid0.Coords) (v0 : Vec Ideal S1x1536 .i32) (y : S512x3072.Idx) :
    View.canon (pPieces i v0 (k0_pay8 v0) (k0_pay9 v0)) y = ((pEnt (pU v0) (512 * (i 0).val + (y 0).val) (y 1).val : ℝ) : EReal) := by
  refine View.canon_apply_of_pieces (Val := Elt Ideal) (S := S512x3072) (e := .bf16)
    (fun y : S512x3072.Idx => ((pEnt (pU v0) (512 * (i 0).val + (y 0).val) (y 1).val : ℝ) : EReal)) _ ?_ y (pPieces_cover i v0 _ _ y)
  have hc : ∀ a (ha : a < 4) (inb : ∀ k, (![128 * a, 0] : Fin 2 → ℕ) k + S128x1536.size k ≤ S512x3072.size k) (x : S128x1536.Idx),
      pCos (pBase i a) v0 (k0_pay8 v0) (k0_pay9 v0) x = ((pEnt (pU v0) (512 * (i 0).val + ((Rect.unit (s := S512x3072) ![128 * a, 0] S128x1536.size inb).emb x 0).val) ((Rect.unit (s := S512x3072) ![128 * a, 0] S128x1536.size inb).emb x 1).val : ℝ) : EReal) := by
    intro a ha inb x
    obtain ⟨b, k, rfl⟩ : ∃ (b : Fin 128) (k : Fin 1536), x = ix2 b k := ⟨x 0, x 1, eq_ix2 x⟩
    rw [pCos_eq v0 _ _ (pBase_toInt i a ha)]
    rw [show ((Rect.unit (s := S512x3072) ![128 * a, 0] S128x1536.size inb).emb (ix2 b k) 0).val = 128 * a + 1 * b.val from rfl,
      show ((Rect.unit (s := S512x3072) ![128 * a, 0] S128x1536.size inb).emb (ix2 b k) 1).val = 0 + 1 * k.val from rfl, one_mul, one_mul, zero_add, Nat.add_assoc]
  have hs : ∀ a (ha : a < 4) (inb : ∀ k, (![128 * a, 1536] : Fin 2 → ℕ) k + S128x1536.size k ≤ S512x3072.size k) (x : S128x1536.Idx),
      pSin (pBase i a) v0 (k0_pay8 v0) (k0_pay9 v0) x = ((pEnt (pU v0) (512 * (i 0).val + ((Rect.unit (s := S512x3072) ![128 * a, 1536] S128x1536.size inb).emb x 0).val) ((Rect.unit (s := S512x3072) ![128 * a, 1536] S128x1536.size inb).emb x 1).val : ℝ) : EReal) := by
    intro a ha inb x
    obtain ⟨b, k, rfl⟩ : ∃ (b : Fin 128) (k : Fin 1536), x = ix2 b k := ⟨x 0, x 1, eq_ix2 x⟩
    rw [pSin_eq v0 _ _ (pBase_toInt i a ha)]
    rw [show ((Rect.unit (s := S512x3072) ![128 * a, 1536] S128x1536.size inb).emb (ix2 b k) 0).val = 128 * a + 1 * b.val from rfl,
      show ((Rect.unit (s := S512x3072) ![128 * a, 1536] S128x1536.size inb).emb (ix2 b k) 1).val = 1536 + 1 * k.val from rfl, one_mul, one_mul, Nat.add_assoc]
  intro p hp
  simp only [pPieces, List.mem_cons, List.not_mem_nil, or_false] at hp
  rcases hp with rfl | rfl | rfl | rfl | rfl | rfl | rfl | rfl
  · exact hs 3 (by decide) inb_S512x3072_S128x1536_384_1536
  · exact hc 3 (by decide) inb_S512x3072_S128x1536_384_0
  · exact hs 2 (by decide) inb_S512x3072_S128x1536_256_1536
  · exact hc 2 (by decide) inb_S512x3072_S128x1536_256_0
  · exact hs 1 (by decide) inb_S512x3072_S128x1536_128_1536
  · exact hc 1 (by decide) inb_S512x3072_S128x1536_128_0
  · exact hs 0 (by decide) inb_S512x3072_S128x1536_0_1536
  · exact hc 0 (by decide) inb_S512x3072_S128x1536_0_0

variable (W : Dev nD → Valuation τ sig (Elt Ideal))

/-- The frequencies the call finds. -/
def pV (c : Dev nD) : Vec Ideal S1x1536 .i32 := W c (Proc.devRef .tc main_v2)

theorem iblk0_eq (c : Dev nD) (t : Fin cfg0.N) : iblk0 W c 0 t = pV W c := by
  funext y
  refine congrArg (W c (Proc.devRef .tc main_v2)) (funext fun a => Fin.ext ?_)
  refine (Pipeline.Window.rect_emb_val win0_0 t y a).trans ?_
  match a with
  | ⟨0, _⟩ => exact (congrArg (· + (y 0).val) (show win0_0.index t 0 * win0_0.size 0 = 0 from rfl)).trans (Nat.zero_add _)
  | ⟨1, _⟩ => exact (congrArg (· + (y 1).val) (show win0_0.index t 1 * win0_0.size 1 = 0 from rfl)).trans (Nat.zero_add _)

/-- The whole table. -/
def pTab (v0 : Vec Ideal S1x1536 .i32) : S16384x3072.Idx → EReal := fun i => ((pEnt (pU v0) (i 0).val (i 1).val : ℝ) : EReal)

theorem p_index0 (t : Fin grid0.N) : win0_1.index t 0 = t.val := by
  have ht : t.val < 32 := Nat.lt_of_lt_of_eq t.isLt N_0
  have e0 : (grid0.coords t 0).val = t.val / 1 % 32 := Pipeline.Grid.coords_val t 0 (by decide) rfl
  show (BitVec.ofNat 32 (grid0.coords t 0).val).toNat = _
  rw [e0, BitVec.toNat_ofNat]; omega
theorem p_index1 (t : Fin grid0.N) : win0_1.index t 1 = 0 := rfl
theorem p_size0 : win0_1.size 0 = 512 := rfl
theorem p_size1 : win0_1.size 1 = 3072 := rfl

theorem p_arr (c : Dev nD) : (pDat W c).arrAt 1 cfg0.N = pTab (pV W c) := by
  refine (pDat W c).arrAt_eq_of_cover 1 (pTab (pV W c)) ?_ ?_
  · intro t _
    have ht : t.val < 32 := Nat.lt_of_lt_of_eq t.isLt N_0
    have e0 : (grid0.coords t 0).val = t.val / 1 % 32 := Pipeline.Grid.coords_val t 0 (by decide) rfl
    show (cfg0.win 1).cut (grid0.coords t) ((pDat W c).after 1 t) = _
    rw [pAfter_1, iblk0_eq]
    funext y
    refine (pBlock_eq (grid0.coords t) (pV W c) _).trans ?_
    show _ = pTab (pV W c) ((win0_1.rect t).emb y)
    unfold pTab
    rw [Pipeline.Window.rect_emb_val win0_1 t y 0, Pipeline.Window.rect_emb_val win0_1 t y 1, p_index0, p_index1, p_size0, p_size1]
    refine congrArg Real.toEReal ?_
    show pEnt (pU (pV W c)) (512 * (grid0.coords t 0).val + (y 0).val) (y 1).val = _
    rw [e0, Nat.zero_mul, Nat.zero_add, Nat.mul_comm, Nat.div_one, Nat.mod_eq_of_lt ht]
  · intro i
    have h0 : (i 0 : Nat) < 16384 := (i 0).isLt
    have h1 : (i 1 : Nat) < 3072 := (i 1).isLt
    have ht : (i 0 : Nat) / 512 < cfg0.N := by rw [show cfg0.N = 32 from N_0]; omega
    refine ⟨⟨(i 0 : Nat) / 512, ht⟩, flush0_1 _, ?_⟩
    show i ∈ ((View.whole main_v10).slice (win0_1.rect ⟨(i 0 : Nat) / 512, ht⟩)).set
    rw [View.set_slice_whole, Rect.mem_set_unit]
    intro a
    match a with
    | ⟨0, _⟩ =>
      show win0_1.index ⟨(i 0 : Nat) / 512, ht⟩ 0 * win0_1.size 0 ≤ (i 0 : Nat) ∧ (i 0 : Nat) < win0_1.index ⟨(i 0 : Nat) / 512, ht⟩ 0 * win0_1.size 0 + 512
      rw [p_index0, p_size0]; dsimp only; omega
    | ⟨1, _⟩ =>
      show win0_1.index ⟨(i 0 : Nat) / 512, ht⟩ 1 * win0_1.size 1 ≤ (i 1 : Nat) ∧ (i 1 : Nat) < win0_1.index ⟨(i 0 : Nat) / 512, ht⟩ 1 * win0_1.size 1 + 3072
      rw [p_index1, p_size1]; omega

end Cert.KernelIdeal.Gen

end
-- ==== Proof.QValue.lean ====
/- What the column factor (`trig_q`) holds: the cosine of every column's angle and the sine with the sign turned. -/
module

public import proofs.«01_k».proof.Proof.QRegion
public import proofs.«01_k».proof.Proof.PValue

@[expose] public section

set_option maxRecDepth 16384

noncomputable section

namespace Cert.KernelIdeal.Gen

open Idealize.ShloMosaic Idealize.ShloMosaic.TcCoe Idealize.ShloMosaic.ValueIdx
open Idealize.SL Idealize.SL.RA Idealize.SL.BI Idealize.SL.Sem
open Idealize.ShloMosaic.Pipeline (Dat Cfg Window)
open Cert.Proof.Angles Cert.Proof.Tables

theorem unit_out_val : Named.named (F := Ideal) Cert.KernelIdeal.κ "unit_out" (φ := .f32) 0x3AA0D97C#32 = (((1 / 2560) * Real.pi : ℝ) : EReal) := by
  have h : Cert.KernelIdeal.κ "unit_out" = some (((1 / 2560) * Real.pi : ℝ) : EReal) := rfl
  simp [Named.named, h]

theorem cos_unit_out {x : BitVec 32} {n : ℤ} (h : x.toInt ≡ n [ZMOD (5120 : ℕ)]) :
    Ideal.cos (((x.toInt : ℝ) : EReal) * Named.named (F := Ideal) Cert.KernelIdeal.κ "unit_out" (φ := .f32) 0x3AA0D97C#32) = ((cosN 5120 n : ℝ) : EReal) := by
  rw [unit_out_val, ← EReal.coe_mul, ← cosN_congr (by decide) h]
  show ((Real.cos _ : ℝ) : EReal) = _
  unfold cosN; congr 2; push_cast; ring
theorem sin_unit_out {x : BitVec 32} {n : ℤ} (h : x.toInt ≡ n [ZMOD (5120 : ℕ)]) :
    Ideal.sin (((x.toInt : ℝ) : EReal) * Named.named (F := Ideal) Cert.KernelIdeal.κ "unit_out" (φ := .f32) 0x3AA0D97C#32) = ((sinN 5120 n : ℝ) : EReal) := by
  rw [unit_out_val, ← EReal.coe_mul, ← sinN_congr (by decide) h]
  show ((Real.sin _ : ℝ) : EReal) = _
  unfold sinN; congr 2; push_cast; ring

/-- The reciprocals the remainders are taken with. -/
theorem recip5120 : Ideal.ofBits .f32 0x394CCCCD#32 = ((13421773 / 68719476736 : ℝ) : EReal) := by
  simp [Ideal.ofBits, Ideal.ieee]; rw [← EReal.coe_mul]; norm_num
theorem recip40 : Ideal.ofBits .f32 0x3CCCCCCD#32 = ((13421773 / 536870912 : ℝ) : EReal) := by
  simp [Ideal.ofBits, Ideal.ieee]; rw [← EReal.coe_mul]; norm_num

/-- The frequencies, as numbers. -/
def qV (v0 : Vec Ideal S256x1 .i32) (k : ℕ) : ℤ := (at2 (α := BitVec 32) v0 k 0).toInt

/-- Lane `l` times the row's frequency. -/
def qProd (v0 : Vec Ideal S256x1 .i32) (k : Fin 256) (l : Fin 128) : BitVec 32 := IntOp.muli (BitVec.ofNat 32 l.val) (v0 (ix2 k 0))

/-- The frequencies are small enough for the remainders. -/
def qOk (v0 : Vec Ideal S256x1 .i32) : Prop := ∀ k : Fin 256, -419512 ≤ (v0 (ix2 k 0) : BitVec 32).toInt ∧ (v0 (ix2 k 0) : BitVec 32).toInt ≤ 419512

theorem qProd_toInt (v0 : Vec Ideal S256x1 .i32) (hv : qOk v0) (k : Fin 256) (l : Fin 128) :
    (qProd v0 k l).toInt = l.val * qV v0 k.val ∧ -60000000 ≤ (qProd v0 k l).toInt ∧ (qProd v0 k l).toInt ≤ 60000000 := by
  have hk := hv k
  have hl : (BitVec.ofNat 32 l.val).toInt = l.val := toInt_ofNat_small (by have := l.isLt; omega)
  have e : qV v0 k.val = (v0 (ix2 k 0) : BitVec 32).toInt := by
    unfold qV; rw [at2_eq v0 k.isLt (by decide : 0 < 1)]; rfl
  have hlt := l.isLt
  have b1 : -60000000 ≤ (l.val : ℤ) * (v0 (ix2 k 0) : BitVec 32).toInt := by nlinarith
  have b2 : (l.val : ℤ) * (v0 (ix2 k 0) : BitVec 32).toInt ≤ 60000000 := by nlinarith
  have h : (qProd v0 k l).toInt = l.val * (v0 (ix2 k 0) : BitVec 32).toInt := by
    have := toInt_mul_small (x := BitVec.ofNat 32 l.val) (y := (v0 (ix2 k 0) : BitVec 32)) (by rw [hl]; omega) (by rw [hl]; omega)
    rw [hl] at this; exact this
  rw [e, h]; exact ⟨rfl, b1, b2⟩

/-- The word of the angle inside a column block, -/
def qInner (v0 : Vec Ideal S256x1 .i32) (k : Fin 256) (l : Fin 128) : BitVec 32 :=
  negHalf (remFix 5120#32 (remWord (Ideal.ofBits .f32 0x394CCCCD#32) 5120#32 (qProd v0 k l)))
/-- and that of a column block's first column. -/
def qOuter (v0 : Vec Ideal S256x1 .i32) (k : Fin 256) (l : Fin 128) : BitVec 32 :=
  negHalf (IntOp.muli (remFix 40#32 (remWord (Ideal.ofBits .f32 0x3CCCCCCD#32) 40#32 (qProd v0 k l))) 128#32)

theorem qInner_mod (v0 : Vec Ideal S256x1 .i32) (hv : qOk v0) (k : Fin 256) (l : Fin 128) :
    (qInner v0 k l).toInt ≡ l.val * qV v0 k.val [ZMOD (5120 : ℕ)] := by
  obtain ⟨e, h1, h2⟩ := qProd_toInt v0 hv k l
  have em : (5120#32 : BitVec 32).toInt = 5120 := by decide
  have hr := remWord_mod (c := 13421773 / 68719476736) (m := 5120#32) (by rw [em]; norm_num) (by rw [em]) (by rw [em]; norm_num) (qProd v0 k l) h1 h2
  unfold qInner
  rw [recip5120]
  refine (negHalf_mod _ (by omega)).trans ?_
  rw [← e]
  have := hr.1; rw [em] at this; exact this

theorem qOuter_mod (v0 : Vec Ideal S256x1 .i32) (hv : qOk v0) (k : Fin 256) (l : Fin 128) :
    (qOuter v0 k l).toInt ≡ (128 * l.val : ℤ) * qV v0 k.val [ZMOD (5120 : ℕ)] := by
  obtain ⟨e, h1, h2⟩ := qProd_toInt v0 hv k l
  have em : (40#32 : BitVec 32).toInt = 40 := by decide
  have e8 : (128#32 : BitVec 32).toInt = 128 := by decide
  have hr := remWord_mod (c := 13421773 / 536870912) (m := 40#32) (by rw [em]; norm_num) (by rw [em]; norm_num) (by rw [em]; norm_num) (qProd v0 k l) h1 h2
  unfold qOuter
  rw [recip40]
  generalize hw : remFix 40#32 (remWord ((13421773 / 536870912 : ℝ) : EReal) 40#32 (qProd v0 k l)) = w at hr ⊢
  have hm : (IntOp.muli w 128#32).toInt = w.toInt * 128 := by
    have := toInt_mul_small (x := w) (y := 128#32) (by rw [e8]; omega) (by rw [e8]; omega)
    rw [e8] at this; exact this
  refine (negHalf_mod _ (by rw [hm]; omega)).trans ?_
  have h3 := hr.1; rw [em, e] at h3
  have h4 := h3.mul_right' (c := 128)
  rw [hm]
  refine h4.trans ?_
  rw [show (l.val : ℤ) * qV v0 k.val * 128 = 128 * l.val * qV v0 k.val from by ring]

theorem q_iota (k : Fin 256) (l : Fin 128) : iota .tc S256x128 32 [1] iota_S256x128_d1_w32 (ix2 k l) = BitVec.ofNat 32 l.val := iota_single_apply _ _ _ _ _ _
/-- One column spread over the lanes. -/
theorem q_spread {α : Type} (x : S256x1.Idx → α) (h : S256x1.Broadcasts S256x128) (k : Fin 256) (l : Fin 128) : broadcastTo S256x128 x h (ix2 k l) = x (ix2 k 0) := by
  refine broadcastTo_apply x h (ix2 k l) (ix2 k 0) ?_
  intro a; fin_cases a
  · rfl
  · rfl

theorem pay3_eq (v0 : Vec Ideal S256x1 .i32) (k : Fin 256) (l : Fin 128) :
    k1_pay3 v0 (ix2 k l) = (((qInner v0 k l).toInt : ℝ) : EReal) * Named.named (F := Ideal) Cert.KernelIdeal.κ "unit_out" (φ := .f32) 0x3AA0D97C#32 := by
  have e2 : broadcastTo S256x128 (k1_pay2 v0) broadcasts_S256x1_S256x128 (ix2 k l) = v0 (ix2 k 0) := by
    rw [show k1_pay2 v0 = v0 from shapeCast_self _ _]; exact q_spread v0 _ k l
  unfold qInner qProd
  rw [← q_iota k l, ← e2]; rfl
theorem pay8q_eq (v0 : Vec Ideal S256x1 .i32) (k : Fin 256) (l : Fin 128) :
    k1_pay8 (F := Ideal) (k1_pay6 v0) (k1_pay7 v0) (ix2 k l) = (((qOuter v0 k l).toInt : ℝ) : EReal) * Named.named (F := Ideal) Cert.KernelIdeal.κ "unit_out" (φ := .f32) 0x3AA0D97C#32 := by
  have e2 : broadcastTo S256x128 (k1_pay2 v0) broadcasts_S256x1_S256x128 (ix2 k l) = v0 (ix2 k 0) := by
    rw [show k1_pay2 v0 = v0 from shapeCast_self _ _]; exact q_spread v0 _ k l
  unfold qOuter qProd
  rw [← q_iota k l, ← e2]; rfl

section Angles
variable (v0 : Vec Ideal S256x1 .i32) (hv : qOk v0) (k : Fin 256) (l : Fin 128)
include hv
theorem qCb_eq : qCb v0 (ix2 k l) = ((cosN 5120 (l.val * qV v0 k.val) : ℝ) : EReal) := by
  rw [← cos_unit_out (qInner_mod v0 hv k l), ← pay3_eq]; rfl
theorem qSb_eq : qSb v0 (ix2 k l) = ((sinN 5120 (l.val * qV v0 k.val) : ℝ) : EReal) := by
  rw [← sin_unit_out (qInner_mod v0 hv k l), ← pay3_eq]; rfl
theorem qCa_eq : qCa v0 (ix2 k l) = ((cosN 5120 (128 * l.val * qV v0 k.val) : ℝ) : EReal) := by
  rw [← cos_unit_out (qOuter_mod v0 hv k l), ← pay8q_eq]; rfl
theorem qSa_eq : qSa v0 (ix2 k l) = ((sinN 5120 (128 * l.val * qV v0 k.val) : ℝ) : EReal) := by
  rw [← sin_unit_out (qOuter_mod v0 hv k l), ← pay8q_eq]; rfl

/-- A lane of the first columns' table, spread over a block. -/
theorem q_lane (x : FVec Ideal S256x128 .f32) (a : ℕ) (h : a < 40) :
    broadcastTo S256x128 (extractStridedSlice S256x1 ![0, a] x (qSlices h)) broadcasts_S256x1_S256x128 (ix2 k l) = x (ix2 k ⟨a, by omega⟩) := by
  rw [q_spread]
  refine extractStridedSlice_apply _ x (qSlices h) (ix2 k 0) (ix2 k ⟨a, by omega⟩) ?_
  intro b; fin_cases b
  · exact (Nat.zero_add _).symm
  · rfl

theorem qCos_eq (a : ℕ) (h : a < 40) : qCos v0 a h (ix2 k l) = ((qC (qV v0) k.val (128 * a + l.val) : ℝ) : EReal) := by
  have h1 := q_lane v0 hv k l (qCa v0) a h
  have h2 := q_lane v0 hv k l (qSa v0) a h
  show broadcastTo S256x128 (extractStridedSlice S256x1 ![0, a] (qCa v0) (qSlices h)) broadcasts_S256x1_S256x128 (ix2 k l) * qCb v0 (ix2 k l)
    - broadcastTo S256x128 (extractStridedSlice S256x1 ![0, a] (qSa v0) (qSlices h)) broadcasts_S256x1_S256x128 (ix2 k l) * qSb v0 (ix2 k l) = _
  rw [h1, h2, qCa_eq v0 hv, qSa_eq v0 hv, qCb_eq v0 hv, qSb_eq v0 hv, ← EReal.coe_mul, ← EReal.coe_mul, ← EReal.coe_sub]
  refine congrArg Real.toEReal ?_
  unfold qC
  push_cast; rw [add_mul, cosN_add]
theorem qSin_eq (a : ℕ) (h : a < 40) : qSin v0 a h (ix2 k l) = ((qS (qV v0) k.val (128 * a + l.val) : ℝ) : EReal) := by
  have h1 := q_lane v0 hv k l (qCa v0) a h
  have h2 := q_lane v0 hv k l (qSa v0) a h
  show Ideal.ofBits .f32 0x00000000#32 - (broadcastTo S256x128 (extractStridedSlice S256x1 ![0, a] (qSa v0) (qSlices h)) broadcasts_S256x1_S256x128 (ix2 k l) * qCb v0 (ix2 k l)
    + broadcastTo S256x128 (extractStridedSlice S256x1 ![0, a] (qCa v0) (qSlices h)) broadcasts_S256x1_S256x128 (ix2 k l) * qSb v0 (ix2 k l)) = _
  rw [h1, h2, qCa_eq v0 hv, qSa_eq v0 hv, qCb_eq v0 hv, qSb_eq v0 hv, ← EReal.coe_mul, ← EReal.coe_mul, ← EReal.coe_add,
    show Ideal.ofBits .f32 0x00000000#32 = ((0 : ℝ) : EReal) from by simp [Ideal.ofBits, Ideal.ieee], ← EReal.coe_sub]
  refine congrArg Real.toEReal ?_
  unfold qS
  push_cast; rw [add_mul, sinN_add]; ring

end Angles

/-- Every store of the cosines is a block of the table, -/
theorem qPiecesC_val (v0 : Vec Ideal S256x1 .i32) (hv : qOk v0) : ∀ (n : ℕ) (h : n ≤ 40), ∀ p ∈ qPiecesC v0 n h, ∀ x,
    p.2 x = ((qC (qV v0) (p.1.emb x 0).val (p.1.emb x 1).val : ℝ) : EReal)
  | 0, _, p, hp => absurd hp (List.not_mem_nil)
  | n + 1, h, p, hp => by
    unfold qPiecesC at hp
    rcases List.mem_cons.mp hp with rfl | hp
    · intro x
      obtain ⟨k, l, rfl⟩ : ∃ (k : Fin 256) (l : Fin 128), x = ix2 k l := ⟨x 0, x 1, eq_ix2 x⟩
      refine (qCos_eq v0 hv k l n h).trans ?_
      show _ = ((qC (qV v0) (0 + 1 * k.val) (128 * n + 1 * l.val) : ℝ) : EReal)
      rw [one_mul, one_mul, zero_add]
    · exact qPiecesC_val v0 hv n _ p hp
/-- and every store of the sines. -/
theorem qPiecesS_val (v0 : Vec Ideal S256x1 .i32) (hv : qOk v0) : ∀ (n : ℕ) (h : n ≤ 40), ∀ p ∈ qPiecesS v0 n h, ∀ x,
    p.2 x = ((qS (qV v0) (p.1.emb x 0).val (p.1.emb x 1).val : ℝ) : EReal)
  | 0, _, p, hp => absurd hp (List.not_mem_nil)
  | n + 1, h, p, hp => by
    unfold qPiecesS at hp
    rcases List.mem_cons.mp hp with rfl | hp
    · intro x
      obtain ⟨k, l, rfl⟩ : ∃ (k : Fin 256) (l : Fin 128), x = ix2 k l := ⟨x 0, x 1, eq_ix2 x⟩
      refine (qSin_eq v0 hv k l n h).trans ?_
      show _ = ((qS (qV v0) (0 + 1 * k.val) (128 * n + 1 * l.val) : ℝ) : EReal)
      rw [one_mul, one_mul, zero_add]
    · exact qPiecesS_val v0 hv n _ p hp

variable (W : Dev nD → Valuation τ sig (Elt Ideal))

/-- The frequencies the call finds. -/
def qF (c : Dev nD) : Vec Ideal S1536x1 .i32 := W c (Proc.devRef .tc main_v4)
def qFreq (c : Dev nD) (k : ℕ) : ℤ := (at2 (α := BitVec 32) (qF W c) k 0).toInt

/-- The whole tables. -/
def qTabC (c : Dev nD) : S1536x5120.Idx → EReal := fun i => ((qC (qFreq W c) (i 0).val (i 1).val : ℝ) : EReal)
def qTabS (c : Dev nD) : S1536x5120.Idx → EReal := fun i => ((qS (qFreq W c) (i 0).val (i 1).val : ℝ) : EReal)

theorem q_c0 (t : Fin grid1.N) : (BitVec.ofNat 32 (grid1.coords t 0).val).toNat = t.val := by
  have ht : t.val < 6 := Nat.lt_of_lt_of_eq t.isLt N_1
  have e0 : (grid1.coords t 0).val = t.val / 1 % 6 := Pipeline.Grid.coords_val t 0 (by decide) rfl
  rw [e0, BitVec.toNat_ofNat]; omega

theorem q_blk (c : Dev nD) (t : Fin cfg1.N) (k : Fin 256) : (iblk1 W c 0 t : Vec Ideal S256x1 .i32) (ix2 k 0) = at2 (α := BitVec 32) (qF W c) (256 * t.val + k.val) 0 := by
  refine at2_of (α := BitVec 32) (qF W c) ((win1_0.rect t).emb (ix2 k 0)) _ _ ?_ ?_
  · refine (Pipeline.Window.rect_emb_val win1_0 t (ix2 k 0) 0).trans ?_
    show (BitVec.ofNat 32 (grid1.coords t 0).val).toNat * 256 + k.val = _
    rw [q_c0, Nat.mul_comm]
  · refine (Pipeline.Window.rect_emb_val win1_0 t (ix2 k 0) 1).trans ?_
    show 0 * 1 + 0 = _
    rfl
theorem q_blkV (c : Dev nD) (t : Fin cfg1.N) (k : Fin 256) : qV (iblk1 W c 0 t) k.val = qFreq W c (256 * t.val + k.val) := by
  unfold qV qFreq
  rw [← q_blk, at2_eq _ k.isLt (by decide : 0 < 1)]; rfl

/-- The frequencies are in range. -/
def qRange (c : Dev nD) : Prop := ∀ y : S1536x1.Idx, -419512 ≤ (qF W c y : BitVec 32).toInt ∧ (qF W c y : BitVec 32).toInt ≤ 419512

theorem q_ok (c : Dev nD) (hv : qRange W c) (t : Fin cfg1.N) : qOk (iblk1 W c 0 t) := by
  intro k
  exact hv ((win1_0.rect t).emb (ix2 k 0))

theorem q_index0 (t : Fin grid1.N) : win1_1.index t 0 = t.val := q_c0 t
theorem q_index1 (t : Fin grid1.N) : win1_1.index t 1 = 0 := rfl
theorem q_index0' (t : Fin grid1.N) : win1_2.index t 0 = t.val := q_c0 t
theorem q_index1' (t : Fin grid1.N) : win1_2.index t 1 = 0 := rfl
theorem q_size0 : win1_1.size 0 = 256 := rfl
theorem q_size1 : win1_1.size 1 = 5120 := rfl
theorem q_size0' : win1_2.size 0 = 256 := rfl
theorem q_size1' : win1_2.size 1 = 5120 := rfl

theorem q_arrC (c : Dev nD) (hv : qRange W c) : (qDat W c).arrAt 1 cfg1.N = qTabC W c := by
  refine (qDat W c).arrAt_eq_of_cover 1 (qTabC W c) ?_ ?_
  · intro t _
    show (cfg1.win 1).cut (grid1.coords t) ((qDat W c).after 1 t) = _
    rw [qAfter_1]
    funext y
    refine (View.canon_apply_of_pieces (Val := Elt Ideal) (S := S256x5120) (e := .bf16)
      (fun y : S256x5120.Idx => ((qC (qV (iblk1 W c 0 t)) (y 0).val (y 1).val : ℝ) : EReal)) _
      (qPiecesC_val _ (q_ok W c hv t) 40 _) _ (qPiecesC_cover _ _)).trans ?_
    show _ = qTabC W c ((win1_1.rect t).emb y)
    unfold qTabC
    rw [Pipeline.Window.rect_emb_val win1_1 t y 0, Pipeline.Window.rect_emb_val win1_1 t y 1, q_index0, q_index1, q_size0, q_size1]
    refine congrArg Real.toEReal ?_
    show qC (qV (iblk1 W c 0 t)) (y 0).val (y 1).val = _
    unfold qC
    rw [q_blkV W c t (y 0), Nat.zero_mul, Nat.zero_add, Nat.mul_comm]
  · intro i
    have h0 : (i 0 : Nat) < 1536 := (i 0).isLt
    have h1 : (i 1 : Nat) < 5120 := (i 1).isLt
    have ht : (i 0 : Nat) / 256 < cfg1.N := by rw [show cfg1.N = 6 from N_1]; omega
    refine ⟨⟨(i 0 : Nat) / 256, ht⟩, flush1_1 _, ?_⟩
    show i ∈ ((View.whole main_v11_0).slice (win1_1.rect ⟨(i 0 : Nat) / 256, ht⟩)).set
    rw [View.set_slice_whole, Rect.mem_set_unit]
    intro a
    match a with
    | ⟨0, _⟩ =>
      show win1_1.index ⟨(i 0 : Nat) / 256, ht⟩ 0 * win1_1.size 0 ≤ (i 0 : Nat) ∧ (i 0 : Nat) < win1_1.index ⟨(i 0 : Nat) / 256, ht⟩ 0 * win1_1.size 0 + 256
      rw [q_index0, q_size0]; dsimp only; omega
    | ⟨1, _⟩ =>
      show win1_1.index ⟨(i 0 : Nat) / 256, ht⟩ 1 * win1_1.size 1 ≤ (i 1 : Nat) ∧ (i 1 : Nat) < win1_1.index ⟨(i 0 : Nat) / 256, ht⟩ 1 * win1_1.size 1 + 5120
      rw [q_index1, q_size1]; omega

theorem q_arrS (c : Dev nD) (hv : qRange W c) : (qDat W c).arrAt 2 cfg1.N = qTabS W c := by
  refine (qDat W c).arrAt_eq_of_cover 2 (qTabS W c) ?_ ?_
  · intro t _
    show (cfg1.win 2).cut (grid1.coords t) ((qDat W c).after 2 t) = _
    rw [qAfter_2]
    funext y
    refine (View.canon_apply_of_pieces (Val := Elt Ideal) (S := S256x5120) (e := .bf16)
      (fun y : S256x5120.Idx => ((qS (qV (iblk1 W c 0 t)) (y 0).val (y 1).val : ℝ) : EReal)) _
      (qPiecesS_val _ (q_ok W c hv t) 40 _) _ (qPiecesS_cover _ _)).trans ?_
    show _ = qTabS W c ((win1_2.rect t).emb y)
    unfold qTabS
    rw [Pipeline.Window.rect_emb_val win1_2 t y 0, Pipeline.Window.rect_emb_val win1_2 t y 1, q_index0', q_index1', q_size0', q_size1']
    refine congrArg Real.toEReal ?_
    show qS (qV (iblk1 W c 0 t)) (y 0).val (y 1).val = _
    unfold qS
    rw [q_blkV W c t (y 0), Nat.zero_mul, Nat.zero_add, Nat.mul_comm]
  · intro i
    have h0 : (i 0 : Nat) < 1536 := (i 0).isLt
    have h1 : (i 1 : Nat) < 5120 := (i 1).isLt
    have ht : (i 0 : Nat) / 256 < cfg1.N := by rw [show cfg1.N = 6 from N_1]; omega
    refine ⟨⟨(i 0 : Nat) / 256, ht⟩, flush1_2 _, ?_⟩
    show i ∈ ((View.whole main_v11_1).slice (win1_2.rect ⟨(i 0 : Nat) / 256, ht⟩)).set
    rw [View.set_slice_whole, Rect.mem_set_unit]
    intro a
    match a with
    | ⟨0, _⟩ =>
      show win1_2.index ⟨(i 0 : Nat) / 256, ht⟩ 0 * win1_2.size 0 ≤ (i 0 : Nat) ∧ (i 0 : Nat) < win1_2.index ⟨(i 0 : Nat) / 256, ht⟩ 0 * win1_2.size 0 + 256
      rw [q_index0', q_size0']; dsimp only; omega
    | ⟨1, _⟩ =>
      show win1_2.index ⟨(i 0 : Nat) / 256, ht⟩ 1 * win1_2.size 1 ≤ (i 1 : Nat) ∧ (i 1 : Nat) < win1_2.index ⟨(i 0 : Nat) / 256, ht⟩ 1 * win1_2.size 1 + 5120
      rw [q_index1', q_size1']; omega

end Cert.KernelIdeal.Gen

end
-- ==== Proof.HValue.lean ====
/- What the projection (`h_proj`) leaves: the input times the row factor, times the coefficients. -/
module

public import proofs.«01_k».proof.Proof.HRegion
public import proofs.«01_k».proof.Proof.Tables
public import Idealize.ShloMosaic.Lib.ValueLayout
public import Idealize.ShloMosaic.Lib.MatmulPlain

@[expose] public section

set_option maxRecDepth 16384

noncomputable section

namespace Cert.KernelIdeal.Gen

open Idealize.ShloMosaic Idealize.ShloMosaic.TcCoe Idealize.ShloMosaic.ValueIdx
open Idealize.SL Idealize.SL.RA Idealize.SL.BI Idealize.SL.Sem
open Idealize.ShloMosaic.Pipeline (Dat Cfg Window)
open Cert.Proof.Angles Cert.Proof.Tables

/-- An accumulation step is the accumulator plus the product. -/
theorem k2_pay2_apply (a : Vec Ideal S2048x1024 .f32) (x : Vec Ideal S2048x1024 .bf16) (p : Vec Ideal S1024x1024 .bf16) (r : Fin 2048) (j : Fin 1024) :
    k2_pay2 a x p (ix2 r j) = (a (ix2 r j) : EReal) + ∑ k : Fin 1024, (x (ix2 r k) : EReal) * p (ix2 k j) := by
  unfold k2_pay2
  rw [shapeCast_self, shapeCast_self, shapeCast_self]
  have h := Ideal.matmul_plain_apply (M := 2048) (K := 1024) (N := 1024) (φ₁ := .bf16) (φ₂ := .bf16) none x p (constant S2048x1024 .f32 0x00000000#32) r j
  refine (congrArg (fun z : EReal => (a (ix2 r j) : EReal) + z) h).trans ?_
  rw [constant_apply, show Ideal.ofBits .f32 0x00000000#32 = (0 : EReal) from by simp [Ideal.ofBits, Ideal.ieee], zero_add]

theorem k2_pay1_apply (y : S2048x1024.Idx) : (k2_pay1 (F := Ideal) y : EReal) = 0 := by
  unfold k2_pay1
  rw [shapeCast_self]
  show Ideal.ofBits .f32 0x00000000#32 = (0 : EReal)
  simp [Ideal.ofBits, Ideal.ieee]

theorem k2_pay3_apply (a : Vec Ideal S2048x1024 .f32) (v : Vec Ideal S1x1024 .f32) (r : Fin 2048) (j : Fin 1024) :
    k2_pay3 a v (ix2 r j) = (a (ix2 r j) : EReal) * v (ix2 0 j) := by
  unfold k2_pay3
  rw [shapeCast_self]
  exact congrArg (fun z : EReal => (a (ix2 r j) : EReal) * z) (broadcastTo_1b_ab_apply v broadcasts_S1x1024_S2048x1024 r j)

variable (W : Dev nD → Valuation τ sig (Elt Ideal))

/-- The input, the row factor and the coefficients the call finds. -/
def hX (c : Dev nD) : S4096x16384.Idx → EReal := W c (Proc.devRef .tc main_v0)
def hP (c : Dev nD) : S16384x3072.Idx → EReal := W c (Proc.devRef .tc main_v10)
def hC (c : Dev nD) : S1x3072.Idx → EReal := W c (Proc.devRef .tc main_v9)

section Index
variable (t : Fin grid2.N)

theorem h_lt : t.val < 96 := Nat.lt_of_lt_of_eq t.isLt N_2
theorem h_c0 : (BitVec.ofNat 32 (grid2.coords t 0).val).toNat = t.val / 48 := by
  have e0 : (grid2.coords t 0).val = t.val / 48 % 2 := Pipeline.Grid.coords_val t 0 (by decide) rfl
  have := h_lt t
  rw [e0, BitVec.toNat_ofNat]; omega
theorem h_c1 : (BitVec.ofNat 32 (grid2.coords t 1).val).toNat = t.val / 16 % 3 := by
  have e0 : (grid2.coords t 1).val = t.val / 16 % 3 := Pipeline.Grid.coords_val t 1 (by decide) rfl
  rw [e0, BitVec.toNat_ofNat]; omega
theorem h_c2 : (BitVec.ofNat 32 (grid2.coords t 2).val).toNat = t.val % 16 := by
  have e0 : (grid2.coords t 2).val = t.val / 1 % 16 := Pipeline.Grid.coords_val t 2 (by decide) rfl
  rw [e0, BitVec.toNat_ofNat]; omega

end Index

theorem h_blk0 (c : Dev nD) (t : Fin cfg2.N) (r : Fin 2048) (k : Fin 1024) :
    (iblk2 W c 0 t : S2048x1024.Idx → EReal) (ix2 r k) = at2 (hX W c) (2048 * (t.val / 48) + r.val) (1024 * (t.val % 16) + k.val) := by
  refine at2_of (hX W c) ((win2_0.rect t).emb (ix2 r k)) _ _ ?_ ?_
  · refine (Pipeline.Window.rect_emb_val win2_0 t (ix2 r k) 0).trans ?_
    show (BitVec.ofNat 32 (grid2.coords t 0).val).toNat * 2048 + r.val = _
    rw [h_c0, Nat.mul_comm]
  · refine (Pipeline.Window.rect_emb_val win2_0 t (ix2 r k) 1).trans ?_
    show (BitVec.ofNat 32 (grid2.coords t 2).val).toNat * 1024 + k.val = _
    rw [h_c2, Nat.mul_comm]
theorem h_blk1 (c : Dev nD) (t : Fin cfg2.N) (k : Fin 1024) (j : Fin 1024) :
    (iblk2 W c 1 t : S1024x1024.Idx → EReal) (ix2 k j) = at2 (hP W c) (1024 * (t.val % 16) + k.val) (1024 * (t.val / 16 % 3) + j.val) := by
  refine at2_of (hP W c) ((win2_1.rect t).emb (ix2 k j)) _ _ ?_ ?_
  · refine (Pipeline.Window.rect_emb_val win2_1 t (ix2 k j) 0).trans ?_
    show (BitVec.ofNat 32 (grid2.coords t 2).val).toNat * 1024 + k.val = _
    rw [h_c2, Nat.mul_comm]
  · refine (Pipeline.Window.rect_emb_val win2_1 t (ix2 k j) 1).trans ?_
    show (BitVec.ofNat 32 (grid2.coords t 1).val).toNat * 1024 + j.val = _
    rw [h_c1, Nat.mul_comm]
theorem h_blk2 (c : Dev nD) (t : Fin cfg2.N) (j : Fin 1024) :
    (iblk2 W c 2 t : S1x1024.Idx → EReal) (ix2 0 j) = at2 (hC W c) 0 (1024 * (t.val / 16 % 3) + j.val) := by
  refine at2_of (hC W c) ((win2_2.rect t).emb (ix2 0 j)) _ _ ?_ ?_
  · refine (Pipeline.Window.rect_emb_val win2_2 t (ix2 0 j) 0).trans ?_
    show 0 * 1 + 0 = _
    rfl
  · refine (Pipeline.Window.rect_emb_val win2_2 t (ix2 0 j) 1).trans ?_
    show (BitVec.ofNat 32 (grid2.coords t 1).val).toNat * 1024 + j.val = _
    rw [h_c1, Nat.mul_comm]

/-- One step: the sum grows by a block. -/
theorem h_step (c : Dev nD) (t : Fin cfg2.N) (a : Vec Ideal S2048x1024 .f32)
    (ha : t.val % 16 ≠ 0 → ∀ (r : Fin 2048) (j : Fin 1024), (a (ix2 r j) : EReal) = ∑ k ∈ Finset.range (1024 * (t.val % 16)), at2 (hX W c) (2048 * (t.val / 48) + r.val) k * at2 (hP W c) k (1024 * (t.val / 16 % 3) + j.val))
    (r : Fin 2048) (j : Fin 1024) :
    (hAcc (grid2.coords t) a (iblk2 W c 0 t) (iblk2 W c 1 t) (ix2 r j) : EReal)
      = ∑ k ∈ Finset.range (1024 * (t.val % 16) + 1024), at2 (hX W c) (2048 * (t.val / 48) + r.val) k * at2 (hP W c) k (1024 * (t.val / 16 % 3) + j.val) := by
  unfold hAcc
  rw [k2_pay2_apply, ← sum_range_block]
  refine congrArg₂ (fun x y : EReal => x + y) ?_ (Finset.sum_congr rfl fun k _ => by rw [h_blk0, h_blk1])
  by_cases hf : t.val % 16 = 0
  · rw [if_pos ((hFirst_iff t).mpr hf), k2_pay1_apply, hf, Nat.mul_zero, Finset.sum_range_zero]
  · rw [if_neg (fun h => hf ((hFirst_iff t).mp h))]; exact ha hf r j

/-- The accumulator after every point. -/
theorem hAccAt_eq (c : Dev nD) : ∀ (n : ℕ) (hn : n < cfg2.N) (r : Fin 2048) (j : Fin 1024),
    (hAccAt W c n hn (ix2 r j) : EReal) = ∑ k ∈ Finset.range (1024 * (n % 16) + 1024), at2 (hX W c) (2048 * (n / 48) + r.val) k * at2 (hP W c) k (1024 * (n / 16 % 3) + j.val)
  | 0, hn => fun r j => h_step W c ⟨0, hn⟩ (k2_pay1 (F := Ideal)) (fun h => absurd rfl h) r j
  | n + 1, hn => fun r j => h_step W c ⟨n + 1, hn⟩ (hAccAt W c n (Nat.lt_of_succ_lt hn)) (fun h r j => by
      rw [hAccAt_eq c n (Nat.lt_of_succ_lt hn) r j]
      dsimp only at h ⊢
      rw [show n / 48 = (n + 1) / 48 from by omega, show n / 16 % 3 = (n + 1) / 16 % 3 from by omega, show 1024 * (n % 16) + 1024 = 1024 * ((n + 1) % 16) from by omega]) r j

/-- The whole result. -/
def hTab (c : Dev nD) : S4096x3072.Idx → EReal := fun i =>
  (∑ k ∈ Finset.range 16384, at2 (hX W c) (i 0).val k * at2 (hP W c) k (i 1).val) * at2 (hC W c) 0 (i 1).val

theorem h_index0 (t : Fin grid2.N) : win2_3.index t 0 = t.val / 48 := h_c0 t
theorem h_index1 (t : Fin grid2.N) : win2_3.index t 1 = t.val / 16 % 3 := h_c1 t
theorem h_size0 : win2_3.size 0 = 2048 := rfl
theorem h_size1 : win2_3.size 1 = 1024 := rfl

theorem h_arr (c : Dev nD) : (hDat W c).arrAt 3 cfg2.N = hTab W c := by
  refine (hDat W c).arrAt_eq_of_cover 3 (hTab W c) ?_ ?_
  · intro t hf
    have ht := h_lt t
    have hl : t.val % 16 = 15 := (flush2_3 t).mp hf
    show (cfg2.win 3).cut (grid2.coords t) ((hDat W c).after 3 t) = _
    rw [hAfter_3]
    funext y
    show k2_pay3 (hAccAt W c t.val _) (iblk2 W c 2 t) _ = hTab W c ((win2_3.rect t).emb y)
    unfold hTab
    rw [Pipeline.Window.rect_emb_val win2_3 t y 0, Pipeline.Window.rect_emb_val win2_3 t y 1, h_index0, h_index1, h_size0, h_size1]
    obtain ⟨r, j, rfl⟩ : ∃ (r : Fin 2048) (j : Fin 1024), y = ix2 r j := ⟨y 0, y 1, eq_ix2 y⟩
    refine (k2_pay3_apply _ _ r j).trans ?_
    rw [hAccAt_eq, h_blk2, hl, Nat.mul_comm (t.val / 48), Nat.mul_comm (t.val / 16 % 3)]
    rfl
  · intro i
    have h0 : (i 0 : Nat) < 4096 := (i 0).isLt
    have h1 : (i 1 : Nat) < 3072 := (i 1).isLt
    have ht : 48 * ((i 0 : Nat) / 2048) + 16 * ((i 1 : Nat) / 1024) + 15 < cfg2.N := by rw [show cfg2.N = 96 from N_2]; omega
    refine ⟨⟨48 * ((i 0 : Nat) / 2048) + 16 * ((i 1 : Nat) / 1024) + 15, ht⟩, (flush2_3 _).mpr (by dsimp only; omega), ?_⟩
    generalize hq : (⟨48 * ((i 0 : Nat) / 2048) + 16 * ((i 1 : Nat) / 1024) + 15, ht⟩ : Fin cfg2.N) = q
    have hv : q.val = 48 * ((i 0 : Nat) / 2048) + 16 * ((i 1 : Nat) / 1024) + 15 := by rw [← hq]
    show i ∈ ((View.whole main_v13).slice (win2_3.rect q)).set
    rw [View.set_slice_whole, Rect.mem_set_unit]
    intro a
    match a with
    | ⟨0, _⟩ =>
      show win2_3.index q 0 * win2_3.size 0 ≤ (i 0 : Nat) ∧ (i 0 : Nat) < win2_3.index q 0 * win2_3.size 0 + 2048
      rw [h_index0, h_size0]; omega
    | ⟨1, _⟩ =>
      show win2_3.index q 1 * win2_3.size 1 ≤ (i 1 : Nat) ∧ (i 1 : Nat) < win2_3.index q 1 * win2_3.size 1 + 1024
      rw [h_index1, h_size1]; omega

end Cert.KernelIdeal.Gen

end
-- ==== Proof.MValue.lean ====
/- What the last call (`base_proj`) leaves: the delta product, and the whole product with the bias. -/
module

public import proofs.«01_k».proof.Proof.MRegion
public import proofs.«01_k».proof.Proof.Tables
public import Idealize.ShloMosaic.Lib.ValueLayout
public import Idealize.ShloMosaic.Lib.MatmulPlain

@[expose] public section

set_option maxRecDepth 16384

noncomputable section

namespace Cert.KernelIdeal.Gen

open Idealize.ShloMosaic Idealize.ShloMosaic.TcCoe Idealize.ShloMosaic.ValueIdx
open Idealize.SL Idealize.SL.RA Idealize.SL.BI Idealize.SL.Sem
open Idealize.ShloMosaic.Pipeline (Dat Cfg Window)
open Cert.Proof.Angles Cert.Proof.Tables

theorem m_product (a : Vec Ideal S2048x1024 .f32) (x : FVec Ideal S2048x1024 .bf16) (p : FVec Ideal S1024x1024 .bf16) (r : Fin 2048) (j : Fin 1024) :
    addf (F := Ideal) a (matmul dot_S2048x1024_S1024x1024_S2048x1024_1_0_0_1_n_n none x p (constant S2048x1024 .f32 0x00000000#32)) (ix2 r j)
      = (a (ix2 r j) : EReal) + ∑ k : Fin 1024, (x (ix2 r k) : EReal) * p (ix2 k j) := by
  have h := Ideal.matmul_plain_apply (M := 2048) (K := 1024) (N := 1024) (φ₁ := .bf16) (φ₂ := .bf16) none x p (constant S2048x1024 .f32 0x00000000#32) r j
  refine (congrArg (fun z : EReal => (a (ix2 r j) : EReal) + z) h).trans ?_
  rw [constant_apply, show Ideal.ofBits .f32 0x00000000#32 = (0 : EReal) from by simp [Ideal.ofBits, Ideal.ieee], zero_add]

/-- An accumulation step is the accumulator plus the product. -/
theorem k3_pay2_apply (a : Vec Ideal S2048x1024 .f32) (x : Vec Ideal S2048x1024 .bf16) (p : Vec Ideal S1024x1024 .bf16) (r : Fin 2048) (j : Fin 1024) :
    k3_pay2 a x p (ix2 r j) = (a (ix2 r j) : EReal) + ∑ k : Fin 1024, (x (ix2 r k) : EReal) * p (ix2 k j) := by
  unfold k3_pay2
  rw [shapeCast_self, shapeCast_self, shapeCast_self]
  exact m_product a x p r j
theorem k3_pay4_apply (a : Vec Ideal S2048x1024 .f32) (x : FVec Ideal S2048x1024 .bf16) (p : Vec Ideal S1024x1024 .bf16) (r : Fin 2048) (j : Fin 1024) :
    k3_pay4 a x p (ix2 r j) = (a (ix2 r j) : EReal) + ∑ k : Fin 1024, (x (ix2 r k) : EReal) * p (ix2 k j) := by
  unfold k3_pay4
  rw [shapeCast_self]
  exact m_product a x p r j

theorem k3_pay1_apply (y : S2048x1024.Idx) : (k3_pay1 (F := Ideal) y : EReal) = 0 := by
  unfold k3_pay1
  rw [shapeCast_self]
  show Ideal.ofBits .f32 0x00000000#32 = (0 : EReal)
  simp [Ideal.ofBits, Ideal.ieee]

theorem k3_pay5_apply (a : Vec Ideal S2048x1024 .f32) (v : Vec Ideal S1x1024 .f32) (r : Fin 2048) (j : Fin 1024) :
    k3_pay5 a v (ix2 r j) = (a (ix2 r j) : EReal) + v (ix2 0 j) := by
  unfold k3_pay5
  rw [shapeCast_self]
  exact congrArg (fun z : EReal => (a (ix2 r j) : EReal) + z) (broadcastTo_1b_ab_apply v broadcasts_S1x1024_S2048x1024 r j)

variable (W : Dev nD → Valuation τ sig (Elt Ideal))

/-- The input, the packed weights, the scales, the projection, the column factor and the bias the call finds. -/
def mX (c : Dev nD) : S4096x16384.Idx → EReal := W c (Proc.devRef .tc main_v0)
def mW (c : Dev nD) : S16384x2560.Idx → BitVec 8 := W c (Proc.devRef .tc main_arg1)
def mS (c : Dev nD) : S128x5120.Idx → EReal := W c (Proc.devRef .tc main_arg2)
def mG (c : Dev nD) : S4096x3072.Idx → EReal := W c (Proc.devRef .tc main_v13)
def mQ (c : Dev nD) : S3072x5120.Idx → EReal := W c (Proc.devRef .tc main_v12)
def mB (c : Dev nD) : S1x5120.Idx → EReal := W c (Proc.devRef .tc main_v14)

section Index
variable (t : Fin grid3.N)

theorem m_lt : t.val < 190 := Nat.lt_of_lt_of_eq t.isLt N_3
theorem m_e2 : (grid3.coords t 2).val = t.val % 19 := by
  have e : (grid3.coords t 2).val = t.val / 1 % 19 := Pipeline.Grid.coords_val t 2 (by decide) rfl
  rw [e, Nat.div_one]
theorem m_c0 : (BitVec.ofNat 32 (grid3.coords t 0).val).toNat = t.val / 95 := by
  have e0 : (grid3.coords t 0).val = t.val / 95 % 2 := Pipeline.Grid.coords_val t 0 (by decide) rfl
  have := m_lt t
  rw [e0, BitVec.toNat_ofNat]; omega
theorem m_c1 : (BitVec.ofNat 32 (grid3.coords t 1).val).toNat = t.val / 19 % 5 := by
  have e0 : (grid3.coords t 1).val = t.val / 19 % 5 := Pipeline.Grid.coords_val t 1 (by decide) rfl
  rw [e0, BitVec.toNat_ofNat]; omega
/-- The base step, counted from the third point on, -/
theorem m_cb : (Scalar.maxsi (Scalar.subi (BitVec.ofNat 32 (grid3.coords t 2).val) 3#32) 0#32).toNat = t.val % 19 - 3 := by
  rw [m_e2]
  have h : ∀ k : Fin 19, (Scalar.maxsi (Scalar.subi (BitVec.ofNat 32 k.val) 3#32) 0#32).toNat = k.val - 3 := by decide +kernel
  exact h ⟨t.val % 19, Nat.mod_lt _ (by decide)⟩
/-- and the delta step. -/
theorem m_cd : (Scalar.minsi (BitVec.ofNat 32 (grid3.coords t 2).val) 2#32).toNat = min (t.val % 19) 2 := by
  rw [m_e2]
  have h : ∀ k : Fin 19, (Scalar.minsi (BitVec.ofNat 32 k.val) 2#32).toNat = min k.val 2 := by decide +kernel
  exact h ⟨t.val % 19, Nat.mod_lt _ (by decide)⟩

end Index

theorem m_blk0 (c : Dev nD) (t : Fin cfg3.N) (r : Fin 2048) (k : Fin 1024) :
    (iblk3 W c 0 t : S2048x1024.Idx → EReal) (ix2 r k) = at2 (mX W c) (2048 * (t.val / 95) + r.val) (1024 * (t.val % 19 - 3) + k.val) := by
  refine at2_of (mX W c) ((win3_0.rect t).emb (ix2 r k)) _ _ ?_ ?_
  · refine (Pipeline.Window.rect_emb_val win3_0 t (ix2 r k) 0).trans ?_
    show (BitVec.ofNat 32 (grid3.coords t 0).val).toNat * 2048 + r.val = _
    rw [m_c0, Nat.mul_comm]
  · refine (Pipeline.Window.rect_emb_val win3_0 t (ix2 r k) 1).trans ?_
    show (Scalar.maxsi (Scalar.subi (BitVec.ofNat 32 (grid3.coords t 2).val) 3#32) 0#32).toNat * 1024 + k.val = _
    rw [m_cb, Nat.mul_comm]
theorem m_blk1 (c : Dev nD) (t : Fin cfg3.N) (k : Fin 1024) (j : Fin 512) :
    (iblk3 W c 1 t : S1024x512.Idx → BitVec 8) (ix2 k j) = at2 (mW W c) (1024 * (t.val % 19 - 3) + k.val) (512 * (t.val / 19 % 5) + j.val) := by
  refine at2_of (mW W c) ((win3_1.rect t).emb (ix2 k j)) _ _ ?_ ?_
  · refine (Pipeline.Window.rect_emb_val win3_1 t (ix2 k j) 0).trans ?_
    show (Scalar.maxsi (Scalar.subi (BitVec.ofNat 32 (grid3.coords t 2).val) 3#32) 0#32).toNat * 1024 + k.val = _
    rw [m_cb, Nat.mul_comm]
  · refine (Pipeline.Window.rect_emb_val win3_1 t (ix2 k j) 1).trans ?_
    show (BitVec.ofNat 32 (grid3.coords t 1).val).toNat * 512 + j.val = _
    rw [m_c1, Nat.mul_comm]
theorem m_blk2 (c : Dev nD) (t : Fin cfg3.N) (k : Fin 8) (j : Fin 1024) :
    (iblk3 W c 2 t : S8x1024.Idx → EReal) (ix2 k j) = at2 (mS W c) (8 * (t.val % 19 - 3) + k.val) (1024 * (t.val / 19 % 5) + j.val) := by
  refine at2_of (mS W c) ((win3_2.rect t).emb (ix2 k j)) _ _ ?_ ?_
  · refine (Pipeline.Window.rect_emb_val win3_2 t (ix2 k j) 0).trans ?_
    show (Scalar.maxsi (Scalar.subi (BitVec.ofNat 32 (grid3.coords t 2).val) 3#32) 0#32).toNat * 8 + k.val = _
    rw [m_cb, Nat.mul_comm]
  · refine (Pipeline.Window.rect_emb_val win3_2 t (ix2 k j) 1).trans ?_
    show (BitVec.ofNat 32 (grid3.coords t 1).val).toNat * 1024 + j.val = _
    rw [m_c1, Nat.mul_comm]
theorem m_blk3 (c : Dev nD) (t : Fin cfg3.N) (r : Fin 2048) (k : Fin 1024) :
    (iblk3 W c 3 t : S2048x1024.Idx → EReal) (ix2 r k) = at2 (mG W c) (2048 * (t.val / 95) + r.val) (1024 * min (t.val % 19) 2 + k.val) := by
  refine at2_of (mG W c) ((win3_3.rect t).emb (ix2 r k)) _ _ ?_ ?_
  · refine (Pipeline.Window.rect_emb_val win3_3 t (ix2 r k) 0).trans ?_
    show (BitVec.ofNat 32 (grid3.coords t 0).val).toNat * 2048 + r.val = _
    rw [m_c0, Nat.mul_comm]
  · refine (Pipeline.Window.rect_emb_val win3_3 t (ix2 r k) 1).trans ?_
    show (Scalar.minsi (BitVec.ofNat 32 (grid3.coords t 2).val) 2#32).toNat * 1024 + k.val = _
    rw [m_cd, Nat.mul_comm]
theorem m_blk4 (c : Dev nD) (t : Fin cfg3.N) (k : Fin 1024) (j : Fin 1024) :
    (iblk3 W c 4 t : S1024x1024.Idx → EReal) (ix2 k j) = at2 (mQ W c) (1024 * min (t.val % 19) 2 + k.val) (1024 * (t.val / 19 % 5) + j.val) := by
  refine at2_of (mQ W c) ((win3_4.rect t).emb (ix2 k j)) _ _ ?_ ?_
  · refine (Pipeline.Window.rect_emb_val win3_4 t (ix2 k j) 0).trans ?_
    show (Scalar.minsi (BitVec.ofNat 32 (grid3.coords t 2).val) 2#32).toNat * 1024 + k.val = _
    rw [m_cd, Nat.mul_comm]
  · refine (Pipeline.Window.rect_emb_val win3_4 t (ix2 k j) 1).trans ?_
    show (BitVec.ofNat 32 (grid3.coords t 1).val).toNat * 1024 + j.val = _
    rw [m_c1, Nat.mul_comm]
theorem m_blk5 (c : Dev nD) (t : Fin cfg3.N) (j : Fin 1024) :
    (iblk3 W c 5 t : S1x1024.Idx → EReal) (ix2 0 j) = at2 (mB W c) 0 (1024 * (t.val / 19 % 5) + j.val) := by
  refine at2_of (mB W c) ((win3_5.rect t).emb (ix2 0 j)) _ _ ?_ ?_
  · refine (Pipeline.Window.rect_emb_val win3_5 t (ix2 0 j) 0).trans ?_
    show 0 * 1 + 0 = _
    rfl
  · refine (Pipeline.Window.rect_emb_val win3_5 t (ix2 0 j) 1).trans ?_
    show (BitVec.ofNat 32 (grid3.coords t 1).val).toNat * 1024 + j.val = _
    rw [m_c1, Nat.mul_comm]

/-- The delta product's terms, and the base product's. -/
def mDelta (c : Dev nD) (R J k : ℕ) : EReal := at2 (mG W c) R k * at2 (mQ W c) k J
/-- The weight at a row and a column: the nibble times its group's scale. -/
def mWt (c : Dev nD) (p J : ℕ) : EReal := ((nib (at2 (mW W c) p (J / 2)) (J % 2) : ℝ) : EReal) * at2 (mS W c) (p / 128) J
def mBase (c : Dev nD) (R J p : ℕ) : EReal := at2 (mX W c) R p * mWt W c p J

/-- The accumulator of output block `(a, b)` after `k + 1` steps. -/
def mSum (c : Dev nD) (n R J : ℕ) : EReal :=
  (∑ k ∈ Finset.range (1024 * (min (n % 19) 2 + 1)), mDelta W c R J k) + ∑ p ∈ Finset.range (1024 * (n % 19 - 2)), mBase W c R J p

/-- What the decoded weights have to hold. -/
def WOk : Prop := ∀ (p : Vec Ideal S1024x512 .i8) (s : Vec Ideal S8x1024 .f32) (r : Fin 1024) (j : Fin 1024),
  (wDec p s (ix2 r j) : EReal) = ((nib (at2 (α := BitVec 8) p r.val (j.val / 2)) (j.val % 2) : ℝ) : EReal) * at2 (α := EReal) s (r.val / 128) j.val

theorem m_dec (hw : WOk) (c : Dev nD) (t : Fin cfg3.N) (k : Fin 1024) (j : Fin 1024) :
    (wDec (iblk3 W c 1 t) (iblk3 W c 2 t) (ix2 k j) : EReal) = mWt W c (1024 * (t.val % 19 - 3) + k.val) (1024 * (t.val / 19 % 5) + j.val) := by
  rw [hw]
  unfold mWt
  have hj := j.isLt
  have hk := k.isLt
  rw [at2_eq (α := BitVec 8) _ hk (by omega : j.val / 2 < 512), at2_eq (α := EReal) _ (by omega : k.val / 128 < 8) hj]
  refine congrArg₂ (fun x y : EReal => x * y) ?_ ?_
  · rw [show (iblk3 W c 1 t : S1024x512.Idx → BitVec 8) (ix2 ⟨k.val, hk⟩ ⟨j.val / 2, by omega⟩) = _ from m_blk1 W c t _ _]
    dsimp only
    rw [show 512 * (t.val / 19 % 5) + j.val / 2 = (1024 * (t.val / 19 % 5) + j.val) / 2 from by omega, show (1024 * (t.val / 19 % 5) + j.val) % 2 = j.val % 2 from by omega]
  · refine (m_blk2 W c t ⟨k.val / 128, by omega⟩ ⟨j.val, hj⟩).trans ?_
    dsimp only
    rw [show (1024 * (t.val % 19 - 3) + k.val) / 128 = 8 * (t.val % 19 - 3) + k.val / 128 from by omega]

/-- One step: a delta block is added, or a base block. -/
theorem m_step (hw : WOk) (c : Dev nD) (t : Fin cfg3.N) (a : Vec Ideal S2048x1024 .f32)
    (ha : t.val % 19 ≠ 0 → ∀ (r : Fin 2048) (j : Fin 1024), (a (ix2 r j) : EReal) = mSum W c (t.val - 1) (2048 * (t.val / 95) + r.val) (1024 * (t.val / 19 % 5) + j.val))
    (r : Fin 2048) (j : Fin 1024) :
    (mAcc (grid3.coords t) a (iblk3 W c 0 t) (iblk3 W c 1 t) (iblk3 W c 2 t) (iblk3 W c 3 t) (iblk3 W c 4 t) (ix2 r j) : EReal)
      = mSum W c t.val (2048 * (t.val / 95) + r.val) (1024 * (t.val / 19 % 5) + j.val) := by
  unfold mAcc
  by_cases h4 : 3 ≤ t.val % 19
  · rw [if_pos ((m4_iff t).mpr h4), k3_pay4_apply, ha (by omega) r j]
    unfold mSum
    rw [add_assoc, show (t.val - 1) % 19 = t.val % 19 - 1 from by omega]
    refine congrArg₂ (fun x y : EReal => x + y) (by rw [show min (t.val % 19 - 1) 2 = min (t.val % 19) 2 from by omega]) ?_
    rw [show 1024 * (t.val % 19 - 2) = 1024 * (t.val % 19 - 3) + 1024 from by omega, ← sum_range_block, show t.val % 19 - 1 - 2 = t.val % 19 - 3 from by omega]
    refine congrArg (fun y : EReal => _ + y) (Finset.sum_congr rfl fun k _ => ?_)
    rw [m_dec W hw, show k3_pay98 (iblk3 W c 0 t) = iblk3 W c 0 t from shapeCast_self _ _, m_blk0]
    rfl
  · rw [if_neg (fun h => h4 ((m4_iff t).mp h)), k3_pay2_apply]
    unfold mSum
    rw [show 1024 * (t.val % 19 - 2) = 0 from by omega, Finset.sum_range_zero, add_zero, show min (t.val % 19) 2 = t.val % 19 from by omega,
      Nat.mul_add, Nat.mul_one, ← sum_range_block]
    refine congrArg₂ (fun x y : EReal => x + y) ?_ (Finset.sum_congr rfl fun k _ => by
      rw [m_blk3, m_blk4, show min (t.val % 19) 2 = t.val % 19 from by omega]; rfl)
    by_cases h0 : t.val % 19 = 0
    · rw [if_pos ((m1_iff t).mpr h0), k3_pay1_apply, h0, Nat.mul_zero, Finset.sum_range_zero]
    · rw [if_neg (fun h => h0 ((m1_iff t).mp h)), ha h0 r j]
      unfold mSum
      rw [show (t.val - 1) % 19 = t.val % 19 - 1 from by omega, show 1024 * (t.val % 19 - 1 - 2) = 0 from by omega, Finset.sum_range_zero, add_zero,
        show min (t.val % 19 - 1) 2 + 1 = t.val % 19 from by omega]

/-- The accumulator after every point. -/
theorem mAccAt_eq (hw : WOk) (c : Dev nD) : ∀ (n : ℕ) (hn : n < cfg3.N) (r : Fin 2048) (j : Fin 1024),
    (mAccAt W c n hn (ix2 r j) : EReal) = mSum W c n (2048 * (n / 95) + r.val) (1024 * (n / 19 % 5) + j.val)
  | 0, hn => fun r j => m_step W hw c ⟨0, hn⟩ (k3_pay1 (F := Ideal)) (fun h => absurd rfl h) r j
  | n + 1, hn => fun r j => m_step W hw c ⟨n + 1, hn⟩ (mAccAt W c n (Nat.lt_of_succ_lt hn)) (fun h r j => by
      rw [mAccAt_eq hw c n (Nat.lt_of_succ_lt hn) r j]
      dsimp only at h ⊢
      rw [show n / 95 = (n + 1) / 95 from by omega, show n / 19 % 5 = (n + 1) / 19 % 5 from by omega, Nat.add_sub_cancel]) r j

/-- The whole delta product, -/
def mTabD (c : Dev nD) : S4096x5120.Idx → EReal := fun i => ∑ k ∈ Finset.range 3072, mDelta W c (i 0).val (i 1).val k
/-- and the whole output. -/
def mTabY (c : Dev nD) : S4096x5120.Idx → EReal := fun i =>
  ((∑ k ∈ Finset.range 3072, mDelta W c (i 0).val (i 1).val k) + ∑ p ∈ Finset.range 16384, mBase W c (i 0).val (i 1).val p) + at2 (mB W c) 0 (i 1).val

theorem m_index0 (t : Fin grid3.N) : win3_6.index t 0 = t.val / 95 := m_c0 t
theorem m_index1 (t : Fin grid3.N) : win3_6.index t 1 = t.val / 19 % 5 := m_c1 t
theorem m_size0 : win3_6.size 0 = 2048 := rfl
theorem m_size1 : win3_6.size 1 = 1024 := rfl
theorem m_index0' (t : Fin grid3.N) : win3_7.index t 0 = t.val / 95 := m_c0 t
theorem m_index1' (t : Fin grid3.N) : win3_7.index t 1 = t.val / 19 % 5 := m_c1 t
theorem m_size0' : win3_7.size 0 = 2048 := rfl
theorem m_size1' : win3_7.size 1 = 1024 := rfl

theorem m_flushed6 (t : Fin cfg3.N) (h : (cfg3.win 6).flush t = true) : t.val % 19 = 18 := by
  by_contra hn
  have := mNoFlush6 t (fun h5 => hn ((m5_iff t).mp h5))
  rw [this] at h; exact Bool.false_ne_true h
theorem m_flushed7 (t : Fin cfg3.N) (h : (cfg3.win 7).flush t = true) : t.val % 19 = 18 := by
  by_contra hn
  have := mNoFlush7 t (fun h5 => hn ((m5_iff t).mp h5))
  rw [this] at h; exact Bool.false_ne_true h

theorem m_arrD (hw : WOk) (c : Dev nD) : (mDat W c).arrAt 7 cfg3.N = mTabD W c := by
  refine (mDat W c).arrAt_eq_of_cover 7 (mTabD W c) ?_ ?_
  · intro t hf
    have ht := m_lt t
    have hl : t.val % 19 = 18 := m_flushed7 t hf
    show (cfg3.win 7).cut (grid3.coords t) ((mDat W c).after 7 t) = _
    rw [mAfter_7]
    funext y
    show k3_pay3 (mAccAt W c (19 * (t.val / 19) + 2) (mThird_lt t)) _ = mTabD W c ((win3_7.rect t).emb y)
    unfold mTabD
    rw [Pipeline.Window.rect_emb_val win3_7 t y 0, Pipeline.Window.rect_emb_val win3_7 t y 1, m_index0', m_index1', m_size0', m_size1']
    obtain ⟨r, j, rfl⟩ : ∃ (r : Fin 2048) (j : Fin 1024), y = ix2 r j := ⟨y 0, y 1, eq_ix2 y⟩
    refine (mAccAt_eq W hw c _ (mThird_lt t) r j).trans ?_
    unfold mSum
    rw [show (19 * (t.val / 19) + 2) % 19 = 2 from by omega, show (19 * (t.val / 19) + 2) / 95 = t.val / 95 from by omega, show (19 * (t.val / 19) + 2) / 19 = t.val / 19 from by omega]
    rw [Nat.mul_comm (t.val / 95), Nat.mul_comm (t.val / 19 % 5), show 1024 * (2 - 2) = 0 from rfl, Finset.sum_range_zero, add_zero]
    rfl
  · intro i
    have h0 : (i 0 : Nat) < 4096 := (i 0).isLt
    have h1 : (i 1 : Nat) < 5120 := (i 1).isLt
    have ht : 95 * ((i 0 : Nat) / 2048) + 19 * ((i 1 : Nat) / 1024) + 18 < cfg3.N := by rw [show cfg3.N = 190 from N_3]; omega
    generalize hq : (⟨95 * ((i 0 : Nat) / 2048) + 19 * ((i 1 : Nat) / 1024) + 18, ht⟩ : Fin cfg3.N) = q
    have hv : q.val = 95 * ((i 0 : Nat) / 2048) + 19 * ((i 1 : Nat) / 1024) + 18 := by rw [← hq]
    refine ⟨q, mFlush7 q ((m5_iff q).mpr (by omega)), ?_⟩
    show i ∈ ((View.whole main_v15_1).slice (win3_7.rect q)).set
    rw [View.set_slice_whole, Rect.mem_set_unit]
    intro a
    match a with
    | ⟨0, _⟩ =>
      show win3_7.index q 0 * win3_7.size 0 ≤ (i 0 : Nat) ∧ (i 0 : Nat) < win3_7.index q 0 * win3_7.size 0 + 2048
      rw [m_index0', m_size0']; omega
    | ⟨1, _⟩ =>
      show win3_7.index q 1 * win3_7.size 1 ≤ (i 1 : Nat) ∧ (i 1 : Nat) < win3_7.index q 1 * win3_7.size 1 + 1024
      rw [m_index1', m_size1']; omega

theorem m_arrY (hw : WOk) (c : Dev nD) : (mDat W c).arrAt 6 cfg3.N = mTabY W c := by
  refine (mDat W c).arrAt_eq_of_cover 6 (mTabY W c) ?_ ?_
  · intro t hf
    have ht := m_lt t
    have hl : t.val % 19 = 18 := m_flushed6 t hf
    show (cfg3.win 6).cut (grid3.coords t) ((mDat W c).after 6 t) = _
    rw [mAfter_6]
    funext y
    show k3_pay5 (mAccAt W c t.val t.isLt) (iblk3 W c 5 t) _ = mTabY W c ((win3_6.rect t).emb y)
    unfold mTabY
    rw [Pipeline.Window.rect_emb_val win3_6 t y 0, Pipeline.Window.rect_emb_val win3_6 t y 1, m_index0, m_index1, m_size0, m_size1]
    obtain ⟨r, j, rfl⟩ : ∃ (r : Fin 2048) (j : Fin 1024), y = ix2 r j := ⟨y 0, y 1, eq_ix2 y⟩
    refine (k3_pay5_apply _ _ r j).trans ?_
    rw [mAccAt_eq W hw, m_blk5]
    unfold mSum
    rw [hl, Nat.mul_comm (t.val / 95), Nat.mul_comm (t.val / 19 % 5)]
    rfl
  · intro i
    have h0 : (i 0 : Nat) < 4096 := (i 0).isLt
    have h1 : (i 1 : Nat) < 5120 := (i 1).isLt
    have ht : 95 * ((i 0 : Nat) / 2048) + 19 * ((i 1 : Nat) / 1024) + 18 < cfg3.N := by rw [show cfg3.N = 190 from N_3]; omega
    generalize hq : (⟨95 * ((i 0 : Nat) / 2048) + 19 * ((i 1 : Nat) / 1024) + 18, ht⟩ : Fin cfg3.N) = q
    have hv : q.val = 95 * ((i 0 : Nat) / 2048) + 19 * ((i 1 : Nat) / 1024) + 18 := by rw [← hq]
    refine ⟨q, (flush3_6 q).mpr (by omega), ?_⟩
    show i ∈ ((View.whole main_v15_0).slice (win3_6.rect q)).set
    rw [View.set_slice_whole, Rect.mem_set_unit]
    intro a
    match a with
    | ⟨0, _⟩ =>
      show win3_6.index q 0 * win3_6.size 0 ≤ (i 0 : Nat) ∧ (i 0 : Nat) < win3_6.index q 0 * win3_6.size 0 + 2048
      rw [m_index0, m_size0]; omega
    | ⟨1, _⟩ =>
      show win3_6.index q 1 * win3_6.size 1 ≤ (i 1 : Nat) ∧ (i 1 : Nat) < win3_6.index q 1 * win3_6.size 1 + 1024
      rw [m_index1, m_size1]; omega

end Cert.KernelIdeal.Gen

end
-- ==== Proof.WValue.lean ====
/- What the decoded weights are: the signed nibble of each packed byte times its group's scale. -/
module

public import proofs.«01_k».proof.Proof.MValue
public import Idealize.ShloMosaic.Lib.BitcastFour
public import Idealize.ShloMosaic.Lib.IdealHost
public import Idealize.ShloMosaic.Lib.Pointwise.Reshape

@[expose] public section

set_option maxRecDepth 16384

noncomputable section

namespace Cert.KernelIdeal.Gen

open Idealize.ShloMosaic hiding ix1 ix2 ix3 ix4 eq_ix1 eq_ix2 eq_ix3 eq_ix4
open Idealize.ShloMosaic.TcCoe Idealize.ShloMosaic.ValueIdx
open Idealize.SL Idealize.SL.RA Idealize.SL.BI Idealize.SL.Sem
open Cert.Proof.Angles Cert.Proof.Tables

/-- The mask keeps the high half of every byte. -/
theorem mask_bit : ∀ i : Fin 32, (4042322160#32 : BitVec 32).getLsbD i.val = decide (4 ≤ i.val % 8) := by decide +kernel

/-- The low nibble shifted up, and the high nibble kept, are sixteen times the nibble's value. -/
theorem nib_low : ∀ x : BitVec 8, (x <<< 4).toInt = 16 * nib x 0 := by decide +kernel
theorem nib_high : ∀ x : BitVec 8, (x &&& 240#8).toInt = 16 * nib x 1 := by decide +kernel
theorem high_bit : ∀ i : Fin 8, (240#8 : BitVec 8).getLsbD i.val = decide (4 ≤ i.val) := by decide +kernel

/-- The word of the two nibbles' choice at a lane. -/
def wPick (l : ℕ) (w : BitVec 32) : BitVec 32 :=
  IntOp.andi (Scalar.select (IntOp.cmpi .eq (IntOp.andi (BitVec.ofNat 32 l) 1#32) 0#32) (IntOp.shli .vector w 4#32) w) 4042322160#32

theorem wPick_par : ∀ l : Fin 128, (IntOp.cmpi .eq (IntOp.andi (BitVec.ofNat 32 l.val) 1#32) 0#32 = 1#1) ↔ l.val % 2 = 0 := by decide +kernel

/-- The byte of the choice, from the byte of the word. -/
theorem wPick_byte (l : Fin 128) (w : BitVec 32) (x y : BitVec 8) (m : ℕ) (hm : m < 4) (hx : ∀ q, q < 8 → w.getLsbD (8 * m + q) = x.getLsbD q)
    (hy : ∀ q, q < 8 → y.getLsbD q = (wPick l.val w).getLsbD (8 * m + q)) : y.toInt = 16 * nib x (l.val % 2) := by
  have hmask : ∀ q, q < 8 → (4042322160#32 : BitVec 32).getLsbD (8 * m + q) = decide (4 ≤ q) := by
    intro q hq
    rw [mask_bit ⟨8 * m + q, by omega⟩]
    dsimp only
    rw [show (8 * m + q) % 8 = q from by omega]
  by_cases hl : l.val % 2 = 0
  · rw [hl, ← nib_low]
    refine congrArg BitVec.toInt (BitVec.eq_of_getLsbD_eq fun q hq => ?_)
    rw [hy q hq]
    unfold wPick Scalar.select
    have hp : IntOp.cmpi .eq (IntOp.andi (BitVec.ofNat 32 l.val) 1#32) 0#32 = (1 : BitVec 1) := (wPick_par l).mpr hl
    rw [if_pos hp]
    show ((IntOp.shli .vector w 4#32) &&& 4042322160#32).getLsbD (8 * m + q) = _
    rw [show IntOp.shli .vector w 4#32 = w <<< 4 from rfl, BitVec.getLsbD_and, hmask q hq, BitVec.getLsbD_shiftLeft, BitVec.getLsbD_shiftLeft]
    by_cases h4 : 4 ≤ q
    · have := hx (q - 4) (by omega)
      rw [show 8 * m + q - 4 = 8 * m + (q - 4) from by omega, this]
      simp [h4, hq, show ¬(q < 4) from by omega, show 8 * m + q < 32 from by omega, show ¬(8 * m + q < 4) from by omega]
    · simp [h4, show q < 4 from by omega]
  · rw [show l.val % 2 = 1 from by omega, ← nib_high]
    refine congrArg BitVec.toInt (BitVec.eq_of_getLsbD_eq fun q hq => ?_)
    rw [hy q hq]
    unfold wPick Scalar.select
    have hp : ¬IntOp.cmpi .eq (IntOp.andi (BitVec.ofNat 32 l.val) 1#32) 0#32 = (1 : BitVec 1) := fun h => hl ((wPick_par l).mp h)
    rw [if_neg hp]
    show (w &&& 4042322160#32).getLsbD (8 * m + q) = _
    rw [BitVec.getLsbD_and, BitVec.getLsbD_and, hmask q hq, hx q hq, high_bit ⟨q, hq⟩]

/-- The lane a lane reads from. -/
def wIdx (l c : ℕ) : BitVec 32 :=
  Scalar.select (IntOp.cmpi .slt (IntOp.addi (IntOp.shrsi .vector (BitVec.ofNat 32 l) 1#32) (BitVec.ofNat 32 (64 * c))) 0#32)
    (IntOp.addi (IntOp.addi (IntOp.shrsi .vector (BitVec.ofNat 32 l) 1#32) (BitVec.ofNat 32 (64 * c))) 128#32)
    (IntOp.addi (IntOp.shrsi .vector (BitVec.ofNat 32 l) 1#32) (BitVec.ofNat 32 (64 * c)))
theorem wIdx_val : ∀ (l : Fin 128) (c : Fin 2), (wIdx l.val c.val).toNat % 128 = l.val / 2 + 64 * c.val := by decide +kernel

/-- The packed words, a lane of a column slice gathered from its pair's lane. -/
def wGather (p : Vec Ideal S1024x512 .i8) (b : ℕ) (h : b < 8) : IVec S256x128 32 :=
  have v24 : IVec S256x128 32 := extractStridedSlice S256x128 ![0, 128 * (b / 2)] (k3_pay8 p) (wSlC h)
  have v26 : IVec S256x128 32 := addi k3_pay6 (broadcast S256x128 (BitVec.ofNat 32 (64 * (b % 2))))
  have v31 : IVec S256x128 32 := select (cmpi .slt v26 (broadcast S256x128 0#32)) (addi v26 (broadcast S256x128 128#32)) v26
  have v33 : IVec S256x128 32 := shapeCast S256x128 (shapeCast S256x128x1 v31 shapeCasts_S256x128_S256x128x1) shapeCasts_S256x128x1_S256x128
  dynamicGather 1 v24 v33

theorem w_iota (a : Fin 256) (l : Fin 128) : iota .tc S256x128 32 [1] iota_S256x128_d1_w32 (ix2 a l) = BitVec.ofNat 32 l.val := iota_single_apply _ _ _ _ _ _

theorem wGather_eq (p : Vec Ideal S1024x512 .i8) (b : ℕ) (h : b < 8) (a : Fin 256) (l : Fin 128) :
    wGather p b h (ix2 a l) = k3_pay8 p (ix2 a ⟨64 * b + l.val / 2, by have := l.isLt; omega⟩) := by
  have key : ∀ v : IVec S256x128 32, v (ix2 a l) = wIdx l.val (b % 2) →
      dynamicGather 1 (extractStridedSlice S256x128 ![0, 128 * (b / 2)] (k3_pay8 p) (wSlC h)) v (ix2 a l)
        = k3_pay8 p (ix2 a ⟨64 * b + l.val / 2, by have := l.isLt; omega⟩) := by
    intro v hv
    refine extractStridedSlice_apply _ (k3_pay8 p) (wSlC h) _ _ ?_
    intro k
    fin_cases k
    · show a.val = 0 + a.val
      exact (Nat.zero_add _).symm
    · show 64 * b + l.val / 2 = 128 * (b / 2) + (v (ix2 a l)).toNat % 128
      rw [hv, wIdx_val l ⟨b % 2, Nat.mod_lt _ (by decide)⟩]
      dsimp only; omega
  unfold wGather
  rw [shapeCast_comp, shapeCast_id]
  refine key _ ?_
  have h6 : k3_pay6 (ix2 a l) = IntOp.shrsi .vector (BitVec.ofNat 32 l.val) 1#32 := by
    unfold k3_pay6
    exact congrArg (fun z => IntOp.shrsi .vector z 1#32) (w_iota a l)
  show Scalar.select (IntOp.cmpi .slt (IntOp.addi (k3_pay6 (ix2 a l)) (BitVec.ofNat 32 (64 * (b % 2)))) 0#32)
    (IntOp.addi (IntOp.addi (k3_pay6 (ix2 a l)) (BitVec.ofNat 32 (64 * (b % 2)))) 128#32)
    (IntOp.addi (k3_pay6 (ix2 a l)) (BitVec.ofNat 32 (64 * (b % 2)))) = _
  rw [h6]
  rfl

/-- A byte of a packed word. -/
theorem wWord_byte (p : Vec Ideal S1024x512 .i8) (r : Fin 1024) (j : Fin 512) (q : ℕ) (hq : q < 8) :
    (k3_pay8 p (ix2 ⟨r.val / 4, by have := r.isLt; omega⟩ j)).getLsbD (8 * (r.val % 4) + q) = (p (ix2 r j) : BitVec 8).getLsbD q := by
  have h := bitcast_8_32_getLsbD_ix2 (R := 1024) (r := 256) (n := 512) p bitcasts_S1024x512_w8_S256x512_w32 ⟨r.val / 4, by have := r.isLt; omega⟩ j
    (8 * (r.val % 4) + q) (by omega) r (by dsimp only; omega)
  rw [show (8 * (r.val % 4) + q) % 8 = q from by omega] at h
  exact h

/-- A bit of a word cut into bytes. -/
theorem wCut_bit (x : IVec S256x128 32) (r : Fin 1024) (l : Fin 128) (q : ℕ) (hq : q < 8) :
    (bitcast S1024x128 8 x bitcasts_S256x128_w32_S1024x128_w8 (ix2 r l)).getLsbD q
      = (x (ix2 ⟨r.val / 4, by have := r.isLt; omega⟩ l)).getLsbD (8 * (r.val % 4) + q) := by
  rw [bitcast_getLsbD x _ _ q hq (by decide)]
  have hr : S1024x128.row (ix2 r l) = r.val := rfl
  have e1 : (S1024x128.row (ix2 r l) * 8 + q) % 32 = 8 * (r.val % 4) + q := by rw [hr]; omega
  rw [e1]
  congr 2
  funext c
  match c with
  | ⟨0, _⟩ => exact Fin.ext (by show (S1024x128.row (ix2 r l) * 8 + q) / 32 = r.val / 4; rw [hr]; omega)
  | ⟨1, _⟩ => rfl

theorem wSixteenth : Ideal.ofBits .bf16 0x3D80#16 = ((1 / 16 : ℝ) : EReal) := Ideal.ofBits_sixteenth_bf16

theorem wBlk_eq (p : Vec Ideal S1024x512 .i8) (b : ℕ) (h : b < 8) (r : Fin 1024) (l : Fin 128) :
    wBlk p b h (ix2 r l) = ((nib (at2 (α := BitVec 8) p r.val (64 * b + l.val / 2)) (l.val % 2) : ℝ) : EReal) := by
  have hl := l.isLt
  rw [at2_eq (α := BitVec 8) p r.isLt (by omega : 64 * b + l.val / 2 < 512)]
  have key := wPick_byte l (wGather p b h (ix2 ⟨r.val / 4, by have := r.isLt; omega⟩ l)) (p (ix2 r ⟨64 * b + l.val / 2, by omega⟩) : BitVec 8)
    (bitcast S1024x128 8 (fun y : S256x128.Idx => wPick (y 1).val (wGather p b h y)) bitcasts_S256x128_w32_S1024x128_w8 (ix2 r l))
    (r.val % 4) (Nat.mod_lt _ (by decide)) (fun q hq => by rw [wGather_eq]; exact wWord_byte p r _ q hq) (fun q hq => wCut_bit _ r l q hq)
  have hv : (andi (select k3_pay7 (shli (wGather p b h) (broadcast S256x128 4#32)) (wGather p b h)) (broadcast S256x128 4042322160#32) : IVec S256x128 32)
      = fun y => wPick (y 1).val (wGather p b h y) := by
    funext y
    obtain ⟨a, l, rfl⟩ : ∃ (a : Fin 256) (l : Fin 128), y = ix2 a l := ⟨y 0, y 1, eq_ix2 y⟩
    unfold wPick
    rw [show ((ix2 a l : S256x128.Idx) 1).val = l.val from rfl, ← w_iota a l]
    rfl
  show (((bitcast S1024x128 8 (andi (select k3_pay7 (shli (wGather p b h) (broadcast S256x128 4#32)) (wGather p b h)) (broadcast S256x128 4042322160#32) : IVec S256x128 32)
    bitcasts_S256x128_w32_S1024x128_w8 (ix2 r l)).toInt : ℝ) : EReal) * Ideal.ofBits .bf16 0x3D80#16 = _
  rw [hv, key, wSixteenth, ← EReal.coe_mul]
  refine congrArg Real.toEReal ?_
  push_cast; ring

theorem wTile_eq (p : Vec Ideal S1024x512 .i8) (s : Vec Ideal S8x1024 .f32) (g b : ℕ) (hg : g < 8) (hb : b < 8) (r l : Fin 128) :
    wTile p s g b hg hb (ix2 r l) = ((nib (at2 (α := BitVec 8) p (128 * g + r.val) ((128 * b + l.val) / 2)) ((128 * b + l.val) % 2) : ℝ) : EReal)
      * at2 (α := EReal) s ((128 * g + r.val) / 128) (128 * b + l.val) := by
  have hr := r.isLt
  have hl := l.isLt
  unfold wTile
  rw [shapeCast_self]
  refine congrArg₂ (fun x y : EReal => x * y) ?_ ?_
  · refine (extractStridedSlice_apply _ (wBlk p b hb) (wSlG hg) (ix2 r l) (ix2 ⟨128 * g + r.val, by omega⟩ l) ?_).trans ?_
    · intro k; fin_cases k
      · rfl
      · exact (Nat.zero_add _).symm
    · rw [wBlk_eq, show 64 * b + l.val / 2 = (128 * b + l.val) / 2 from by omega, show l.val % 2 = (128 * b + l.val) % 2 from by omega]
  · refine (broadcastTo_1b_ab_apply _ broadcasts_S1x128_S128x128 r l).trans ?_
    refine at2_of (α := EReal) s ((Rect.unit (s := S8x1024) ![g, 128 * b] S1x128.size (wInbS hg hb)).emb (ix2 0 l)) _ _ ?_ ?_
    · show g + 1 * 0 = _; omega
    · show 128 * b + 1 * l.val = _; omega

/-- Every store of the decoded weights is a tile of the table. -/
theorem wPieces_val (p : Vec Ideal S1024x512 .i8) (s : Vec Ideal S8x1024 .f32) : ∀ (n : ℕ) (h : n ≤ 64), ∀ q ∈ wPieces p s n h, ∀ x,
    q.2 x = ((nib (at2 (α := BitVec 8) p (q.1.emb x 0).val ((q.1.emb x 1).val / 2)) ((q.1.emb x 1).val % 2) : ℝ) : EReal) * at2 (α := EReal) s ((q.1.emb x 0).val / 128) (q.1.emb x 1).val
  | 0, _, q, hq => absurd hq (List.not_mem_nil)
  | n + 1, h, q, hq => by
    unfold wPieces at hq
    rcases List.mem_cons.mp hq with rfl | hq
    · intro x
      obtain ⟨r, l, rfl⟩ : ∃ (r : Fin 128) (l : Fin 128), x = ix2 r l := ⟨x 0, x 1, eq_ix2 x⟩
      refine (wTile_eq p s (n % 8) (n / 8) (Nat.mod_lt n (by decide)) (wLt h) r l).trans ?_
      show _ = ((nib (at2 (α := BitVec 8) p (128 * (n % 8) + 1 * r.val) ((128 * (n / 8) + 1 * l.val) / 2)) ((128 * (n / 8) + 1 * l.val) % 2) : ℝ) : EReal)
        * at2 (α := EReal) s ((128 * (n % 8) + 1 * r.val) / 128) (128 * (n / 8) + 1 * l.val)
      rw [one_mul, one_mul]
    · exact wPieces_val p s n _ q hq

theorem w_ok : WOk := fun p s r j =>
  View.canon_apply_of_pieces (Val := Elt Ideal) (S := S1024x1024) (e := .bf16)
    (fun y : S1024x1024.Idx => ((nib (at2 (α := BitVec 8) p (y 0).val ((y 1).val / 2)) ((y 1).val % 2) : ℝ) : EReal) * at2 (α := EReal) s ((y 0).val / 128) (y 1).val) _
    (wPieces_val p s 64 _) (ix2 r j) (wPieces_cover p s _)

end Cert.KernelIdeal.Gen

end
-- ==== Proof.Contents.lean ====
/- What the kernel's buffers hold between its calls, in terms of the arguments. -/
module

public import proofs.«01_k».proof.Proof.Run
public import proofs.«01_k».proof.Proof.PValue
public import proofs.«01_k».proof.Proof.QValue
public import proofs.«01_k».proof.Proof.HValue
public import proofs.«01_k».proof.Proof.WValue

@[expose] public section

set_option maxRecDepth 16384

noncomputable section

namespace Cert.KernelIdeal.Gen

open Idealize.ShloMosaic Idealize.ShloMosaic.TcCoe
open Idealize.SL Idealize.SL.Sem
open Idealize.ShloMosaic.StableHlo

variable (m : (ℓ : Loc nD τ sig) → Buf (Elt Ideal) ℓ) (c : Dev nD)

/-! ## The arguments -/

def A0 : S2x2048x16384.Idx → EReal := m ((c.tc : Thread nD τ).loc main_arg0)
def A1 : S16384x2560.Idx → BitVec 8 := m ((c.tc : Thread nD τ).loc main_arg1)
def A2 : S128x5120.Idx → EReal := m ((c.tc : Thread nD τ).loc main_arg2)
def A3 : S5120.Idx → EReal := m ((c.tc : Thread nD τ).loc main_arg3)
def A4 : S1500.Idx → EReal := m ((c.tc : Thread nD τ).loc main_arg4)
def A5 : S1500.Idx → BitVec 32 := m ((c.tc : Thread nD τ).loc main_arg5)
def A6 : S1500.Idx → BitVec 32 := m ((c.tc : Thread nD τ).loc main_arg6)

/-- A frequency vector padded with zeros, -/
def padW (x : IVec S1500 32) : IVec S1536 32 := pad S1536 ![0] ![36] ![0] x (id (constantI S_ 32 0#32)) pads_S1500_S1536_0360 h_S_
/-- the coefficients padded with zeros, -/
def padC (x : FVec Ideal S1500 .f32) : FVec Ideal S1536 .f32 := pad S1536 ![0] ![36] ![0] x (sitofp .f32 (constantI S_ 32 0#32)) pads_S1500_S1536_0360 h_S_
/-- and scaled. -/
def coefs (x : FVec Ideal S1500 .f32) : FVec Ideal S1536 .f32 := mulf (broadcastInDim S1536 ![] bcast_S_S1536 (constant S_ .f32 0x36700000#32)) (padC x)

/-! ## Before the first call -/

theorem V1_v0 : V1 m c main_v0 = shapeCast S4096x16384 (A0 m c) shapeCasts_S2x2048x16384_S4096x16384 := by
  after_results_simp <;> rfl
theorem V2_v1 : V2 m c main_v1 = padW (A5 m c) := by
  show StableHlo.after hostOps0_1 (V1 m c) _ = _
  simp only [hostOps0_1, TRef.binary, TRef.nullary, TRef.unary, TRef.toBuf, TRef.ofBuf, cast_eq]
  after_results_simp <;> rfl
theorem V3_v2 : V3 m c main_v2 = shapeCast S1x1536 (padW (A5 m c)) shapeCasts_S1536_S1x1536 := by
  rw [← V2_v1]
  after_results_simp <;> rfl
theorem V4_v3 : V4 m c main_v3 = padW (A6 m c) := by
  show StableHlo.after hostOps0_3 (V3 m c) _ = _
  simp only [hostOps0_3, TRef.binary, TRef.nullary, TRef.unary, TRef.toBuf, TRef.ofBuf, cast_eq]
  after_results_simp <;> rfl
theorem V5_v4 : V5 m c main_v4 = shapeCast S1536x1 (padW (A6 m c)) shapeCasts_S1536_S1536x1 := by
  rw [← V4_v3]
  after_results_simp <;> rfl
theorem V6_v5 : V6 m c main_v5 = padC (A4 m c) := by
  show StableHlo.after hostOps0_5 (V5 m c) _ = _
  simp only [hostOps0_5, TRef.binary, TRef.nullary, TRef.unary, TRef.toBuf, TRef.ofBuf, cast_eq]
  after_results_simp <;> rfl
theorem V7_v9 : V7 m c main_v9 = shapeCast S1x3072 (concatenate S3072 0 [⟨S1536, coefs (A4 m c)⟩, ⟨S1536, coefs (A4 m c)⟩] concatenates_S1536_S1536_S3072_d0) shapeCasts_S3072_S1x3072 := by
  unfold coefs
  rw [← V6_v5]
  after_results_simp <;> rfl

theorem V7_v0 : V7 m c main_v0 = shapeCast S4096x16384 (A0 m c) shapeCasts_S2x2048x16384_S4096x16384 :=
  (V7_of m c main_v0 (by decide)).trans <| (V6_of m c main_v0 (by decide)).trans <| (V5_of m c main_v0 (by decide)).trans <|
    (V4_of m c main_v0 (by decide)).trans <| (V3_of m c main_v0 (by decide)).trans <| (V2_of m c main_v0 (by decide)).trans (V1_v0 m c)
theorem V7_v2 : V7 m c main_v2 = shapeCast S1x1536 (padW (A5 m c)) shapeCasts_S1536_S1x1536 :=
  (V7_of m c main_v2 (by decide)).trans <| (V6_of m c main_v2 (by decide)).trans <| (V5_of m c main_v2 (by decide)).trans <|
    (V4_of m c main_v2 (by decide)).trans (V3_v2 m c)
theorem V7_v4 : V7 m c main_v4 = shapeCast S1536x1 (padW (A6 m c)) shapeCasts_S1536_S1536x1 :=
  (V7_of m c main_v4 (by decide)).trans <| (V6_of m c main_v4 (by decide)).trans (V5_v4 m c)

/-! ## Between the calls -/

theorem X8_v4 : X8 m c main_v4 = shapeCast S1536x1 (padW (A6 m c)) shapeCasts_S1536_S1536x1 :=
  (V8_of m (left m) c main_v4 (by decide)).trans (V7_v4 m c)

theorem X8_v10 : X8 m c main_v10 = pTab (pV (V7 m) c) :=
  (Function.update_self (f := V7 m c) (Proc.devRef .tc main_v10) _).trans
    ((Pipeline.afterRegion_arr (pDat (V7 m) c) (V7 m c) winFacts0.arr_inj 1).trans (p_arr (V7 m) c))

theorem V9_v11_1 (hv : qRange (X8 m) c) : V9 m (left m) c main_v11_1 = qTabS (X8 m) c :=
  (Function.update_self (f := Function.update (V8 m (left m) c) main_v11_0 (left m 9 main_v11_0 c)) (Proc.devRef .tc main_v11_1) _).trans
    ((Pipeline.afterRegion_arr (qDat (X8 m) c) (X8 m c) winFacts1.arr_inj 2).trans (q_arrS (X8 m) c hv))
theorem V9_v11_0 (hv : qRange (X8 m) c) : V9 m (left m) c main_v11_0 = qTabC (X8 m) c :=
  (Function.update_of_ne (StableHlo.devRef_ne_of_ne (by decide)) _ _).trans
    ((Function.update_self (f := V8 m (left m) c) (Proc.devRef .tc main_v11_0) _).trans
    ((Pipeline.afterRegion_arr (qDat (X8 m) c) (X8 m c) winFacts1.arr_inj 1).trans (q_arrC (X8 m) c hv)))

theorem X10_v0 : X10 m c main_v0 = shapeCast S4096x16384 (A0 m c) shapeCasts_S2x2048x16384_S4096x16384 :=
  (V10_of m (left m) c main_v0 (by decide)).trans <| (V9_of m (left m) c main_v0 (by decide)).trans <| (V8_of m (left m) c main_v0 (by decide)).trans (V7_v0 m c)
theorem X10_v9 : X10 m c main_v9 = shapeCast S1x3072 (concatenate S3072 0 [⟨S1536, coefs (A4 m c)⟩, ⟨S1536, coefs (A4 m c)⟩] concatenates_S1536_S1536_S3072_d0) shapeCasts_S3072_S1x3072 :=
  (V10_of m (left m) c main_v9 (by decide)).trans <| (V9_of m (left m) c main_v9 (by decide)).trans <| (V8_of m (left m) c main_v9 (by decide)).trans (V7_v9 m c)
theorem X10_v10 : X10 m c main_v10 = pTab (pV (V7 m) c) :=
  (V10_of m (left m) c main_v10 (by decide)).trans <| (V9_of m (left m) c main_v10 (by decide)).trans (X8_v10 m c)
theorem X10_v12 (hv : qRange (X8 m) c) : X10 m c main_v12 = concatenate S3072x5120 0 [⟨S1536x5120, qTabC (X8 m) c⟩, ⟨S1536x5120, qTabS (X8 m) c⟩] concatenates_S1536x5120_S1536x5120_S3072x5120_d0 := by
  rw [← V9_v11_0 m c hv, ← V9_v11_1 m c hv, ← V10_left]
  show StableHlo.after hostOps2 (V9 m (left m) c) (Proc.devRef .tc main_v12) = _
  generalize V9 m (left m) c = V
  after_results_simp <;> rfl

theorem V11_v13 : V11 m (left m) c main_v13 = hTab (X10 m) c :=
  (Function.update_self (f := V10 m (left m) c) (Proc.devRef .tc main_v13) _).trans
    ((Pipeline.afterRegion_arr (hDat (X10 m) c) (X10 m c) winFacts2.arr_inj 3).trans (h_arr (X10 m) c))

theorem X12_v13 : X12 m c main_v13 = hTab (X10 m) c := (V12_of m (left m) c main_v13 (by decide)).trans (V11_v13 m c)
theorem X12_v0 : X12 m c main_v0 = shapeCast S4096x16384 (A0 m c) shapeCasts_S2x2048x16384_S4096x16384 :=
  (V12_of m (left m) c main_v0 (by decide)).trans <| (V11_of m (left m) c main_v0 (by decide)).trans (X10_v0 m c)
theorem X12_v12 (hv : qRange (X8 m) c) : X12 m c main_v12 = concatenate S3072x5120 0 [⟨S1536x5120, qTabC (X8 m) c⟩, ⟨S1536x5120, qTabS (X8 m) c⟩] concatenates_S1536x5120_S1536x5120_S3072x5120_d0 :=
  (V12_of m (left m) c main_v12 (by decide)).trans <| (V11_of m (left m) c main_v12 (by decide)).trans (X10_v12 m c hv)

/-- An argument no item before the last call writes is as launched. -/
theorem V11_arg (r : Ref sig .tc) (h : r ∈ [main_arg0, main_arg1, main_arg2, main_arg3, main_arg4, main_arg5, main_arg6]) : V11 m (left m) c r = m ((c.tc : Thread nD τ).loc r) := by
  have hd : ∀ r ∈ [main_arg0, main_arg1, main_arg2, main_arg3, main_arg4, main_arg5, main_arg6],
      r ∉ hostOps0_W ∧ r ∉ hostOps0_1_W ∧ r ∉ hostOps0_2_W ∧ r ∉ hostOps0_3_W ∧ r ∉ hostOps0_4_W ∧ r ∉ hostOps0_5_W ∧ r ∉ hostOps0_6_W ∧ r ∉ hostOps2_W
        ∧ r ≠ main_v10 ∧ r ≠ main_v11_0 ∧ r ≠ main_v11_1 ∧ r ≠ main_v13 := by decide
  obtain ⟨h0, h1, h2, h3, h4, h5, h6, h7, h8, h9, h10, h11⟩ := hd r h
  exact (V11_of m (left m) c r (by simp [h11])).trans <| (V10_of m (left m) c r h7).trans <| (V9_of m (left m) c r (by simp [h9, h10])).trans <|
    (V8_of m (left m) c r (by simp [h8])).trans <| (V7_of m c r h6).trans <| (V6_of m c r h5).trans <| (V5_of m c r h4).trans <| (V4_of m c r h3).trans <|
    (V3_of m c r h2).trans <| (V2_of m c r h1).trans <| (V1_of m c r h0)

theorem X12_arg1 : X12 m c main_arg1 = A1 m c := (V12_of m (left m) c main_arg1 (by decide)).trans (V11_arg m c main_arg1 (by decide))
theorem X12_arg2 : X12 m c main_arg2 = A2 m c := (V12_of m (left m) c main_arg2 (by decide)).trans (V11_arg m c main_arg2 (by decide))
theorem X12_v14 : X12 m c main_v14 = shapeCast S1x5120 (A3 m c) shapeCasts_S5120_S1x5120 := by
  rw [show A3 m c = V11 m (left m) c main_arg3 from (V11_arg m c main_arg3 (by decide)).symm, ← V12_left]
  show StableHlo.after hostOps3 (V11 m (left m) c) (Proc.devRef .tc main_v14) = _
  generalize V11 m (left m) c = V
  after_results_simp <;> rfl

/-! ## The results -/

theorem V13_v15_1 : V13 m (left m) c main_v15_1 = mTabD (X12 m) c :=
  (Function.update_self (f := Function.update (V12 m (left m) c) main_v15_0 (left m 13 main_v15_0 c)) (Proc.devRef .tc main_v15_1) _).trans
    ((Pipeline.afterRegion_arr (mDat (X12 m) c) (X12 m c) winFacts3.arr_inj 7).trans (m_arrD (X12 m) w_ok c))
theorem V13_v15_0 : V13 m (left m) c main_v15_0 = mTabY (X12 m) c :=
  (Function.update_of_ne (StableHlo.devRef_ne_of_ne (by decide)) _ _).trans
    ((Function.update_self (f := V12 m (left m) c) (Proc.devRef .tc main_v15_0) _).trans
    ((Pipeline.afterRegion_arr (mDat (X12 m) c) (X12 m c) winFacts3.arr_inj 6).trans (m_arrY (X12 m) w_ok c)))

theorem V14_v17 : V14 m (left m) c main_v17 = shapeCast S2x2048x5120 (mTabD (X12 m) c) shapeCasts_S4096x5120_S2x2048x5120 := by
  rw [← V13_v15_1]
  show StableHlo.after hostOps4 (V13 m (left m) c) (Proc.devRef .tc main_v17) = _
  generalize V13 m (left m) c = V
  after_results_simp <;> rfl
theorem V14_v16 : V14 m (left m) c main_v16 = shapeCast S2x2048x5120 (mTabY (X12 m) c) shapeCasts_S4096x5120_S2x2048x5120 := by
  rw [← V13_v15_0]
  show StableHlo.after hostOps4 (V13 m (left m) c) (Proc.devRef .tc main_v16) = _
  generalize V13 m (left m) c = V
  after_results_simp <;> rfl

end Cert.KernelIdeal.Gen

end
-- ==== Proof.KernelVals.lean ====
/- The kernel's buffers, entry by entry, and its two results as sums over its arguments. -/
module

public import proofs.«01_k».proof.Proof.Contents
public import Idealize.ShloMosaic.Lib.KernelVsHost

@[expose] public section

set_option maxRecDepth 16384
set_option maxHeartbeats 60000

noncomputable section

namespace Cert.KernelIdeal.Gen

open Idealize.ShloMosaic hiding ix1 ix2 ix3 ix4 eq_ix1 eq_ix2 eq_ix3 eq_ix4
open Idealize.ShloMosaic.TcCoe Idealize.ShloMosaic.ValueIdx
open Idealize.SL Idealize.SL.Sem
open Cert.Proof.Angles Cert.Proof.Tables

/-! ## Reshapes, pads and joins, at an index -/

section Layout
variable {α : Type} [Inhabited α]

theorem pad_in (x : S1500.Idx → α) (v : S_.Idx → α) (k : ℕ) (hk : k < 1500) :
    at1 (pad S1536 ![0] ![36] ![0] x v pads_S1500_S1536_0360 h_S_) k = at1 x k := by
  rw [at1_eq _ (show k < 1536 by omega), at1_eq _ hk]
  refine pad_apply_of_inside _ _ _ _ _ _ _ _ _ ?_
  intro a; fin_cases a
  show k = 0 + k * (0 + 1)
  omega

theorem pad_out (x : S1500.Idx → α) (v : S_.Idx → α) (k : ℕ) (hk : 1500 ≤ k) (hk' : k < 1536) :
    at1 (pad S1536 ![0] ![36] ![0] x v pads_S1500_S1536_0360 h_S_) k = v (Shape.Idx.first h_S_) := by
  rw [at1_eq _ hk']
  refine pad_apply_of_not_inside _ _ _ _ _ _ _ _ 0 ?_
  show ¬(0 ≤ k ∧ (k - 0) % (0 + 1) = 0 ∧ (k - 0) / (0 + 1) < 1500)
  rintro ⟨-, -, h⟩
  rw [Nat.sub_zero, Nat.div_one] at h
  omega

/-- A vector as one row, -/
theorem row_of {n : ℕ} (x : (⟨1, ![n]⟩ : Shape).Idx → α) (h : Shape.ShapeCasts ⟨1, ![n]⟩ ⟨2, ![1, n]⟩) (k : ℕ) (hk : k < n) :
    at2 (shapeCast ⟨2, ![1, n]⟩ x h) 0 k = at1 x k := by
  rw [at2_eq _ Nat.one_pos hk, at1_eq _ hk]
  refine shapeCast_apply x h _ _ ?_
  rw [Shape.rowMajor_val_one, Shape.rowMajor_val_two]
  show k = 0 * n + k
  omega
/-- and as one column. -/
theorem col_of {n : ℕ} (x : (⟨1, ![n]⟩ : Shape).Idx → α) (h : Shape.ShapeCasts ⟨1, ![n]⟩ ⟨2, ![n, 1]⟩) (k : ℕ) (hk : k < n) :
    at2 (shapeCast ⟨2, ![n, 1]⟩ x h) k 0 = at1 x k := by
  rw [at2_eq _ hk Nat.one_pos, at1_eq _ hk]
  refine shapeCast_apply x h _ _ ?_
  rw [Shape.rowMajor_val_one, Shape.rowMajor_val_two]
  show k = k * 1 + 0
  omega

/-- Two vectors joined: the first half, -/
theorem join1_left (x y : S1536.Idx → α) (k : ℕ) (hk : k < 1536) :
    at1 (concatenate S3072 0 [⟨S1536, x⟩, ⟨S1536, y⟩] concatenates_S1536_S1536_S3072_d0) k = at1 x k := by
  rw [at1_eq _ (show k < 3072 by omega), at1_eq _ hk]
  exact concatenate_pair_apply_left 0 _ _ concatenates_S1536_S1536_S3072_d0 _ rfl _ (by intro a; fin_cases a; rfl)
/-- and the second. -/
theorem join1_right (x y : S1536.Idx → α) (k : ℕ) (hk : k < 1536) :
    at1 (concatenate S3072 0 [⟨S1536, x⟩, ⟨S1536, y⟩] concatenates_S1536_S1536_S3072_d0) (1536 + k) = at1 y k := by
  rw [at1_eq _ (show 1536 + k < 3072 by omega), at1_eq _ hk]
  exact concatenate_pair_apply_right 0 _ _ concatenates_S1536_S1536_S3072_d0 _ rfl rfl _ (by intro a ha; fin_cases a; exact absurd rfl ha) (Nat.add_comm k 1536)

/-- Two tables joined along their rows: the first half, -/
theorem join2_left (x y : S1536x5120.Idx → α) (k n : ℕ) (hk : k < 1536) (hn : n < 5120) :
    at2 (concatenate S3072x5120 0 [⟨S1536x5120, x⟩, ⟨S1536x5120, y⟩] concatenates_S1536x5120_S1536x5120_S3072x5120_d0) k n = x (ix2 ⟨k, hk⟩ ⟨n, hn⟩) := by
  rw [at2_eq _ (show k < 3072 by omega) hn]
  exact concatenate_pair_apply_left 0 _ _ concatenates_S1536x5120_S1536x5120_S3072x5120_d0 _ rfl _ (by intro a; fin_cases a <;> rfl)
/-- and the second. -/
theorem join2_right (x y : S1536x5120.Idx → α) (k n : ℕ) (hk : k < 1536) (hn : n < 5120) :
    at2 (concatenate S3072x5120 0 [⟨S1536x5120, x⟩, ⟨S1536x5120, y⟩] concatenates_S1536x5120_S1536x5120_S3072x5120_d0) (1536 + k) n = y (ix2 ⟨k, hk⟩ ⟨n, hn⟩) := by
  rw [at2_eq _ (show 1536 + k < 3072 by omega) hn]
  have hoff : ∀ a : Fin 2, (a : Fin 2) ≠ 0 → (ix2 (⟨k, hk⟩ : Fin 1536) (⟨n, hn⟩ : Fin 5120) a).val = (ix2 (⟨1536 + k, by omega⟩ : Fin 3072) (⟨n, hn⟩ : Fin 5120) a).val := by
    intro a ha
    match a with
    | ⟨0, _⟩ => exact absurd rfl ha
    | ⟨1, _⟩ => rfl
  rw [concatenate_pair_apply_right 0 x y concatenates_S1536x5120_S1536x5120_S3072x5120_d0 (ix2 ⟨1536 + k, by omega⟩ ⟨n, hn⟩) rfl rfl (ix2 ⟨k, hk⟩ ⟨n, hn⟩) hoff (Nat.add_comm k 1536)]

/-- The rows of the two batches, one after the other. -/
theorem flat_in (x : S2x2048x16384.Idx → α) (b : Fin 2) (s : Fin 2048) (p : Fin 16384) :
    at2 (shapeCast S4096x16384 x shapeCasts_S2x2048x16384_S4096x16384) (2048 * b.val + s.val) p.val = x (ix3 b s p) := by
  have hb := b.isLt
  have hs := s.isLt
  rw [at2_eq _ (show 2048 * b.val + s.val < 4096 by omega) p.isLt]
  refine shapeCast_apply x _ _ _ ?_
  rw [Shape.rowMajor_val_three, Shape.rowMajor_val_two]
  show (b.val * 2048 + s.val) * 16384 + p.val = (2048 * b.val + s.val) * 16384 + p.val
  omega
theorem flat_out (x : S4096x5120.Idx → α) (b : Fin 2) (s : Fin 2048) (n : Fin 5120) (h : 2048 * b.val + s.val < 4096) :
    shapeCast S2x2048x5120 x shapeCasts_S4096x5120_S2x2048x5120 (ix3 b s n) = x (ix2 ⟨2048 * b.val + s.val, h⟩ n) := by
  refine shapeCast_apply x _ _ _ ?_
  rw [Shape.rowMajor_val_three, Shape.rowMajor_val_two]
  show (2048 * b.val + s.val) * 5120 + n.val = (b.val * 2048 + s.val) * 5120 + n.val
  omega
end Layout

/-- The scale of the coefficients. -/
def cK : EReal := Ideal.ofBits .f32 0x36700000#32

theorem coefs_at (x : FVec Ideal S1500 .f32) (k : ℕ) (hk : k < 1536) : at1 (α := EReal) (coefs x) k = cK * at1 (α := EReal) (padC x) k := by
  rw [at1_eq (α := EReal) _ hk, at1_eq (α := EReal) _ hk]; rfl
theorem coefs_in (x : FVec Ideal S1500 .f32) (k : ℕ) (hk : k < 1500) : at1 (α := EReal) (coefs x) k = cK * at1 (α := EReal) x k := by
  rw [coefs_at x k (by omega)]
  exact congrArg (cK * ·) (pad_in (α := EReal) x _ k hk)
theorem coefs_out (x : FVec Ideal S1500 .f32) (k : ℕ) (hk : 1500 ≤ k) (hk' : k < 1536) : at1 (α := EReal) (coefs x) k = 0 := by
  rw [coefs_at x k hk', show at1 (α := EReal) (padC x) k = 0 from (pad_out (α := EReal) x _ k hk hk').trans ?_, mul_zero]
  show (((0#32 : BitVec 32).toInt : ℝ) : EReal) = 0
  simp

theorem padW_in (x : IVec S1500 32) (k : ℕ) (hk : k < 1500) : at1 (α := BitVec 32) (padW x) k = at1 (α := BitVec 32) x k := pad_in (α := BitVec 32) x _ k hk
theorem padW_out (x : IVec S1500 32) (k : ℕ) (hk : 1500 ≤ k) (hk' : k < 1536) : at1 (α := BitVec 32) (padW x) k = 0#32 := pad_out (α := BitVec 32) x _ k hk hk'

/-! ## The factors -/

variable (m : (ℓ : Loc nD τ sig) → Buf (Elt Ideal) ℓ) (c : Dev nD)

theorem pU_eq (k : ℕ) (hk : k < 1500) : pU (pV (V7 m) c) k = (at1 (α := BitVec 32) (A5 m c) k).toInt := by
  unfold pU
  rw [show pV (V7 m) c = _ from V7_v2 m c]
  exact congrArg BitVec.toInt ((row_of (α := BitVec 32) (padW (A5 m c)) _ k (by omega)).trans (padW_in _ k hk))

theorem qFreq_eq (k : ℕ) (hk : k < 1500) : qFreq (X8 m) c k = (at1 (α := BitVec 32) (A6 m c) k).toInt := by
  unfold qFreq
  rw [show qF (X8 m) c = _ from X8_v4 m c]
  exact congrArg BitVec.toInt ((col_of (α := BitVec 32) (padW (A6 m c)) _ k (by omega)).trans (padW_in _ k hk))

/-- Padding keeps the column frequencies in range. -/
theorem qRange_of (h : ∀ k : Fin 1500, -419512 ≤ (A6 m c (ix1 k)).toInt ∧ (A6 m c (ix1 k)).toInt ≤ 419512) : qRange (X8 m) c := by
  intro y
  obtain ⟨r, j, rfl⟩ : ∃ (r : Fin 1536) (j : Fin 1), y = ix2 r j := ⟨y 0, y 1, eq_ix2 y⟩
  have hr := r.isLt
  have e : (qF (X8 m) c (ix2 r j) : BitVec 32) = at1 (α := BitVec 32) (padW (A6 m c)) r.val := by
    rw [show qF (X8 m) c = _ from X8_v4 m c]
    exact (at2_of (α := BitVec 32) _ _ r.val 0 rfl (by have := j.isLt; show j.val = 0; omega)).trans (col_of (α := BitVec 32) _ _ _ hr)
  rw [e]
  by_cases hk : r.val < 1500
  · rw [padW_in _ _ hk, at1_eq _ hk]; exact h ⟨r.val, hk⟩
  · rw [padW_out _ _ (by omega) hr]; decide

theorem hX_eq (b : Fin 2) (s : Fin 2048) (p : Fin 16384) : at2 (hX (X10 m) c) (2048 * b.val + s.val) p.val = A0 m c (ix3 b s p) := by
  rw [show hX (X10 m) c = _ from X10_v0 m c]; exact flat_in _ b s p
theorem mX_eq (b : Fin 2) (s : Fin 2048) (p : Fin 16384) : at2 (mX (X12 m) c) (2048 * b.val + s.val) p.val = A0 m c (ix3 b s p) := by
  rw [show mX (X12 m) c = _ from X12_v0 m c]; exact flat_in _ b s p

theorem hP_eq (p k : ℕ) (hp : p < 16384) (hk : k < 3072) : at2 (hP (X10 m) c) p k = ((pEnt (pU (pV (V7 m) c)) p k : ℝ) : EReal) := by
  rw [show hP (X10 m) c = _ from X10_v10 m c, at2_eq _ hp hk]; rfl

theorem hC_lo (k : ℕ) (hk : k < 1536) : at2 (hC (X10 m) c) 0 k = at1 (α := EReal) (coefs (A4 m c)) k := by
  rw [show hC (X10 m) c = _ from X10_v9 m c]
  exact (row_of (α := EReal) _ _ k (by omega)).trans (join1_left (α := EReal) _ _ k hk)
theorem hC_hi (k : ℕ) (hk : k < 1536) : at2 (hC (X10 m) c) 0 (1536 + k) = at1 (α := EReal) (coefs (A4 m c)) k := by
  rw [show hC (X10 m) c = _ from X10_v9 m c]
  exact (row_of (α := EReal) _ _ (1536 + k) (by omega)).trans (join1_right (α := EReal) _ _ k hk)

theorem mQ_lo (hv : qRange (X8 m) c) (k n : ℕ) (hk : k < 1536) (hn : n < 5120) : at2 (mQ (X12 m) c) k n = ((qC (qFreq (X8 m) c) k n : ℝ) : EReal) := by
  rw [show mQ (X12 m) c = _ from X12_v12 m c hv]
  exact join2_left (α := EReal) _ _ k n hk hn
theorem mQ_hi (hv : qRange (X8 m) c) (k n : ℕ) (hk : k < 1536) (hn : n < 5120) : at2 (mQ (X12 m) c) (1536 + k) n = ((qS (qFreq (X8 m) c) k n : ℝ) : EReal) := by
  rw [show mQ (X12 m) c = _ from X12_v12 m c hv]
  exact join2_right (α := EReal) _ _ k n hk hn

theorem mB_eq (n : Fin 5120) : at2 (mB (X12 m) c) 0 n.val = A3 m c (ix1 n) := by
  rw [show mB (X12 m) c = _ from X12_v14 m c]
  exact (row_of (α := EReal) _ _ n.val n.isLt).trans (at1_eq _ n.isLt)

theorem mG_eq (b : Fin 2) (s : Fin 2048) (k : ℕ) (hk : k < 3072) : at2 (mG (X12 m) c) (2048 * b.val + s.val) k
    = (∑ p : Fin 16384, A0 m c (ix3 b s p) * ((pEnt (pU (pV (V7 m) c)) p.val k : ℝ) : EReal)) * at2 (hC (X10 m) c) 0 k := by
  have hb := b.isLt
  have hs := s.isLt
  rw [show mG (X12 m) c = _ from X12_v13 m c, at2_eq _ (show 2048 * b.val + s.val < 4096 by omega) hk]
  show (∑ p ∈ Finset.range 16384, at2 (hX (X10 m) c) (2048 * b.val + s.val) p * at2 (hP (X10 m) c) p k) * at2 (hC (X10 m) c) 0 k = _
  rw [← sum_fin 16384 (fun p => at2 (hX (X10 m) c) (2048 * b.val + s.val) p * at2 (hP (X10 m) c) p k)]
  refine congrArg (· * at2 (hC (X10 m) c) 0 k) (Finset.sum_congr rfl fun p _ => ?_)
  show at2 (hX (X10 m) c) (2048 * b.val + s.val) p.val * at2 (hP (X10 m) c) p.val k = _
  rw [hX_eq, hP_eq m c p.val k p.isLt hk]

/-! ## The results -/

/-- A term of the adapter on the cosine half, -/
theorem delta_lo (hv : qRange (X8 m) c) (b : Fin 2) (s : Fin 2048) (n : Fin 5120) (k : Fin 1500) :
    mDelta (X12 m) c (2048 * b.val + s.val) n.val k.val
      = (∑ p : Fin 16384, A0 m c (ix3 b s p) * ((cosN 16384 (p.val * (at1 (α := BitVec 32) (A5 m c) k.val).toInt) : ℝ) : EReal))
        * (cK * A4 m c (ix1 k)) * ((qC (fun k => (at1 (α := BitVec 32) (A6 m c) k).toInt) k.val n.val : ℝ) : EReal) := by
  have hk := k.isLt
  unfold mDelta
  rw [mG_eq m c b s k.val (by omega), mQ_lo m c hv k.val n.val (by omega) n.isLt, hC_lo m c k.val (by omega), coefs_in _ _ hk, at1_eq (A4 m c) hk]
  unfold qC pEnt
  rw [qFreq_eq m c _ hk]
  simp only [if_pos (show k.val < 1536 by omega), pU_eq m c _ hk]
/-- and on the sine half. -/
theorem delta_hi (hv : qRange (X8 m) c) (b : Fin 2) (s : Fin 2048) (n : Fin 5120) (k : Fin 1500) :
    mDelta (X12 m) c (2048 * b.val + s.val) n.val (1536 + k.val)
      = (∑ p : Fin 16384, A0 m c (ix3 b s p) * ((sinN 16384 (p.val * (at1 (α := BitVec 32) (A5 m c) k.val).toInt) : ℝ) : EReal))
        * (cK * A4 m c (ix1 k)) * ((qS (fun k => (at1 (α := BitVec 32) (A6 m c) k).toInt) k.val n.val : ℝ) : EReal) := by
  have hk := k.isLt
  unfold mDelta
  rw [mG_eq m c b s (1536 + k.val) (by omega), mQ_hi m c hv k.val n.val (by omega) n.isLt, hC_hi m c k.val (by omega), coefs_in _ _ hk, at1_eq (A4 m c) hk]
  unfold qS pEnt
  rw [qFreq_eq m c _ hk]
  simp only [if_neg (show ¬ 1536 + k.val < 1536 by omega), Nat.add_sub_cancel_left, pU_eq m c _ hk]

/-- The padded terms vanish. -/
theorem delta_pad (b : Fin 2) (s : Fin 2048) (n k : ℕ) (hk : 1500 ≤ k) (hk' : k < 1536) :
    mDelta (X12 m) c (2048 * b.val + s.val) n k = 0 ∧ mDelta (X12 m) c (2048 * b.val + s.val) n (1536 + k) = 0 := by
  unfold mDelta
  rw [mG_eq m c b s k (by omega), mG_eq m c b s (1536 + k) (by omega), hC_lo m c k hk', hC_hi m c k hk', coefs_out _ _ hk hk', mul_zero, mul_zero, zero_mul, zero_mul]
  exact ⟨rfl, rfl⟩

theorem delta_sum (b : Fin 2) (s : Fin 2048) (n : ℕ) :
    ∑ k ∈ Finset.range 3072, mDelta (X12 m) c (2048 * b.val + s.val) n k
      = (∑ k : Fin 1500, mDelta (X12 m) c (2048 * b.val + s.val) n k.val) + ∑ k : Fin 1500, mDelta (X12 m) c (2048 * b.val + s.val) n (1536 + k.val) := by
  rw [sum_halves _ (fun k h h' => (delta_pad m c b s n k h h').1) (fun k h h' => (delta_pad m c b s n k h h').2),
    ← sum_fin 1500 (fun k => mDelta (X12 m) c (2048 * b.val + s.val) n k), ← sum_fin 1500 (fun k => mDelta (X12 m) c (2048 * b.val + s.val) n (1536 + k))]

theorem base_sum (b : Fin 2) (s : Fin 2048) (n : ℕ) :
    ∑ p ∈ Finset.range 16384, mBase (X12 m) c (2048 * b.val + s.val) n p
      = ∑ p : Fin 16384, A0 m c (ix3 b s p) * (((nib (at2 (α := BitVec 8) (A1 m c) p.val (n / 2)) (n % 2) : ℝ) : EReal) * at2 (α := EReal) (A2 m c) (p.val / 128) n) := by
  rw [← sum_fin 16384 (fun p => mBase (X12 m) c (2048 * b.val + s.val) n p)]
  refine Finset.sum_congr rfl fun p _ => ?_
  unfold mBase mWt
  rw [mX_eq, show mW (X12 m) c = _ from X12_arg1 m c, show mS (X12 m) c = _ from X12_arg2 m c]

/-- The second result, -/
theorem out17 (b : Fin 2) (s : Fin 2048) (n : Fin 5120) :
    (V14 m (left m) c main_v17 : S2x2048x5120.Idx → EReal) (ix3 b s n) = ∑ k ∈ Finset.range 3072, mDelta (X12 m) c (2048 * b.val + s.val) n.val k := by
  have hb := b.isLt
  have hs := s.isLt
  rw [show (V14 m (left m) c main_v17 : S2x2048x5120.Idx → EReal) = _ from V14_v17 m c]
  exact flat_out (α := EReal) _ b s n (by omega)
/-- and the first. -/
theorem out16 (b : Fin 2) (s : Fin 2048) (n : Fin 5120) :
    (V14 m (left m) c main_v16 : S2x2048x5120.Idx → EReal) (ix3 b s n)
      = ((∑ k ∈ Finset.range 3072, mDelta (X12 m) c (2048 * b.val + s.val) n.val k) + ∑ p ∈ Finset.range 16384, mBase (X12 m) c (2048 * b.val + s.val) n.val p)
        + at2 (mB (X12 m) c) 0 n.val := by
  have hb := b.isLt
  have hs := s.isLt
  rw [show (V14 m (left m) c main_v16 : S2x2048x5120.Idx → EReal) = _ from V14_v16 m c]
  exact flat_out (α := EReal) _ b s n (by omega)

end Cert.KernelIdeal.Gen

end
-- ==== Proof.RefValue.lean ====
/- The reference's two results, stage by stage, and each stage's elements at the reals. -/
module

public import proofs.«01_k».proof.Proof.Gen.ReferenceIdeal.Run
public import proofs.«01_k».proof.Proof.Tables
public import Idealize.ShloMosaic.Lib.ValueLayout
public import Idealize.ShloMosaic.Lib.MatmulPlain
public import Idealize.ShloMosaic.Lib.TwoAxisContraction

@[expose] public section

set_option maxRecDepth 16384

noncomputable section

namespace Cert.ReferenceIdeal.Value

open Idealize.ShloMosaic Idealize.ShloMosaic.TcCoe Idealize.ShloMosaic.ValueIdx
open Idealize.SL.Sem
open Cert.ReferenceIdeal Cert.ReferenceIdeal.Gen
open Cert.Proof.Angles Cert.Proof.Tables

/-! ## The stages -/

/-- Twice the angle whose cosine is minus one, -/
def rTwoPi : FVec Ideal S_ .f32 := mulf (constant S_ .f32 0x40000000#32) (Host.acos (constant S_ .f32 0xBF800000#32))

/-- the modulus of an angle, replaced by one where it is zero, -/
def rMod (w : BitVec 32) : IVec S_ 32 := select (cmpi .eq (id (constantI S_ 32 w)) (constantI S_ 32 0#32)) (constantI S_ 32 1#32) (id (constantI S_ 32 w))

/-- the products of row (or column) numbers and frequencies, -/
def rProd {a b : ℕ} (h1 : Shape.BroadcastsInDim ⟨1, ![a]⟩ ⟨2, ![a, 1]⟩ ![0]) (h2 : Shape.BroadcastsInDim ⟨2, ![a, 1]⟩ ⟨2, ![a, b]⟩ ![0, 1])
    (h3 : Shape.BroadcastsInDim ⟨1, ![b]⟩ ⟨2, ![1, b]⟩ ![1]) (h4 : Shape.BroadcastsInDim ⟨2, ![1, b]⟩ ⟨2, ![a, b]⟩ ![0, 1]) (f : IVec ⟨1, ![b]⟩ 32) : IVec ⟨2, ![a, b]⟩ 32 :=
  muli (broadcastInDim ⟨2, ![a, b]⟩ ![0, 1] h2 (broadcastInDim ⟨2, ![a, 1]⟩ ![0] h1 (iotaInDim ⟨1, ![a]⟩ 32 0)))
    (broadcastInDim ⟨2, ![a, b]⟩ ![0, 1] h4 (broadcastInDim ⟨2, ![1, b]⟩ ![1] h3 f))

/-- their remainders, with the sign of the modulus, -/
def rWord {s : Shape} (h : Shape.BroadcastsInDim S_ s ![]) (m : IVec S_ 32) (x : IVec s 32) : IVec s 32 :=
  select (andi (cmpi .ne (cmpi .slt (Host.remsi x (broadcastInDim s ![] h m)) (broadcastInDim s ![] h (constantI S_ 32 0#32)))
        (broadcastInDim s ![] h (cmpi .slt m (constantI S_ 32 0#32))))
      (cmpi .ne (Host.remsi x (broadcastInDim s ![] h m)) (broadcastInDim s ![] h (constantI S_ 32 0#32))))
    (addi (Host.remsi x (broadcastInDim s ![] h m)) (broadcastInDim s ![] h m)) (Host.remsi x (broadcastInDim s ![] h m))

/-- and the angles. -/
def rAng {s : Shape} (h : Shape.BroadcastsInDim S_ s ![]) (d : BitVec 32) (x : IVec s 32) : FVec Ideal s .f32 :=
  mulf (sitofp .f32 x) (broadcastInDim s ![] h (Host.divf rTwoPi (constant S_ .f32 d)))

def rAngP (u : IVec S1500 32) : FVec Ideal S16384x1500 .f32 :=
  rAng bcast_S_S16384x1500 0x46800000#32 (rWord bcast_S_S16384x1500 (rMod 16384#32)
    (rProd bcast_S16384_S16384x1_0 bcast_S16384x1_S16384x1500_0_1 bcast_S1500_S1x1500_1 bcast_S1x1500_S16384x1500_0_1 u))
def rAngQ (v : IVec S1500 32) : FVec Ideal S5120x1500 .f32 :=
  rAng bcast_S_S5120x1500 0x45A00000#32 (rWord bcast_S_S5120x1500 (rMod 5120#32)
    (rProd bcast_S5120_S5120x1_0 bcast_S5120x1_S5120x1500_0_1 bcast_S1500_S1x1500_1 bcast_S1x1500_S5120x1500_0_1 v))

/-- The row factor, the cosines and the sines side by side, -/
def rP (u : IVec S1500 32) : FVec Ideal S16384x2x1500 .bf16 :=
  truncf .bf16 (concatenate S16384x2x1500 1 [⟨S16384x1x1500, broadcastInDim S16384x1x1500 ![0, 2] bcast_S16384x1500_S16384x1x1500_0_2 (Host.cos (rAngP u))⟩,
    ⟨S16384x1x1500, broadcastInDim S16384x1x1500 ![0, 2] bcast_S16384x1500_S16384x1x1500_0_2 (Host.sin (rAngP u))⟩] concatenates_S16384x1x1500_S16384x1x1500_S16384x2x1500_d1) bitsLt_bf16_f32
/-- and the column factor. -/
def rQ (v : IVec S1500 32) : FVec Ideal S5120x2x1500 .bf16 :=
  truncf .bf16 (concatenate S5120x2x1500 1 [⟨S5120x1x1500, broadcastInDim S5120x1x1500 ![0, 2] bcast_S5120x1500_S5120x1x1500_0_2 (Host.cos (rAngQ v))⟩,
    ⟨S5120x1x1500, broadcastInDim S5120x1x1500 ![0, 2] bcast_S5120x1500_S5120x1x1500_0_2 (Host.negf (Host.sin (rAngQ v)))⟩] concatenates_S5120x1x1500_S5120x1x1500_S5120x2x1500_d1) bitsLt_bf16_f32

/-- The projected input, times the coefficients, -/
def rG (x : FVec Ideal S2x2048x16384 .bf16) (cf : FVec Ideal S1500 .f32) (u : IVec S1500 32) : FVec Ideal S2x2048x2x1500 .bf16 :=
  truncf .bf16 (mulf (Host.dotGeneral dot_S2x2048x16384_S16384x2x1500_S2x2048x2x1500_2_0_01_12_n_n none x (rP u))
    (broadcastInDim S2x2048x2x1500 ![0, 1, 2, 3] bcast_S1x1x1x1500_S2x2048x2x1500_0_1_2_3 (broadcastInDim S1x1x1x1500 ![3] bcast_S1500_S1x1x1x1500_3
      (mulf (broadcastInDim S1500 ![] bcast_S_S1500 (constant S_ .f32 0x36700000#32)) cf)))) bitsLt_bf16_f32
/-- and the adapter's contribution. -/
def rD (x : FVec Ideal S2x2048x16384 .bf16) (cf : FVec Ideal S1500 .f32) (u v : IVec S1500 32) : FVec Ideal S2x2048x5120 .f32 :=
  Host.dotGeneral dot_S2x2048x2x1500_S5120x2x1500_S2x2048x5120_23_12_01_0_n_n none (rG x cf u) (rQ v)

/-- A nibble made signed. -/
def rSign (x : IVec S16384x2560 32) : IVec S16384x2560 32 :=
  select (cmpi .sge x (broadcastInDim S16384x2560 ![] bcast_S_S16384x2560 (constantI S_ 32 8#32)))
    (subi x (broadcastInDim S16384x2560 ![] bcast_S_S16384x2560 (constantI S_ 32 16#32))) x
def rLo (w : IVec S16384x2560 8) : IVec S16384x2560 32 :=
  rSign (andi (extui 32 w natLt_8_32) (broadcastInDim S16384x2560 ![] bcast_S_S16384x2560 (constantI S_ 32 15#32)))
def rHi (w : IVec S16384x2560 8) : IVec S16384x2560 32 :=
  rSign (Host.shrsi (extui 32 w natLt_8_32) (broadcastInDim S16384x2560 ![] bcast_S_S16384x2560 (constantI S_ 32 4#32)))
/-- The weights of one parity of columns. -/
def rW (x : IVec S16384x2560 32) (sl : FVec Ideal S128x2560 .f32) : FVec Ideal S16384x2560 .bf16 :=
  shapeCast _ (mulf (shapeCast _ (sitofp .bf16 x) shapeCasts_S16384x2560_S128x128x2560)
    (broadcastInDim S128x128x2560 ![0, 1, 2] bcast_S128x1x2560_S128x128x2560_0_1_2 (broadcastInDim S128x1x2560 ![0, 2] bcast_S128x2560_S128x1x2560_0_2 (truncf .bf16 sl bitsLt_bf16_f32))))
    shapeCasts_S128x128x2560_S16384x2560
def rWlo (w : IVec S16384x2560 8) (sc : FVec Ideal S128x5120 .f32) : FVec Ideal S16384x2560 .bf16 :=
  rW (rLo w) (Host.slice S128x2560 ![0, 0] ![1, 2] sc slicesBy_S128x5120_S128x2560_0s1_0s2)
def rWhi (w : IVec S16384x2560 8) (sc : FVec Ideal S128x5120 .f32) : FVec Ideal S16384x2560 .bf16 :=
  rW (rHi w) (Host.slice S128x2560 ![0, 1] ![1, 2] sc slicesBy_S128x5120_S128x2560_0s1_1s2)
/-- The base layer. -/
def rBase (x : FVec Ideal S2x2048x16384 .bf16) (w : IVec S16384x2560 8) (sc : FVec Ideal S128x5120 .f32) : FVec Ideal S2x2048x5120 .f32 :=
  shapeCast _ (concatenate S2x2048x2560x2 3
    [⟨S2x2048x2560x1, broadcastInDim S2x2048x2560x1 ![0, 1, 2] bcast_S2x2048x2560_S2x2048x2560x1_0_1_2 (Host.dotGeneral dot_S2x2048x16384_S16384x2560_S2x2048x2560_2_0_01_1_n_n none x (rWlo w sc))⟩,
      ⟨S2x2048x2560x1, broadcastInDim S2x2048x2560x1 ![0, 1, 2] bcast_S2x2048x2560_S2x2048x2560x1_0_1_2 (Host.dotGeneral dot_S2x2048x16384_S16384x2560_S2x2048x2560_2_0_01_1_n_n none x (rWhi w sc))⟩]
    concatenates_S2x2048x2560x1_S2x2048x2560x1_S2x2048x2560x2_d3) shapeCasts_S2x2048x2560x2_S2x2048x5120
/-- The first result. -/
def rY (x : FVec Ideal S2x2048x16384 .bf16) (w : IVec S16384x2560 8) (sc : FVec Ideal S128x5120 .f32) (bs : FVec Ideal S5120 .f32) (cf : FVec Ideal S1500 .f32) (u v : IVec S1500 32) :
    FVec Ideal S2x2048x5120 .bf16 :=
  truncf .bf16 (addf (addf (rBase x w sc) (rD x cf u v))
    (broadcastInDim S2x2048x5120 ![0, 1, 2] bcast_S1x1x5120_S2x2048x5120_0_1_2 (broadcastInDim S1x1x5120 ![2] bcast_S5120_S1x1x5120_2 bs))) bitsLt_bf16_f32

theorem res87_eq (m : (ℓ : Loc nD τ sig) → Buf (Elt Ideal) ℓ) (c : Dev nD) :
    res_main_v87 m c = truncf .bf16 (rD (m ((c.tc : Thread nD τ).loc main_arg0)) (m ((c.tc : Thread nD τ).loc main_arg4)) (m ((c.tc : Thread nD τ).loc main_arg5)) (m ((c.tc : Thread nD τ).loc main_arg6))) bitsLt_bf16_f32 := rfl
theorem res86_eq (m : (ℓ : Loc nD τ sig) → Buf (Elt Ideal) ℓ) (c : Dev nD) :
    res_main_v86 m c = rY (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) := rfl

end Cert.ReferenceIdeal.Value

end
-- ==== Proof.RefElem.lean ====
/- The elements of the reference's stages at the reals. -/
module

public import proofs.«01_k».proof.Proof.RefValue

@[expose] public section

set_option maxRecDepth 16384

noncomputable section

namespace Cert.ReferenceIdeal.Value

open Idealize.ShloMosaic Idealize.ShloMosaic.TcCoe Idealize.ShloMosaic.ValueIdx
open Idealize.SL.Sem
open Cert.ReferenceIdeal Cert.ReferenceIdeal.Gen
open Cert.Proof.Angles Cert.Proof.Tables

/-! ## Broadcasts and pairs -/

theorem bcS {α : Type} {t : Shape} (h : Shape.BroadcastsInDim S_ t ![]) (x : S_.Idx → α) (j : t.Idx) (i : S_.Idx) :
    broadcastInDim t ![] h x j = x i := broadcastInDim_apply _ h x j i (fun a => a.elim0)

theorem rProd_at {a b : ℕ} (h1 : Shape.BroadcastsInDim ⟨1, ![a]⟩ ⟨2, ![a, 1]⟩ ![0]) (h2 : Shape.BroadcastsInDim ⟨2, ![a, 1]⟩ ⟨2, ![a, b]⟩ ![0, 1])
    (h3 : Shape.BroadcastsInDim ⟨1, ![b]⟩ ⟨2, ![1, b]⟩ ![1]) (h4 : Shape.BroadcastsInDim ⟨2, ![1, b]⟩ ⟨2, ![a, b]⟩ ![0, 1]) (f : IVec ⟨1, ![b]⟩ 32)
    (p : Fin a) (k : Fin b) : rProd h1 h2 h3 h4 f (ix2 p k) = BitVec.ofNat 32 p.val * f (ix1 k) := by
  have hp := p.isLt
  have hk := k.isLt
  have e1 : broadcastInDim ⟨2, ![a, b]⟩ ![0, 1] h2 (broadcastInDim ⟨2, ![a, 1]⟩ ![0] h1 (iotaInDim ⟨1, ![a]⟩ 32 0)) (ix2 p k) = BitVec.ofNat 32 p.val := by
    rw [broadcastInDim_apply _ h2 _ (ix2 p k) (ix2 p 0), broadcastInDim_apply _ h1 _ (ix2 p 0) (ix1 p)]
    · rfl
    · intro x; fin_cases x
      show p.val = if a = 1 then 0 else p.val
      split_ifs <;> omega
    · intro x; fin_cases x
      · show p.val = if a = 1 then 0 else p.val
        split_ifs <;> omega
      · rfl
  have e2 : broadcastInDim ⟨2, ![a, b]⟩ ![0, 1] h4 (broadcastInDim ⟨2, ![1, b]⟩ ![1] h3 f) (ix2 p k) = f (ix1 k) := by
    rw [broadcastInDim_apply _ h4 _ (ix2 p k) (ix2 0 k), broadcastInDim_apply _ h3 _ (ix2 0 k) (ix1 k)]
    · intro x; fin_cases x
      show k.val = if b = 1 then 0 else k.val
      split_ifs <;> omega
    · intro x; fin_cases x
      · rfl
      · show k.val = if b = 1 then 0 else k.val
        split_ifs <;> omega
  show _ * _ = _
  exact congrArg₂ (fun x y : BitVec 32 => x * y) e1 e2

theorem rWord_at {s : Shape} (h : Shape.BroadcastsInDim S_ s ![]) (m : IVec S_ 32) (w : BitVec 32) (hm : ∀ i, m i = w) (x : IVec s 32) (j : s.Idx) :
    rWord h m x j = hostRem w (x j) := by
  have i0 : S_.Idx := fun a => a.elim0
  have e1 : broadcastInDim s ![] h m j = w := (bcS h m j i0).trans (hm i0)
  have e2 : broadcastInDim s ![] h (constantI S_ 32 0#32) j = 0#32 := bcS h _ j i0
  have e3 : broadcastInDim s ![] h (cmpi .slt m (constantI S_ 32 0#32)) j = IntOp.cmpi .slt w 0#32 :=
    (bcS h _ j i0).trans (congrArg (fun z => IntOp.cmpi .slt z 0#32) (hm i0))
  show Scalar.select (IntOp.andi (IntOp.cmpi .ne (IntOp.cmpi .slt (IntOp.remsi .host (x j) (broadcastInDim s ![] h m j)) (broadcastInDim s ![] h (constantI S_ 32 0#32) j))
        (broadcastInDim s ![] h (cmpi .slt m (constantI S_ 32 0#32)) j))
      (IntOp.cmpi .ne (IntOp.remsi .host (x j) (broadcastInDim s ![] h m j)) (broadcastInDim s ![] h (constantI S_ 32 0#32) j)))
    (IntOp.addi (IntOp.remsi .host (x j) (broadcastInDim s ![] h m j)) (broadcastInDim s ![] h m j)) (IntOp.remsi .host (x j) (broadcastInDim s ![] h m j)) = _
  rw [e1, e2, e3]
  rfl

theorem rTwoPi_at (i : S_.Idx) : (rTwoPi i : EReal) = ((2 * Real.pi : ℝ) : EReal) := by
  show Ideal.ofBits .f32 0x40000000#32 * Ideal.acos (Ideal.ofBits .f32 0xBF800000#32) = _
  have h2 : Ideal.ofBits .f32 0x40000000#32 = ((2 : ℝ) : EReal) := by simp [Ideal.ofBits, Ideal.ieee]; rw [← EReal.coe_mul]; norm_num
  have h1 : Ideal.ofBits .f32 0xBF800000#32 = ((-1 : ℝ) : EReal) := by simp [Ideal.ofBits, Ideal.ieee]; rw [← EReal.coe_mul]; norm_num
  rw [h2, h1, Ideal.acos_coe, if_pos (by norm_num), Real.arccos_neg_one, ← EReal.coe_mul]

theorem rAng_at {s : Shape} (h : Shape.BroadcastsInDim S_ s ![]) (d : BitVec 32) (N : ℕ) (hN : N ≠ 0) (hd : Ideal.ofBits .f32 d = ((N : ℝ) : EReal)) (x : IVec s 32) (j : s.Idx) :
    (rAng h d x j : EReal) = (((x j).toInt * (2 * Real.pi / N) : ℝ) : EReal) := by
  have i0 : S_.Idx := fun a => a.elim0
  have e1 : (broadcastInDim s ![] h (Host.divf rTwoPi (constant S_ .f32 d)) j : EReal) = ((2 * Real.pi / N : ℝ) : EReal) := by
    refine (bcS h _ j i0).trans ?_
    show Ideal.div (rTwoPi i0) (Ideal.ofBits .f32 d) = _
    rw [rTwoPi_at, hd]
    have hN' : (N : ℝ) ≠ 0 := by exact_mod_cast hN
    simp [Ideal.div, EReal.coe_div, hN, hN', div_eq_mul_inv, EReal.coe_inv]
  show ((((x j).toInt : ℝ) : EReal)) * _ = _
  rw [EReal.coe_mul]
  exact congrArg (fun z : EReal => (((x j).toInt : ℝ) : EReal) * z) e1

theorem word_mod (N : ℕ) (w : BitVec 32) (hw : w.toInt = N) (hN : 0 < N) (hN' : N ≤ 20000) (p : ℕ) (hp : p < N) (f : BitVec 32)
    (hf : (N : ℤ) ∣ 4294967296 ∨ (-2147483648 ≤ (p : ℤ) * f.toInt ∧ (p : ℤ) * f.toInt < 2147483648)) :
    (hostRem w (BitVec.ofNat 32 p * f)).toInt ≡ p * f.toInt [ZMOD N] := by
  have h := hostRem_mod (m := w) (by omega) (by omega) (BitVec.ofNat 32 p * f)
  rw [hw] at h
  refine h.trans ?_
  have ep : (BitVec.ofNat 32 p).toInt = p := toInt_ofNat_small (by omega)
  rcases hf with hf | ⟨h1, h2⟩
  · have h := toInt_mul_mod (BitVec.ofNat 32 p) f
    rw [ep] at h
    exact Int.ModEq.of_dvd hf h
  · rw [toInt_mul_small (by rw [ep]; exact h1) (by rw [ep]; exact h2), ep]

theorem rMod_at (w : BitVec 32) (hw : w ≠ 0#32) (i : S_.Idx) : rMod w i = w := by
  show Scalar.select (IntOp.cmpi .eq w 0#32) 1#32 w = w
  have h : ¬IntOp.cmpi .eq w 0#32 = (1 : BitVec 1) := by
    have hb : (w == 0#32) = false := by simpa using hw
    simp [IntOp.cmpi, hb]
  unfold Scalar.select
  rw [if_neg h]

theorem rAngP_at (u : IVec S1500 32) (p : Fin 16384) (k : Fin 1500) :
    ∃ n : ℤ, n ≡ p.val * (u (ix1 k)).toInt [ZMOD (16384 : ℕ)] ∧ (rAngP u (ix2 p k) : EReal) = ((n * (2 * Real.pi / (16384 : ℕ)) : ℝ) : EReal) := by
  refine ⟨_, ?_, rAng_at _ _ 16384 (by decide) (by simp [Ideal.ofBits, Ideal.ieee]; rw [← EReal.coe_mul]; norm_num) _ _⟩
  rw [rWord_at _ _ 16384#32 (rMod_at _ (by decide)), rProd_at]
  exact word_mod 16384 16384#32 (by decide) (by decide) (by decide) p.val p.isLt _ (Or.inl (by decide))

theorem rAngQ_at (v : IVec S1500 32) (n : Fin 5120) (k : Fin 1500) (h : -419512 ≤ (v (ix1 k)).toInt) (h' : (v (ix1 k)).toInt ≤ 419512) :
    ∃ t : ℤ, t ≡ n.val * (v (ix1 k)).toInt [ZMOD (5120 : ℕ)] ∧ (rAngQ v (ix2 n k) : EReal) = ((t * (2 * Real.pi / (5120 : ℕ)) : ℝ) : EReal) := by
  refine ⟨_, ?_, rAng_at _ _ 5120 (by decide) (by simp [Ideal.ofBits, Ideal.ieee]; rw [← EReal.coe_mul]; norm_num) _ _⟩
  rw [rWord_at _ _ 5120#32 (rMod_at _ (by decide)), rProd_at]
  have hn : (n.val : ℤ) ≤ 5119 := by have := n.isLt; omega
  refine word_mod 5120 5120#32 (by decide) (by decide) (by decide) n.val n.isLt _ (Or.inr ⟨?_, ?_⟩) <;> nlinarith [Int.natCast_nonneg n.val]

/-- Two tables side by side on a middle axis. -/
theorem pair_mid {α : Type} {a b : ℕ} (hb : Shape.BroadcastsInDim ⟨2, ![a, b]⟩ ⟨3, ![a, 1, b]⟩ ![0, 2])
    (hc : Shape.Concatenates [⟨3, ![a, 1, b]⟩, ⟨3, ![a, 1, b]⟩] ⟨3, ![a, 2, b]⟩ 1) (X Y : (⟨2, ![a, b]⟩ : Shape).Idx → α) (p : Fin a) (k : Fin b) :
    concatenate ⟨3, ![a, 2, b]⟩ 1 [⟨⟨3, ![a, 1, b]⟩, broadcastInDim ⟨3, ![a, 1, b]⟩ ![0, 2] hb X⟩, ⟨⟨3, ![a, 1, b]⟩, broadcastInDim ⟨3, ![a, 1, b]⟩ ![0, 2] hb Y⟩] hc (ix3 p 0 k) = X (ix2 p k)
    ∧ concatenate ⟨3, ![a, 2, b]⟩ 1 [⟨⟨3, ![a, 1, b]⟩, broadcastInDim ⟨3, ![a, 1, b]⟩ ![0, 2] hb X⟩, ⟨⟨3, ![a, 1, b]⟩, broadcastInDim ⟨3, ![a, 1, b]⟩ ![0, 2] hb Y⟩] hc (ix3 p 1 k) = Y (ix2 p k) := by
  have hp := p.isLt
  have hk := k.isLt
  have e : ∀ Z : (⟨2, ![a, b]⟩ : Shape).Idx → α, broadcastInDim ⟨3, ![a, 1, b]⟩ ![0, 2] hb Z (ix3 p 0 k) = Z (ix2 p k) := by
    intro Z
    refine broadcastInDim_apply _ hb Z _ _ ?_
    intro x; fin_cases x
    · show p.val = if a = 1 then 0 else p.val
      split_ifs <;> omega
    · show k.val = if b = 1 then 0 else k.val
      split_ifs <;> omega
  constructor
  · rw [concatenate_pair_apply_left 1 _ _ hc (ix3 p 0 k) rfl (ix3 p 0 k) (by intro x; fin_cases x <;> rfl)]
    exact e X
  · rw [concatenate_pair_apply_right 1 _ _ hc (ix3 p 1 k) rfl rfl (ix3 p 0 k) (by intro x hx; fin_cases x <;> first | rfl | exact absurd rfl hx) rfl]
    exact e Y

/-! ## The factors -/

/-- The reference's row factor, -/
def pe (u : ℕ → ℤ) (h : Fin 2) (p k : ℕ) : ℝ := if h = 0 then cosN 16384 (p * u k) else sinN 16384 (p * u k)
/-- and its column factor. -/
def qe (v : ℕ → ℤ) (h : Fin 2) (k n : ℕ) : ℝ := if h = 0 then qC v k n else qS v k n

/-- The frequencies as integers. -/
def fr (u : IVec S1500 32) (k : ℕ) : ℤ := (at1 u k).toInt

theorem fr_eq (u : IVec S1500 32) (k : Fin 1500) : fr u k.val = (u (ix1 k)).toInt := by
  unfold fr; rw [at1_eq u k.isLt]

theorem rP_at (u : IVec S1500 32) (p : Fin 16384) (h : Fin 2) (k : Fin 1500) : (rP u (ix3 p h k) : EReal) = (pe (fr u) h p.val k.val : EReal) := by
  obtain ⟨n, hn, e⟩ := rAngP_at u p k
  rw [← fr_eq] at hn
  have hc := pair_mid bcast_S16384x1500_S16384x1x1500_0_2 concatenates_S16384x1x1500_S16384x1x1500_S16384x2x1500_d1 (Host.cos (rAngP u)) (Host.sin (rAngP u)) p k
  fin_cases h
  · refine Eq.trans hc.1 ?_
    show Ideal.cos (rAngP u (ix2 p k)) = _
    rw [e, Ideal.cos_coe]
    exact congrArg Real.toEReal (cosN_congr (by decide) hn)
  · refine Eq.trans hc.2 ?_
    show Ideal.sin (rAngP u (ix2 p k)) = _
    rw [e, Ideal.sin_coe]
    exact congrArg Real.toEReal (sinN_congr (by decide) hn)

theorem rQ_at (v : IVec S1500 32) (hv : ∀ k : Fin 1500, -419512 ≤ (v (ix1 k)).toInt ∧ (v (ix1 k)).toInt ≤ 419512) (n : Fin 5120) (h : Fin 2) (k : Fin 1500) :
    (rQ v (ix3 n h k) : EReal) = (qe (fr v) h k.val n.val : EReal) := by
  obtain ⟨t, ht, e⟩ := rAngQ_at v n k (hv k).1 (hv k).2
  rw [← fr_eq] at ht
  have hc := pair_mid bcast_S5120x1500_S5120x1x1500_0_2 concatenates_S5120x1x1500_S5120x1x1500_S5120x2x1500_d1 (Host.cos (rAngQ v)) (Host.negf (Host.sin (rAngQ v))) n k
  fin_cases h
  · refine Eq.trans hc.1 ?_
    show Ideal.cos (rAngQ v (ix2 n k)) = _
    rw [e, Ideal.cos_coe]
    exact congrArg Real.toEReal (cosN_congr (by decide) ht)
  · refine Eq.trans hc.2 ?_
    show -(Ideal.sin (rAngQ v (ix2 n k))) = _
    rw [e, Ideal.sin_coe, ← EReal.coe_neg]
    exact congrArg Real.toEReal (congrArg Neg.neg (sinN_congr (by decide) ht))

end Cert.ReferenceIdeal.Value

end
-- ==== Proof.RefSum.lean ====
/- The reference's two results as sums over its arguments. -/
module

public import proofs.«01_k».proof.Proof.RefElem

@[expose] public section

set_option maxRecDepth 16384

noncomputable section

namespace Cert.ReferenceIdeal.Value

open Idealize.ShloMosaic Idealize.ShloMosaic.TcCoe Idealize.ShloMosaic.ValueIdx
open Idealize.SL.Sem
open Cert.ReferenceIdeal Cert.ReferenceIdeal.Gen
open Cert.Proof.Angles Cert.Proof.Tables

/-! ## The adapter -/

/-- The scaling factor of the coefficients. -/
def cE : EReal := Ideal.ofBits .f32 0x36700000#32

theorem dotP_at (x : FVec Ideal S2x2048x16384 .bf16) (y : FVec Ideal S16384x2x1500 .bf16) (b : Fin 2) (s : Fin 2048) (h : Fin 2) (k : Fin 1500) :
    (Host.dotGeneral dot_S2x2048x16384_S16384x2x1500_S2x2048x2x1500_2_0_01_12_n_n none x y (ix4 b s h k) : EReal)
      = ∑ p : Fin 16384, (x (ix3 b s p) : EReal) * y (ix3 p h k) := by
  let D := dot_S2x2048x16384_S16384x2x1500_S2x2048x2x1500_2_0_01_12_n_n
  refine (Ideal.dotGeneral_apply D none _ x y _).trans ?_
  rw [← Equiv.sum_comp (contrEquiv1 D 16384 rfl rfl).symm]
  refine Finset.sum_congr rfl fun p _ => ?_
  have hk := contrEquiv1_symm_val D 16384 rfl rfl p
  have el : D.lhsIdx (ix4 b s h k) ((contrEquiv1 D 16384 rfl rfl).symm p) = ix3 b s p := by
    funext a; apply Fin.ext
    match a with
    | ⟨0, _⟩ => rfl
    | ⟨1, _⟩ => rfl
    | ⟨2, _⟩ => exact hk
  have er : D.rhsIdx (ix4 b s h k) ((contrEquiv1 D 16384 rfl rfl).symm p) = ix3 p h k := by
    funext a; apply Fin.ext
    match a with
    | ⟨0, _⟩ => exact hk
    | ⟨1, _⟩ => rfl
    | ⟨2, _⟩ => rfl
  rw [el, er]

theorem coef_at (cf : FVec Ideal S1500 .f32) (b : Fin 2) (s : Fin 2048) (h : Fin 2) (k : Fin 1500) :
    (broadcastInDim S2x2048x2x1500 ![0, 1, 2, 3] bcast_S1x1x1x1500_S2x2048x2x1500_0_1_2_3 (broadcastInDim S1x1x1x1500 ![3] bcast_S1500_S1x1x1x1500_3
      (mulf (broadcastInDim S1500 ![] bcast_S_S1500 (constant S_ .f32 0x36700000#32)) cf)) (ix4 b s h k) : EReal) = cE * cf (ix1 k) := by
  rw [broadcastInDim_apply _ _ _ (ix4 b s h k) (ix4 0 0 0 k) (by intro a; fin_cases a <;> rfl),
    broadcastInDim_apply _ _ _ (ix4 0 0 0 k) (ix1 k) (by intro a; fin_cases a; rfl)]
  exact congrArg (fun z : EReal => z * cf (ix1 k)) (bcS bcast_S_S1500 (constant (F := Ideal) S_ .f32 0x36700000#32) (ix1 k) (fun a => a.elim0))

theorem rG_at (x : FVec Ideal S2x2048x16384 .bf16) (cf : FVec Ideal S1500 .f32) (u : IVec S1500 32) (b : Fin 2) (s : Fin 2048) (h : Fin 2) (k : Fin 1500) :
    (rG x cf u (ix4 b s h k) : EReal) = (∑ p : Fin 16384, (x (ix3 b s p) : EReal) * ((pe (fr u) h p.val k.val : ℝ) : EReal)) * (cE * cf (ix1 k)) := by
  refine congrArg₂ (fun y z : EReal => y * z) ((dotP_at x (rP u) b s h k).trans ?_) (coef_at cf b s h k)
  exact Finset.sum_congr rfl fun p _ => congrArg (fun z : EReal => (x (ix3 b s p) : EReal) * z) (rP_at u p h k)

theorem dotQ_at (y : FVec Ideal S2x2048x2x1500 .bf16) (z : FVec Ideal S5120x2x1500 .bf16) (b : Fin 2) (s : Fin 2048) (n : Fin 5120) :
    (Host.dotGeneral dot_S2x2048x2x1500_S5120x2x1500_S2x2048x5120_23_12_01_0_n_n none y z (ix3 b s n) : EReal)
      = ∑ h : Fin 2, ∑ k : Fin 1500, (y (ix4 b s h k) : EReal) * z (ix3 n h k) := by
  let D := dot_S2x2048x2x1500_S5120x2x1500_S2x2048x5120_23_12_01_0_n_n
  refine (Ideal.dotGeneral_apply D none _ y z _).trans ?_
  rw [← Equiv.sum_comp (contrEquiv2 D 2 1500 rfl rfl rfl).symm, Fintype.sum_prod_type]
  refine Finset.sum_congr rfl fun h _ => Finset.sum_congr rfl fun k _ => ?_
  have h0 := contrEquiv2_symm_val0 D 2 1500 rfl rfl rfl (h, k)
  have h1 := contrEquiv2_symm_val1 D 2 1500 rfl rfl rfl (h, k)
  have el : D.lhsIdx (ix3 b s n) ((contrEquiv2 D 2 1500 rfl rfl rfl).symm (h, k)) = ix4 b s h k := by
    funext a; apply Fin.ext
    match a with
    | ⟨0, _⟩ => rfl
    | ⟨1, _⟩ => rfl
    | ⟨2, _⟩ => exact h0
    | ⟨3, _⟩ => exact h1
  have er : D.rhsIdx (ix3 b s n) ((contrEquiv2 D 2 1500 rfl rfl rfl).symm (h, k)) = ix3 n h k := by
    funext a; apply Fin.ext
    match a with
    | ⟨0, _⟩ => rfl
    | ⟨1, _⟩ => exact h0
    | ⟨2, _⟩ => exact h1
  rw [el, er]

/-- The frequencies of the columns are small enough for a product with a column number to be a word. -/
def Small (v : IVec S1500 32) : Prop := ∀ k : Fin 1500, -419512 ≤ (v (ix1 k)).toInt ∧ (v (ix1 k)).toInt ≤ 419512

theorem rD_at (x : FVec Ideal S2x2048x16384 .bf16) (cf : FVec Ideal S1500 .f32) (u v : IVec S1500 32) (hv : Small v) (b : Fin 2) (s : Fin 2048) (n : Fin 5120) :
    (rD x cf u v (ix3 b s n) : EReal) = ∑ h : Fin 2, ∑ k : Fin 1500,
      (∑ p : Fin 16384, (x (ix3 b s p) : EReal) * ((pe (fr u) h p.val k.val : ℝ) : EReal)) * (cE * cf (ix1 k)) * ((qe (fr v) h k.val n.val : ℝ) : EReal) := by
  refine (dotQ_at (rG x cf u) (rQ v) b s n).trans ?_
  exact Finset.sum_congr rfl fun h _ => Finset.sum_congr rfl fun k _ =>
    congrArg₂ (fun y z : EReal => y * z) (rG_at x cf u b s h k) (rQ_at v hv n h k)

/-! ## The base layer -/

/-- A word made signed as a nibble. -/
def nibS (x : BitVec 32) : BitVec 32 := Scalar.select (IntOp.cmpi .sge x 8#32) (IntOp.subi x 16#32) x

theorem nibS_lo : ∀ x : BitVec 8, (nibS (x.setWidth 32 &&& 15#32)).toInt = nib x 0 := by decide +kernel
theorem nibS_hi : ∀ x : BitVec 8, (nibS (IntOp.shrsi .host (x.setWidth 32) 4#32)).toInt = nib x 1 := by decide +kernel

theorem rSign_at (x : IVec S16384x2560 32) (j : S16384x2560.Idx) : rSign x j = nibS (x j) := by
  have i0 : S_.Idx := fun a => a.elim0
  have e8 := bcS bcast_S_S16384x2560 (constantI S_ 32 8#32) j i0
  have e16 := bcS bcast_S_S16384x2560 (constantI S_ 32 16#32) j i0
  show Scalar.select (IntOp.cmpi .sge (x j) _) (IntOp.subi (x j) _) (x j) = _
  rw [e8, e16]
  rfl

theorem rLo_at (w : IVec S16384x2560 8) (j : S16384x2560.Idx) : (rLo w j).toInt = nib (w j) 0 := by
  have i0 : S_.Idx := fun a => a.elim0
  refine Eq.trans ?_ (nibS_lo (w j))
  unfold rLo
  rw [rSign_at]
  have e := bcS bcast_S_S16384x2560 (constantI S_ 32 15#32) j i0
  show (nibS (IntOp.andi _ _)).toInt = _
  rw [e]
  rfl
theorem rHi_at (w : IVec S16384x2560 8) (j : S16384x2560.Idx) : (rHi w j).toInt = nib (w j) 1 := by
  have i0 : S_.Idx := fun a => a.elim0
  refine Eq.trans ?_ (nibS_hi (w j))
  unfold rHi
  rw [rSign_at]
  have e := bcS bcast_S_S16384x2560 (constantI S_ 32 4#32) j i0
  show (nibS (IntOp.shrsi .host _ _)).toInt = _
  rw [e]
  rfl

theorem rW_at (x : IVec S16384x2560 32) (sl : FVec Ideal S128x2560 .f32) (p : Fin 16384) (j : Fin 2560) :
    (rW x sl (ix2 p j) : EReal) = (((x (ix2 p j)).toInt : ℝ) : EReal) * sl (ix2 ⟨p.val / 128, by have := p.isLt; omega⟩ j) := by
  have hp := p.isLt
  have hrow : (S128x128x2560.rowMajor (ix3 ⟨p.val / 128, by omega⟩ ⟨p.val % 128, by omega⟩ j)).val = (S16384x2560.rowMajor (ix2 p j)).val := by
    rw [Shape.rowMajor_val_three, Shape.rowMajor_val_two]
    show (p.val / 128 * 128 + p.val % 128) * 2560 + j.val = p.val * 2560 + j.val
    omega
  unfold rW
  rw [shapeCast_apply _ shapeCasts_S128x128x2560_S16384x2560 (ix2 p j) (ix3 ⟨p.val / 128, by omega⟩ ⟨p.val % 128, by omega⟩ j) hrow]
  refine congrArg₂ (fun y z : EReal => y * z) ?_ ?_
  · exact shapeCast_apply _ shapeCasts_S16384x2560_S128x128x2560 _ (ix2 p j) hrow.symm
  · refine (broadcastInDim_apply _ bcast_S128x1x2560_S128x128x2560_0_1_2 _ _ (ix3 ⟨p.val / 128, by omega⟩ 0 j) (by intro a; fin_cases a <;> rfl)).trans ?_
    exact broadcastInDim_apply _ bcast_S128x2560_S128x1x2560_0_2 _ _ (ix2 ⟨p.val / 128, by omega⟩ j) (by intro a; fin_cases a <;> rfl)

theorem dotW_at (x : FVec Ideal S2x2048x16384 .bf16) (y : FVec Ideal S16384x2560 .bf16) (b : Fin 2) (s : Fin 2048) (j : Fin 2560) :
    (Host.dotGeneral dot_S2x2048x16384_S16384x2560_S2x2048x2560_2_0_01_1_n_n none x y (ix3 b s j) : EReal)
      = ∑ p : Fin 16384, (x (ix3 b s p) : EReal) * y (ix2 p j) := by
  let D := dot_S2x2048x16384_S16384x2560_S2x2048x2560_2_0_01_1_n_n
  refine (Ideal.dotGeneral_apply D none _ x y _).trans ?_
  rw [← Equiv.sum_comp (contrEquiv1 D 16384 rfl rfl).symm]
  refine Finset.sum_congr rfl fun p _ => ?_
  have hk := contrEquiv1_symm_val D 16384 rfl rfl p
  have el : D.lhsIdx (ix3 b s j) ((contrEquiv1 D 16384 rfl rfl).symm p) = ix3 b s p := by
    funext a; apply Fin.ext
    match a with
    | ⟨0, _⟩ => rfl
    | ⟨1, _⟩ => rfl
    | ⟨2, _⟩ => exact hk
  have er : D.rhsIdx (ix3 b s j) ((contrEquiv1 D 16384 rfl rfl).symm p) = ix2 p j := by
    funext a; apply Fin.ext
    match a with
    | ⟨0, _⟩ => exact hk
    | ⟨1, _⟩ => rfl
  rw [el, er]

/-- A weight: its nibble times the scale of its group of rows. -/
def wE (w : IVec S16384x2560 8) (sc : FVec Ideal S128x5120 .f32) (p n : ℕ) : EReal :=
  ((nib (at2 (α := BitVec 8) w p (n / 2)) (n % 2) : ℝ) : EReal) * at2 (α := EReal) sc (p / 128) n

theorem wE_par (w : IVec S16384x2560 8) (sc : FVec Ideal S128x5120 .f32) (x : IVec S16384x2560 32) (q : ℕ) (hq : q < 2)
    (hsl : S128x5120.SlicesBy ![0, q] ![1, 2] S128x2560) (hx : ∀ j, (x j).toInt = nib (w j) q) (p : Fin 16384) (j : Fin 2560) :
    (rW x (Host.slice S128x2560 ![0, q] ![1, 2] sc hsl) (ix2 p j) : EReal) = wE w sc p.val (2 * j.val + q) := by
  have hp := p.isLt
  have hj := j.isLt
  rw [rW_at, hx]
  unfold wE
  rw [show (2 * j.val + q) / 2 = j.val from by omega, show (2 * j.val + q) % 2 = q from by omega, at2_eq w p.isLt j.isLt,
    at2_eq (α := EReal) sc (i := p.val / 128) (j := 2 * j.val + q) (by omega) (by omega)]
  refine congrArg (fun z : EReal => ((nib (w (ix2 p j)) q : ℝ) : EReal) * z) ?_
  refine congrArg sc (funext fun a => Fin.ext ?_)
  fin_cases a
  · show 0 + 1 * (p.val / 128) = p.val / 128
    omega
  · show q + 2 * j.val = 2 * j.val + q
    omega

end Cert.ReferenceIdeal.Value

end
-- ==== Proof.RefBase.lean ====
/- The reference's base layer and its first result as sums over its arguments. -/
module

public import proofs.«01_k».proof.Proof.RefSum

@[expose] public section

set_option maxRecDepth 16384
set_option maxHeartbeats 60000

noncomputable section

namespace Cert.ReferenceIdeal.Value

open Idealize.ShloMosaic Idealize.ShloMosaic.TcCoe Idealize.ShloMosaic.ValueIdx
open Idealize.SL.Sem
open Cert.ReferenceIdeal Cert.ReferenceIdeal.Gen
open Cert.Proof.Angles Cert.Proof.Tables

/-- Two tables interleaved on a new last axis. -/
theorem pair_last {α : Type} {a b c : ℕ} (hb : Shape.BroadcastsInDim ⟨3, ![a, b, c]⟩ ⟨4, ![a, b, c, 1]⟩ ![0, 1, 2])
    (hc : Shape.Concatenates [⟨4, ![a, b, c, 1]⟩, ⟨4, ![a, b, c, 1]⟩] ⟨4, ![a, b, c, 2]⟩ 3) (X Y : (⟨3, ![a, b, c]⟩ : Shape).Idx → α) (p : Fin a) (q : Fin b) (r : Fin c) :
    concatenate ⟨4, ![a, b, c, 2]⟩ 3 [⟨⟨4, ![a, b, c, 1]⟩, broadcastInDim ⟨4, ![a, b, c, 1]⟩ ![0, 1, 2] hb X⟩, ⟨⟨4, ![a, b, c, 1]⟩, broadcastInDim ⟨4, ![a, b, c, 1]⟩ ![0, 1, 2] hb Y⟩] hc (ix4 p q r 0) = X (ix3 p q r)
    ∧ concatenate ⟨4, ![a, b, c, 2]⟩ 3 [⟨⟨4, ![a, b, c, 1]⟩, broadcastInDim ⟨4, ![a, b, c, 1]⟩ ![0, 1, 2] hb X⟩, ⟨⟨4, ![a, b, c, 1]⟩, broadcastInDim ⟨4, ![a, b, c, 1]⟩ ![0, 1, 2] hb Y⟩] hc (ix4 p q r 1) = Y (ix3 p q r) := by
  have hp := p.isLt
  have hq := q.isLt
  have hr := r.isLt
  have e : ∀ Z : (⟨3, ![a, b, c]⟩ : Shape).Idx → α, broadcastInDim ⟨4, ![a, b, c, 1]⟩ ![0, 1, 2] hb Z (ix4 p q r 0) = Z (ix3 p q r) := by
    intro Z
    refine broadcastInDim_apply _ hb Z _ _ ?_
    intro x; fin_cases x
    · show p.val = if a = 1 then 0 else p.val
      split_ifs <;> omega
    · show q.val = if b = 1 then 0 else q.val
      split_ifs <;> omega
    · show r.val = if c = 1 then 0 else r.val
      split_ifs <;> omega
  constructor
  · rw [concatenate_pair_apply_left 3 _ _ hc (ix4 p q r 0) rfl (ix4 p q r 0) (by intro x; fin_cases x <;> rfl)]
    exact e X
  · rw [concatenate_pair_apply_right 3 _ _ hc (ix4 p q r 1) rfl rfl (ix4 p q r 0) (by intro x hx; fin_cases x <;> first | rfl | exact absurd rfl hx) rfl]
    exact e Y

theorem rBase_par (x : FVec Ideal S2x2048x16384 .bf16) (w : IVec S16384x2560 8) (sc : FVec Ideal S128x5120 .f32) (b : Fin 2) (s : Fin 2048) (j : Fin 2560) (q : Fin 2)
    (hn : 2 * j.val + q.val < 5120) :
    (rBase x w sc (ix3 b s ⟨2 * j.val + q.val, hn⟩) : EReal) = ∑ p : Fin 16384, (x (ix3 b s p) : EReal) * wE w sc p.val (2 * j.val + q.val) := by
  have hrow : (S2x2048x2560x2.rowMajor (ix4 b s j q)).val = (S2x2048x5120.rowMajor (ix3 b s ⟨2 * j.val + q.val, hn⟩)).val := by
    rw [Shape.rowMajor_val_four, Shape.rowMajor_val_three]
    show ((b.val * 2048 + s.val) * 2560 + j.val) * 2 + q.val = (b.val * 2048 + s.val) * 5120 + (2 * j.val + q.val)
    omega
  unfold rBase
  rw [shapeCast_apply _ shapeCasts_S2x2048x2560x2_S2x2048x5120 (ix3 b s ⟨2 * j.val + q.val, hn⟩) _ hrow]
  have hc := pair_last bcast_S2x2048x2560_S2x2048x2560x1_0_1_2 concatenates_S2x2048x2560x1_S2x2048x2560x1_S2x2048x2560x2_d3
    (Host.dotGeneral dot_S2x2048x16384_S16384x2560_S2x2048x2560_2_0_01_1_n_n none x (rWlo w sc))
    (Host.dotGeneral dot_S2x2048x16384_S16384x2560_S2x2048x2560_2_0_01_1_n_n none x (rWhi w sc)) b s j
  obtain rfl | rfl : q = 0 ∨ q = 1 := by omega
  · refine hc.1.trans ((dotW_at x (rWlo w sc) b s j).trans ?_)
    exact Finset.sum_congr rfl fun p _ => congrArg (fun z : EReal => (x (ix3 b s p) : EReal) * z) (wE_par w sc (rLo w) 0 (by decide) _ (rLo_at w) p j)
  · refine hc.2.trans ((dotW_at x (rWhi w sc) b s j).trans ?_)
    exact Finset.sum_congr rfl fun p _ => congrArg (fun z : EReal => (x (ix3 b s p) : EReal) * z) (wE_par w sc (rHi w) 1 (by decide) _ (rHi_at w) p j)

theorem rBase_at (x : FVec Ideal S2x2048x16384 .bf16) (w : IVec S16384x2560 8) (sc : FVec Ideal S128x5120 .f32) (b : Fin 2) (s : Fin 2048) (n : Fin 5120) :
    (rBase x w sc (ix3 b s n) : EReal) = ∑ p : Fin 16384, (x (ix3 b s p) : EReal) * wE w sc p.val n.val := by
  obtain ⟨j, q, hn, rfl⟩ : ∃ (j : Fin 2560) (q : Fin 2) (hn : 2 * j.val + q.val < 5120), n = ⟨2 * j.val + q.val, hn⟩ := by
    have := n.isLt
    refine ⟨⟨n.val / 2, by omega⟩, ⟨n.val % 2, by omega⟩, ?_, Fin.ext ?_⟩ <;> dsimp only <;> omega
  exact rBase_par x w sc b s j q hn

theorem bias_at (bs : FVec Ideal S5120 .f32) (b : Fin 2) (s : Fin 2048) (n : Fin 5120) :
    broadcastInDim S2x2048x5120 ![0, 1, 2] bcast_S1x1x5120_S2x2048x5120_0_1_2 (broadcastInDim S1x1x5120 ![2] bcast_S5120_S1x1x5120_2 bs) (ix3 b s n) = bs (ix1 n) := by
  rw [broadcastInDim_apply _ bcast_S1x1x5120_S2x2048x5120_0_1_2 _ (ix3 b s n) (ix3 0 0 n) (by intro a; fin_cases a <;> rfl),
    broadcastInDim_apply _ bcast_S5120_S1x1x5120_2 _ (ix3 0 0 n) (ix1 n) (by intro a; fin_cases a; rfl)]

theorem sum3 {s : Shape} (x y z : FVec Ideal s .f32) (j : s.Idx) : (truncf .bf16 (addf (addf x y) z) bitsLt_bf16_f32 j : EReal) = (x j + y j) + z j := rfl

/-- The first result: the base layer, the adapter and the bias. -/
theorem rY_at (x : FVec Ideal S2x2048x16384 .bf16) (w : IVec S16384x2560 8) (sc : FVec Ideal S128x5120 .f32) (bs : FVec Ideal S5120 .f32) (cf : FVec Ideal S1500 .f32) (u v : IVec S1500 32)
    (b : Fin 2) (s : Fin 2048) (n : Fin 5120) :
    (rY x w sc bs cf u v (ix3 b s n) : EReal) = ((∑ p : Fin 16384, (x (ix3 b s p) : EReal) * wE w sc p.val n.val) + rD x cf u v (ix3 b s n)) + bs (ix1 n) := by
  rw [← rBase_at, ← bias_at bs b s n]
  exact sum3 (rBase x w sc) (rD x cf u v) _ (ix3 b s n)

end Cert.ReferenceIdeal.Value

end
-- ==== Proof.Algebraic.lean ====
/- The kernel computes the reference's two results at the reals. -/
module

public import proofs.«01_k».proof.Proof.Frames
public import proofs.«01_k».proof.Proof.KernelVals
public import proofs.«01_k».proof.Proof.RefBase

@[expose] public section

set_option maxRecDepth 16384
set_option maxHeartbeats 60000

noncomputable section

namespace Cert.Proof

open Idealize.ShloMosaic hiding ix1 ix2 ix3 ix4 eq_ix1 eq_ix2 eq_ix3 eq_ix4
open Idealize.ShloMosaic.TcCoe Idealize.ShloMosaic.ValueIdx
open Idealize.SL.Sem
open Cert.Proof.Angles Cert.Proof.Tables
open Cert.KernelIdeal.Gen (A0 A1 A2 A3 A4 A5 A6)
open Cert.ReferenceIdeal.Value (rD rY Small pe qe fr cE wE)

/-! ## The precondition -/

theorem in_range (w : BitVec 32) (h : IntOp.andi (IntOp.cmpi .sge w 4294547784#32) (IntOp.cmpi .sle w 419512#32) = 1#1) :
    -419512 ≤ w.toInt ∧ w.toInt ≤ 419512 := by
  have h1 : ∀ a b : Bool, IntOp.andi (BitVec.ofBool a) (BitVec.ofBool b) = 1#1 → a = true ∧ b = true := by decide
  obtain ⟨ha, hb⟩ := h1 _ _ h
  have e1 : (4294547784#32 : BitVec 32).toInt = -419512 := by decide
  have e2 : (419512#32 : BitVec 32).toInt = 419512 := by decide
  rw [BitVec.sle_iff_toInt_le, e1] at ha
  rw [BitVec.sle_iff_toInt_le, e2] at hb
  exact ⟨ha, hb⟩

section
attribute [local instance] pre_facts

theorem small_of (m : (ℓ : Loc Cert.KernelIdeal.nD Cert.KernelIdeal.τ Cert.KernelIdeal.sig) → Buf (Elt Ideal) ℓ)
    (h : Cert.Pre_KernelIdeal_freq_v_in_range m) (c : Dev Cert.KernelIdeal.nD) : Small (A6 m c) := fun k =>
  in_range (A6 m c (ix1 k)) (congrFun (h c).2.2.2.2.2.2 (ix1 k))
end

/-! ## The two results -/

section
variable (m : (ℓ : Loc Cert.KernelIdeal.nD Cert.KernelIdeal.τ Cert.KernelIdeal.sig) → Buf (Elt Ideal) ℓ) (c : Dev Cert.KernelIdeal.nD) (hv : Small (A6 m c))
include hv

/-- The adapter's product, entry by entry. -/
theorem delta_eq (b : Fin 2) (s : Fin 2048) (n : Fin 5120) :
    ∑ k ∈ Finset.range 3072, Cert.KernelIdeal.Gen.mDelta (Cert.KernelIdeal.Gen.X12 m) c (2048 * b.val + s.val) n.val k
      = rD (A0 m c) (A4 m c) (A5 m c) (A6 m c) (ix3 b s n) := by
  have hr := Cert.KernelIdeal.Gen.qRange_of m c hv
  rw [Cert.ReferenceIdeal.Value.rD_at _ _ _ _ hv, Fin.sum_univ_two, Cert.KernelIdeal.Gen.delta_sum]
  refine congrArg₂ (fun x y : EReal => x + y) (Finset.sum_congr rfl fun k _ => ?_) (Finset.sum_congr rfl fun k _ => ?_)
  · exact Cert.KernelIdeal.Gen.delta_lo m c hr b s n k
  · exact Cert.KernelIdeal.Gen.delta_hi m c hr b s n k

theorem second_eq : (Cert.KernelIdeal.Gen.V14 m (Cert.KernelIdeal.Gen.left m) c Cert.KernelIdeal.main_v17 : Cert.KernelIdeal.S2x2048x5120.Idx → EReal)
    = rD (A0 m c) (A4 m c) (A5 m c) (A6 m c) := by
  funext y
  obtain ⟨b, s, n, rfl⟩ : ∃ (b : Fin 2) (s : Fin 2048) (n : Fin 5120), y = ix3 b s n := ⟨y 0, y 1, y 2, eq_ix3 y⟩
  exact (Cert.KernelIdeal.Gen.out17 m c b s n).trans (delta_eq m c hv b s n)

theorem first_eq : (Cert.KernelIdeal.Gen.V14 m (Cert.KernelIdeal.Gen.left m) c Cert.KernelIdeal.main_v16 : Cert.KernelIdeal.S2x2048x5120.Idx → EReal)
    = rY (A0 m c) (A1 m c) (A2 m c) (A3 m c) (A4 m c) (A5 m c) (A6 m c) := by
  funext y
  obtain ⟨b, s, n, rfl⟩ : ∃ (b : Fin 2) (s : Fin 2048) (n : Fin 5120), y = ix3 b s n := ⟨y 0, y 1, y 2, eq_ix3 y⟩
  rw [Cert.KernelIdeal.Gen.out16 m c b s n, delta_eq m c hv b s n, Cert.KernelIdeal.Gen.base_sum, Cert.KernelIdeal.Gen.mB_eq,
    Cert.ReferenceIdeal.Value.rY_at]
  exact congrArg (fun z : EReal => z + A3 m c (ix1 n)) (add_comm _ _)
end

theorem narrow {s : Shape} (x : FVec Ideal s .f32) (h : FTy.bf16.bits < FTy.f32.bits) : (truncf .bf16 x h : s.Idx → EReal) = x := rfl

section
attribute [local instance] Cert.KernelIdeal.Gen.facts Cert.ReferenceIdeal.Gen.facts pre_facts

theorem algebraic : Cert.algebraic_KernelIdeal_ReferenceIdeal_pre_freq_v_in_range := by
  intro m g m' g' hpre harg
  refine ⟨fun c => Cert.KernelIdeal.Gen.V14 m (Cert.KernelIdeal.Gen.left m) c Cert.KernelIdeal.main_v16,
    fun c => Cert.KernelIdeal.Gen.V14 m (Cert.KernelIdeal.Gen.left m) c Cert.KernelIdeal.main_v17, ?_, ?_⟩
  · exact (θ_run _ _ _).mono (fun r h c => ⟨(h.1 c).2.1, (h.1 c).2.2, (h.1 c).1⟩) (Cert.KernelIdeal.Gen.runs (F := Ideal) m g)
  · refine (θ_run _ _ _).mono (fun r h c => ?_) (Cert.ReferenceIdeal.Value.run (F := Ideal) m' g')
    obtain ⟨h86, h87, hargs⟩ := h c
    obtain ⟨e0, e1, e2, e3, e4, e5, e6⟩ := harg c
    have hv := small_of m hpre c
    refine ⟨h86.trans ?_, h87.trans ?_, hargs⟩
    · rw [Cert.ReferenceIdeal.Value.res86_eq, e0, e1, e2, e3, e4, e5, e6]
      exact (first_eq m c hv).symm
    · rw [Cert.ReferenceIdeal.Value.res87_eq, e0, e4, e5, e6]
      exact (narrow _ _).trans (second_eq m c hv).symm
end

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Algebraic

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, pre_facts,
    frame_P, frame_PI, frame_PI_pre, frame_RI, frame_RI_pre, named, algebraic⟩

end Cert.Proof

end
